-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v39_0)) (v1 : (c : Dev Cert.Kernel6Ideal.nD) → Buf (Elt Ideal) ((c.tc : Thread Cert.Kernel6Ideal.nD Cert.Kernel6Ideal.τ).loc Cert.Kernel6Ideal.main_v39_1)) (v2 : (c : Dev Cert.Kernel6Ideal.nD) → Buf (Elt Ideal) ((c.tc : Thread Cert.Kernel6Ideal.nD Cert.Kernel6Ideal.τ).loc Cert.Kernel6Ideal.main_v39_2)) (v3 : (c : Dev Cert.Kernel6Ideal.nD) → Buf (Elt Ideal) ((c.tc : Thread Cert.Kernel6Ideal.nD Cert.Kernel6Ideal.τ).loc Cert.Kernel6Ideal.main_v39_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v39_0) = v0 c
          ∧ r.2.mem ((c.tc : Thread Cert.Kernel6Ideal.nD Cert.Kernel6Ideal.τ).loc Cert.Kernel6Ideal.main_v39_1) = v1 c
          ∧ r.2.mem ((c.tc : Thread Cert.Kernel6Ideal.nD Cert.Kernel6Ideal.τ).loc Cert.Kernel6Ideal.main_v39_2) = v2 c
          ∧ r.2.mem ((c.tc : Thread Cert.Kernel6Ideal.nD Cert.Kernel6Ideal.τ).loc Cert.Kernel6Ideal.main_v39_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_v65) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v23)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v54) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16x16384x576 : Shape := ⟨3, ![16, 16384, 576]⟩
abbrev S16384x576 : Shape := ⟨2, ![16384, 576]⟩
abbrev S_ : Shape := ⟨0, ![]⟩

class Facts : Prop where
  bitsLt_bf16_f32 : FTy.bits .bf16 < FTy.bits .f32
  bcast_S_S16x16384x576 : S_.BroadcastsInDim S16x16384x576 (![] : Fin 0 → Fin S16x16384x576.rank)
  reducesTo_S16x16384x576_S_d0_1_2 : S16x16384x576.ReducesTo [0, 1, 2] S_
  h_S_ : 0 < S_.numel
  bcast_S_S16384x576 : S_.BroadcastsInDim S16384x576 (![] : Fin 0 → Fin S16384x576.rank)
  reducesTo_S16384x576_S_d0_1 : S16384x576.ReducesTo [0, 1] S_

variable [Facts]

def fn {F : FTy → Type} [FloatOps F] (main_arg0 : FVec F S16x16384x576 .bf16) (main_arg1 : FVec F S16384x576 .bf16) : IVec S_ 1 :=
  let main_v0 : FVec F S16x16384x576 .f32 := (extf .f32 · bitsLt_bf16_f32) main_arg0
  let main_v1 : FVec F S16x16384x576 .f32 := Host.absf main_v0
  let main_cst : FVec F S_ .f32 := constant S_ .f32 0x7F800000#32
  let main_v2 : FVec F S16x16384x576 .f32 := broadcastInDim S16x16384x576 ![] bcast_S_S16x16384x576 main_cst
  let main_v3 : IVec S16x16384x576 1 := cmpf .olt main_v1 main_v2
  let main_c : IVec S_ 1 := constantI S_ 1 1#1
  let main_v4 : IVec S_ 1 := (fun x v => Host.reduce IntOp.andi x v reducesTo_S16x16384x576_S_d0_1_2 h_S_) main_v3 main_c
  let main_v5 : FVec F S16384x576 .f32 := (extf .f32 · bitsLt_bf16_f32) main_arg1
  let main_v6 : FVec F S16384x576 .f32 := Host.absf main_v5
  let main_cst_0 : FVec F S_ .f32 := constant S_ .f32 0x7F800000#32
  let main_v7 : FVec F S16384x576 .f32 := broadcastInDim S16384x576 ![] bcast_S_S16384x576 main_cst_0
  let main_v8 : IVec S16384x576 1 := cmpf .olt main_v6 main_v7
  let main_c_1 : IVec S_ 1 := constantI S_ 1 1#1
  let main_v9 : IVec S_ 1 := (fun x v => Host.reduce IntOp.andi x v reducesTo_S16384x576_S_d0_1 h_S_) main_v8 main_c_1
  let main_v10 : IVec S_ 1 := andi main_v4 main_v9
  main_v10
-- ==== Kernel.lean ====
abbrev S16x16384x576 : Shape := ⟨3, ![16, 16384, 576]⟩
abbrev S16384x576 : Shape := ⟨2, ![16384, 576]⟩
abbrev S72 : Shape := ⟨1, ![72]⟩
abbrev S16x16384x512 : Shape := ⟨3, ![16, 16384, 512]⟩
abbrev S16x256x576 : Shape := ⟨3, ![16, 256, 576]⟩
abbrev S1 : Shape := ⟨1, ![1]⟩
abbrev S512x576 : Shape := ⟨2, ![512, 576]⟩
abbrev S16x256x512 : Shape := ⟨3, ![16, 256, 512]⟩
abbrev S4096x1 : Shape := ⟨2, ![4096, 1]⟩
abbrev S4096x128 : Shape := ⟨2, ![4096, 128]⟩
abbrev S4096x512 : Shape := ⟨2, ![4096, 512]⟩
abbrev S512x512 : Shape := ⟨2, ![512, 512]⟩
abbrev S1x256x576 : Shape := ⟨3, ![1, 256, 576]⟩
abbrev S256x576 : Shape := ⟨2, ![256, 576]⟩
abbrev S256x512 : Shape := ⟨2, ![256, 512]⟩
abbrev S256x1 : Shape := ⟨2, ![256, 1]⟩
abbrev S256x128 : Shape := ⟨2, ![256, 128]⟩
abbrev S256 : Shape := ⟨1, ![256]⟩
abbrev S256x256 : Shape := ⟨2, ![256, 256]⟩
abbrev S1x256x256 : Shape := ⟨3, ![1, 256, 256]⟩
abbrev S1x256x512 : Shape := ⟨3, ![1, 256, 512]⟩
abbrev S4096 : Shape := ⟨1, ![4096]⟩

abbrev nBuf : Space → Nat
  | .hbm => 3
  | .vmem => 9
  | .smem => 3
  | _ => 0

abbrev bufTy : (tb : Table) → Fin (tcTables nBuf tb) → BufTy
  | .hbm, ⟨0, _⟩ => ⟨S16x16384x576, .bf16⟩
  | .hbm, ⟨1, _⟩ => ⟨S16384x576, .bf16⟩
  | .hbm, ⟨2, _⟩ => ⟨S16x16384x512, .bf16⟩
  | .local _ .vmem, ⟨0, _⟩ => ⟨S16x256x576, .bf16⟩
  | .local _ .vmem, ⟨1, _⟩ => ⟨S16x256x576, .bf16⟩
  | .local _ .vmem, ⟨2, _⟩ => ⟨S512x576, .bf16⟩
  | .local _ .vmem, ⟨3, _⟩ => ⟨S512x576, .bf16⟩
  | .local _ .vmem, ⟨4, _⟩ => ⟨S16x256x512, .bf16⟩
  | .local _ .vmem, ⟨5, _⟩ => ⟨S16x256x512, .bf16⟩
  | .local _ .vmem, ⟨6, _⟩ => ⟨S4096x1, .f32⟩
  | .local _ .vmem, ⟨7, _⟩ => ⟨S4096x128, .f32⟩
  | .local _ .vmem, ⟨8, _⟩ => ⟨S4096x512, .f32⟩
  | .local _ .smem, ⟨0, _⟩ => ⟨S72, .i32⟩
  | .local _ .smem, ⟨1, _⟩ => ⟨S72, .i32⟩
  | .local _ .smem, ⟨2, _⟩ => ⟨S72, .i32⟩
  | _, _ => ⟨S16x16384x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond5 (v5 : BitVec 32) : BitVec 1 :=
  let c2_i32_7 : BitVec 32 := 2#32
  let v20 : BitVec 32 := Scalar.andi v5 c2_i32_7
  let c0_i32_8 : BitVec 32 := 0#32
  let v21 : BitVec 1 := Scalar.cmpi .ne v20 c0_i32_8
  let v22 : BitVec 32 := Scalar.extui v21
  let c0_i32_9 : BitVec 32 := 0#32
  let v23 : BitVec 1 := Scalar.cmpi .ne v22 c0_i32_9
  v23

def cc0_transform_0 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S72) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

abbrev stage0_0 : Fin 2 → Memref sig .tc .vmem S16x256x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x16384x576 : Shape := ⟨3, ![16, 16384, 576]⟩
abbrev S16384x576 : Shape := ⟨2, ![16384, 576]⟩
abbrev S16x4x4096x576 : Shape := ⟨4, ![16, 4, 4096, 576]⟩
abbrev S4x4096x576 : Shape := ⟨3, ![4, 4096, 576]⟩
abbrev S16x4x4096x512 : Shape := ⟨4, ![16, 4, 4096, 512]⟩
abbrev S16x4x4096x64 : Shape := ⟨4, ![16, 4, 4096, 64]⟩
abbrev S4x4096x512 : Shape := ⟨3, ![4, 4096, 512]⟩
abbrev S4x4096x64 : Shape := ⟨3, ![4, 4096, 64]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x512x16x4096 : Shape := ⟨4, ![4, 512, 16, 4096]⟩
abbrev S16x16384x512 : Shape := ⟨3, ![16, 16384, 512]⟩

abbrev nBuf : Space → Nat
  | .hbm => 50
  | .vmem => 0
  | .smem => 0
  | _ => 0

abbrev bufTy : (tb : Table) → Fin (tcTables nBuf tb) → BufTy
  | .hbm, ⟨0, _⟩ => ⟨S16x16384x576, .bf16⟩
  | .hbm, ⟨1, _⟩ => ⟨S16384x576, .bf16⟩
  | .hbm, ⟨2, _⟩ => ⟨S16x4x4096x576, .bf16⟩
  | .hbm, ⟨3, _⟩ => ⟨S4x4096x576, .bf16⟩
  | .hbm, ⟨4, _⟩ => ⟨S16x4x4096x512, .bf16⟩
  | .hbm, ⟨5, _⟩ => ⟨S16x4x4096x512, .f32⟩
  | .hbm, ⟨6, _⟩ => ⟨S16x4x4096x64, .bf16⟩
  | .hbm, ⟨7, _⟩ => ⟨S16x4x4096x64, .f32⟩
  | .hbm, ⟨8, _⟩ => ⟨S4x4096x512, .bf16⟩
  | .hbm, ⟨9, _⟩ => ⟨S4x4096x512, .f32⟩
  | .hbm, ⟨10, _⟩ => ⟨S4x4096x64, .bf16⟩
  | .hbm, ⟨11, _⟩ => ⟨S4x4096x64, .f32⟩
  | .hbm, ⟨12, _⟩ => ⟨S4x16x4096x4096, .f32⟩
  | .hbm, ⟨13, _⟩ => ⟨S4x16x4096x4096, .f32⟩
  | .hbm, ⟨14, _⟩ => ⟨S4x16x4096x4096, .f32⟩
  | .hbm, ⟨15, _⟩ => ⟨S_, .f32⟩
  | .hbm, ⟨16, _⟩ => ⟨S_, .f32⟩
  | .hbm, ⟨17, _⟩ => ⟨S4x16x4096x4096, .f32⟩
  | .hbm, ⟨18, _⟩ => ⟨S4x16x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x16x4096x4096, .i1⟩
  | .hbm, ⟨28, _⟩ => ⟨S4x16x4096x4096, .f32⟩
  | .hbm, ⟨29, _⟩ => ⟨S4x16x4096x4096, .f32⟩
  | .hbm, ⟨30, _⟩ => ⟨S_, .f32⟩
  | .hbm, ⟨31, _⟩ => ⟨S4x16x4096, .f32⟩
  | .hbm, ⟨32, _⟩ => ⟨S_, .f32⟩
  | .hbm, ⟨33, _⟩ => ⟨S4x16x4096, .f32⟩
  | .hbm, ⟨34, _⟩ => ⟨S4x16x4096, .f32⟩
  | .hbm, ⟨35, _⟩ => ⟨S4x16x4096x1, .f32⟩
  | .hbm, ⟨36, _⟩ => ⟨S4x16x4096x4096, .f32⟩
  | .hbm, ⟨37, _⟩ => ⟨S4x16x4096x4096, .f32⟩
  | .hbm, ⟨38, _⟩ => ⟨S4x16x4096x4096, .f32⟩
  | .hbm, ⟨39, _⟩ => ⟨S_, .f32⟩
  | .hbm, ⟨40, _⟩ => ⟨S4x16x4096, .f32⟩
  | .hbm, ⟨41, _⟩ => ⟨S4x16x4096x1, .f32⟩
  | .hbm, ⟨42, _⟩ => ⟨S4x16x4096x4096, .f32⟩
  | .hbm, ⟨43, _⟩ => ⟨S4x16x4096x4096, .f32⟩
  | .hbm, ⟨44, _⟩ => ⟨S4x16x4096x4096, .bf16⟩
  | .hbm, ⟨45, _⟩ => ⟨S4x16x4096x4096, .f32⟩
  | .hbm, ⟨46, _⟩ => ⟨S4x512x16x4096, .f32⟩
  | .hbm, ⟨47, _⟩ => ⟨S16x4x4096x512, .f32⟩
  | .hbm, ⟨48, _⟩ => ⟨S16x16384x512, .f32⟩
  | .hbm, ⟨49, _⟩ => ⟨S16x16384x512, .bf16⟩
  | _, _ => ⟨S16x16384x576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel2.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S16384x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S16384x2048, .f32⟩
  | .hbm, ⟨5, _⟩ => ⟨S2048, .f32⟩
  | .hbm, ⟨6, _⟩ => ⟨S16384x2048, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel3.lean ====
abbrev S16384x2048 : Shape := ⟨2, ![16384, 2048]⟩
abbrev S2048x13376 : Shape := ⟨2, ![2048, 13376]⟩
abbrev S2048x6144 : Shape := ⟨2, ![2048, 6144]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S2048x6144, .f32⟩
  | .hbm, ⟨3, _⟩ => ⟨S2048x6144, .bf16⟩
  | .hbm, ⟨4, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x13376 : Shape := ⟨2, ![2048, 13376]⟩
abbrev S16384x13376 : Shape := ⟨2, ![16384, 13376]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S16384x2048, .f32⟩
  | .hbm, ⟨3, _⟩ => ⟨S16384x13376, .f32⟩
  | .hbm, ⟨4, _⟩ => ⟨S16384x6144, .f32⟩
  | .hbm, ⟨5, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x13376 : Shape := ⟨2, ![2048, 13376]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S2048x2048, .f32⟩
  | .hbm, ⟨3, _⟩ => ⟨S2048x2048, .bf16⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x13376 : Shape := ⟨2, ![2048, 13376]⟩
abbrev S16384x13376 : Shape := ⟨2, ![16384, 13376]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S16384x2048, .f32⟩
  | .hbm, ⟨3, _⟩ => ⟨S16384x13376, .f32⟩
  | .hbm, ⟨4, _⟩ => ⟨S16384x2048, .f32⟩
  | .hbm, ⟨5, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel6.lean ====
abbrev S16384x2048 : Shape := ⟨2, ![16384, 2048]⟩
abbrev S2048x13376 : Shape := ⟨2, ![2048, 13376]⟩
abbrev S512 : Shape := ⟨1, ![512]⟩
abbrev S2048x64 : Shape := ⟨2, ![2048, 64]⟩
abbrev S2048x32 : Shape := ⟨2, ![2048, 32]⟩
abbrev S_ : Shape := ⟨0, ![]⟩
abbrev S2048x1024 : Shape := ⟨2, ![2048, 1024]⟩
abbrev S2048x1280 : Shape := ⟨2, ![2048, 1280]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x1x128 : Shape := ⟨4, ![1, 4096, 1, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x512 : Shape := ⟨2, ![1, 512]⟩
abbrev S16384x512 : Shape := ⟨2, ![16384, 512]⟩
abbrev S16384x64 : Shape := ⟨2, ![16384, 64]⟩
abbrev S16384x576 : Shape := ⟨2, ![16384, 576]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S512x576 : Shape := ⟨2, ![512, 576]⟩
abbrev S512x1280 : Shape := ⟨2, ![512, 1280]⟩
abbrev S512x1 : Shape := ⟨2, ![512, 1]⟩

abbrev nBuf : Space → Nat
  | .hbm => 50
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S512, .f32⟩
  | .hbm, ⟨3, _⟩ => ⟨S512, .f32⟩
  | .hbm, ⟨4, _⟩ => ⟨S2048x64, .f32⟩
  | .hbm, ⟨5, _⟩ => ⟨S2048x32, .f32⟩
  | .hbm, ⟨6, _⟩ => ⟨S2048x32, .f32⟩
  | .hbm, ⟨7, _⟩ => ⟨S2048x64, .f32⟩
  | .hbm, ⟨8, _⟩ => ⟨S_, .f32⟩
  | .hbm, ⟨9, _⟩ => ⟨S2048x64, .f32⟩
  | .hbm, ⟨10, _⟩ => ⟨S2048x1024, .f32⟩
  | .hbm, ⟨11, _⟩ => ⟨S2048x1280, .f32⟩
  | .hbm, ⟨12, _⟩ => ⟨S4096, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x4096x1x32, .f32⟩
  | .hbm, ⟨30, _⟩ => ⟨S1x4096x4x32, .f32⟩
  | .hbm, ⟨31, _⟩ => ⟨S4096x128, .f32⟩
  | .hbm, ⟨32, _⟩ => ⟨S1x4096x1x128, .f32⟩
  | .hbm, ⟨33, _⟩ => ⟨S1x4096x1x128, .f32⟩
  | .hbm, ⟨34, _⟩ => ⟨S4096x128, .f32⟩
  | .hbm, ⟨35, _⟩ => ⟨S4096x32, .f32⟩
  | .hbm, ⟨36, _⟩ => ⟨S4096x64, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x4096x1x128, .f32⟩
  | .hbm, ⟨41, _⟩ => ⟨S1x4096x1x128, .f32⟩
  | .hbm, ⟨42, _⟩ => ⟨S4096x128, .f32⟩
  | .hbm, ⟨43, _⟩ => ⟨S2048x1280, .bf16⟩
  | .hbm, ⟨44, _⟩ => ⟨S1x512, .f32⟩
  | .hbm, ⟨45, _⟩ => ⟨S1x512, .f32⟩
  | .hbm, ⟨46, _⟩ => ⟨S16384x512, .bf16⟩
  | .hbm, ⟨47, _⟩ => ⟨S16384x512, .f32⟩
  | .hbm, ⟨48, _⟩ => ⟨S16384x64, .f32⟩
  | .hbm, ⟨49, _⟩ => ⟨S16384x576, .bf16⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S1x512, .f32⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x64, .f32⟩
  | .local _ .vmem, ⟨14, _⟩ => ⟨S512x64, .f32⟩
  | .local _ .vmem, ⟨15, _⟩ => ⟨S512x576, .bf16⟩
  | .local _ .vmem, ⟨16, _⟩ => ⟨S512x576, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev main_v39_2 : Ref sig .tc := ⟨.hbm, 48, rfl⟩
abbrev main_v39_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x576 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16384x2048 : Shape := ⟨2, ![16384, 2048]⟩
abbrev S2048x13376 : Shape := ⟨2, ![2048, 13376]⟩
abbrev S512 : Shape := ⟨1, ![512]⟩
abbrev S16384x13376 : Shape := ⟨2, ![16384, 13376]⟩
abbrev S16384x512 : Shape := ⟨2, ![16384, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x32 : Shape := ⟨3, ![1, 4096, 32]⟩
abbrev S4x4096x64 : Shape := ⟨3, ![4, 4096, 64]⟩
abbrev S4x4096x32 : Shape := ⟨3, ![4, 4096, 32]⟩
abbrev S16384x576 : Shape := ⟨2, ![16384, 576]⟩

abbrev nBuf : Space → Nat
  | .hbm => 78
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S512, .f32⟩
  | .hbm, ⟨3, _⟩ => ⟨S512, .f32⟩
  | .hbm, ⟨4, _⟩ => ⟨S16384x2048, .f32⟩
  | .hbm, ⟨5, _⟩ => ⟨S16384x13376, .f32⟩
  | .hbm, ⟨6, _⟩ => ⟨S16384x512, .f32⟩
  | .hbm, ⟨7, _⟩ => ⟨S16384x512, .f32⟩
  | .hbm, ⟨8, _⟩ => ⟨S16384x64, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x512, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S4096, .i32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S4096, .f32⟩
  | .hbm, ⟨51, _⟩ => ⟨S4096x1, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S1x4096x32, .f32⟩
  | .hbm, ⟨58, _⟩ => ⟨S4096x32, .f32⟩
  | .hbm, ⟨59, _⟩ => ⟨S1x4096x32, .f32⟩
  | .hbm, ⟨60, _⟩ => ⟨S4x4096x64, .f32⟩
  | .hbm, ⟨61, _⟩ => ⟨S4x4096x32, .f32⟩
  | .hbm, ⟨62, _⟩ => ⟨S4x4096x32, .f32⟩
  | .hbm, ⟨63, _⟩ => ⟨S4x4096x32, .f32⟩
  | .hbm, ⟨64, _⟩ => ⟨S4x4096x32, .f32⟩
  | .hbm, ⟨65, _⟩ => ⟨S4x4096x32, .f32⟩
  | .hbm, ⟨66, _⟩ => ⟨S4x4096x32, .f32⟩
  | .hbm, ⟨67, _⟩ => ⟨S4x4096x32, .f32⟩
  | .hbm, ⟨68, _⟩ => ⟨S4x4096x32, .f32⟩
  | .hbm, ⟨69, _⟩ => ⟨S4x4096x32, .f32⟩
  | .hbm, ⟨70, _⟩ => ⟨S4x4096x32, .f32⟩
  | .hbm, ⟨71, _⟩ => ⟨S4x4096x32, .f32⟩
  | .hbm, ⟨72, _⟩ => ⟨S4x4096x32, .f32⟩
  | .hbm, ⟨73, _⟩ => ⟨S4x4096x64, .f32⟩
  | .hbm, ⟨74, _⟩ => ⟨S16384x64, .f32⟩
  | .hbm, ⟨75, _⟩ => ⟨S16384x512, .bf16⟩
  | .hbm, ⟨76, _⟩ => ⟨S16384x576, .f32⟩
  | .hbm, ⟨77, _⟩ => ⟨S16384x576, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== Kernel7.lean ====
abbrev S16384x2048 : Shape := ⟨2, ![16384, 2048]⟩
abbrev S2048x13376 : Shape := ⟨2, ![2048, 13376]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩

abbrev nBuf : Space → Nat
  | .hbm => 28
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S4096, .i32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S4096, .f32⟩
  | .hbm, ⟨12, _⟩ => ⟨S4096x1, .f32⟩
  | .hbm, ⟨13, _⟩ => ⟨S1x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S1x4096x1x128, .f32⟩
  | .hbm, ⟨20, _⟩ => ⟨S1x4096x1x128, .f32⟩
  | .hbm, ⟨21, _⟩ => ⟨S4096x128, .f32⟩
  | .hbm, ⟨22, _⟩ => ⟨S1x4096x1x128, .f32⟩
  | .hbm, ⟨23, _⟩ => ⟨S1x4096x1x128, .f32⟩
  | .hbm, ⟨24, _⟩ => ⟨S4096x128, .f32⟩
  | .hbm, ⟨25, _⟩ => ⟨S2048x4096, .f32⟩
  | .hbm, ⟨26, _⟩ => ⟨S2048x4096, .bf16⟩
  | .hbm, ⟨27, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16384x2048 : Shape := ⟨2, ![16384, 2048]⟩
abbrev S2048x13376 : Shape := ⟨2, ![2048, 13376]⟩
abbrev S16384x13376 : Shape := ⟨2, ![16384, 13376]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S4x4096x8x256 : Shape := ⟨4, ![4, 4096, 8, 256]⟩
abbrev S4x4096x8x128 : Shape := ⟨4, ![4, 4096, 8, 128]⟩
abbrev S16384x4096 : Shape := ⟨2, ![16384, 4096]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S16384x2048, .f32⟩
  | .hbm, ⟨3, _⟩ => ⟨S16384x13376, .f32⟩
  | .hbm, ⟨4, _⟩ => ⟨S4096, .i32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S4096, .f32⟩
  | .hbm, ⟨14, _⟩ => ⟨S4096x1, .f32⟩
  | .hbm, ⟨15, _⟩ => ⟨S1x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S1x4096x1x128, .f32⟩
  | .hbm, ⟨21, _⟩ => ⟨S4096x128, .f32⟩
  | .hbm, ⟨22, _⟩ => ⟨S1x4096x1x128, .f32⟩
  | .hbm, ⟨23, _⟩ => ⟨S16384x2048, .f32⟩
  | .hbm, ⟨24, _⟩ => ⟨S4x4096x8x256, .f32⟩
  | .hbm, ⟨25, _⟩ => ⟨S4x4096x8x128, .f32⟩
  | .hbm, ⟨26, _⟩ => ⟨S4x4096x8x128, .f32⟩
  | .hbm, ⟨27, _⟩ => ⟨S4x4096x8x128, .f32⟩
  | .hbm, ⟨28, _⟩ => ⟨S4x4096x8x128, .f32⟩
  | .hbm, ⟨29, _⟩ => ⟨S4x4096x8x128, .f32⟩
  | .hbm, ⟨30, _⟩ => ⟨S4x4096x8x128, .f32⟩
  | .hbm, ⟨31, _⟩ => ⟨S4x4096x8x128, .f32⟩
  | .hbm, ⟨32, _⟩ => ⟨S4x4096x8x128, .f32⟩
  | .hbm, ⟨33, _⟩ => ⟨S4x4096x8x128, .f32⟩
  | .hbm, ⟨34, _⟩ => ⟨S4x4096x8x128, .f32⟩
  | .hbm, ⟨35, _⟩ => ⟨S4x4096x8x128, .f32⟩
  | .hbm, ⟨36, _⟩ => ⟨S4x4096x8x128, .f32⟩
  | .hbm, ⟨37, _⟩ => ⟨S4x4096x8x256, .f32⟩
  | .hbm, ⟨38, _⟩ => ⟨S16384x2048, .f32⟩
  | .hbm, ⟨39, _⟩ => ⟨S4x4096x8x256, .f32⟩
  | .hbm, ⟨40, _⟩ => ⟨S4x4096x8x128, .f32⟩
  | .hbm, ⟨41, _⟩ => ⟨S4x4096x8x128, .f32⟩
  | .hbm, ⟨42, _⟩ => ⟨S4x4096x8x128, .f32⟩
  | .hbm, ⟨43, _⟩ => ⟨S4x4096x8x128, .f32⟩
  | .hbm, ⟨44, _⟩ => ⟨S4x4096x8x128, .f32⟩
  | .hbm, ⟨45, _⟩ => ⟨S4x4096x8x128, .f32⟩
  | .hbm, ⟨46, _⟩ => ⟨S4x4096x8x128, .f32⟩
  | .hbm, ⟨47, _⟩ => ⟨S4x4096x8x128, .f32⟩
  | .hbm, ⟨48, _⟩ => ⟨S4x4096x8x128, .f32⟩
  | .hbm, ⟨49, _⟩ => ⟨S4x4096x8x128, .f32⟩
  | .hbm, ⟨50, _⟩ => ⟨S4x4096x8x128, .f32⟩
  | .hbm, ⟨51, _⟩ => ⟨S4x4096x8x128, .f32⟩
  | .hbm, ⟨52, _⟩ => ⟨S4x4096x8x256, .f32⟩
  | .hbm, ⟨53, _⟩ => ⟨S_, .f32⟩
  | .hbm, ⟨54, _⟩ => ⟨S4x4096x8x256, .f32⟩
  | .hbm, ⟨55, _⟩ => ⟨S4x4096x8x256, .f32⟩
  | .hbm, ⟨56, _⟩ => ⟨S16384x2048, .f32⟩
  | .hbm, ⟨57, _⟩ => ⟨S16384x2048, .f32⟩
  | .hbm, ⟨58, _⟩ => ⟨S16384x4096, .f32⟩
  | .hbm, ⟨59, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩

abbrev nD : Nat := 1
abbrev τ : Topo := Topo.v7x

variable {F : FTy → Type} [FloatOps F]
-- ==== Kernel8.lean ====
abbrev S16x16384x512 : Shape := ⟨3, ![16, 16384, 512]⟩
abbrev S16x512x128 : Shape := ⟨3, ![16, 512, 128]⟩
abbrev S16384x2048 : Shape := ⟨2, ![16384, 2048]⟩
abbrev S16x256x512 : Shape := ⟨3, ![16, 256, 512]⟩
abbrev S256x2048 : Shape := ⟨2, ![256, 2048]⟩
abbrev S1x256x512 : Shape := ⟨3, ![1, 256, 512]⟩
abbrev S256x512 : Shape := ⟨2, ![256, 512]⟩
abbrev S1x512x128 : Shape := ⟨3, ![1, 512, 128]⟩
abbrev S512x128 : Shape := ⟨2, ![512, 128]⟩
abbrev S256x128 : Shape := ⟨2, ![256, 128]⟩

abbrev nBuf : Space → Nat
  | .hbm => 4
  | .vmem => 5
  | .smem => 0
  | _ => 0

abbrev bufTy : (tb : Table) → Fin (tcTables nBuf tb) → BufTy
  | .hbm, ⟨0, _⟩ => ⟨S16x16384x512, .bf16⟩
  | .hbm, ⟨1, _⟩ => ⟨S16x512x128, .f32⟩
  | .hbm, ⟨2, _⟩ => ⟨S16x512x128, .bf16⟩
  | .hbm, ⟨3, _⟩ => ⟨S16384x2048, .bf16⟩
  | .local _ .vmem, ⟨0, _⟩ => ⟨S16x256x512, .bf16⟩
  | .local _ .vmem, ⟨1, _⟩ => ⟨S16x256x512, .bf16⟩
  | .local _ .vmem, ⟨2, _⟩ => ⟨S16x512x128, .bf16⟩
  | .local _ .vmem, ⟨3, _⟩ => ⟨S256x2048, .bf16⟩
  | .local _ .vmem, ⟨4, _⟩ => ⟨S256x2048, .bf16⟩
  | _, _ => ⟨S16x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16x16384x512 : Shape := ⟨3, ![16, 16384, 512]⟩
abbrev S16x512x128 : Shape := ⟨3, ![16, 512, 128]⟩
abbrev S16x128x16384 : Shape := ⟨3, ![16, 128, 16384]⟩
abbrev S16384x16x128 : Shape := ⟨3, ![16384, 16, 128]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x16384x512, .bf16⟩
  | .hbm, ⟨1, _⟩ => ⟨S16x512x128, .f32⟩
  | .hbm, ⟨2, _⟩ => ⟨S16x16384x512, .f32⟩
  | .hbm, ⟨3, _⟩ => ⟨S16x128x16384, .f32⟩
  | .hbm, ⟨4, _⟩ => ⟨S16384x16x128, .f32⟩
  | .hbm, ⟨5, _⟩ => ⟨S16384x2048, .f32⟩
  | .hbm, ⟨6, _⟩ => ⟨S16384x2048, .bf16⟩
  | _, _ => ⟨S16x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Attn.Base.lean ====
/- The prompt attention's run, part 1: the tables the host writes, the memory the kernel is handed, and the control
   decisions of a grid point. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The three scalar tables (the q block, the k block and the flags of a grid point) and the three scratches (running
    maxima, running sums by lane, running outputs), whole. -/
abbrev tb0 : Memref sig .tc .smem S72 .i32 := Memref.whole main_c
abbrev tb1 : Memref sig .tc .smem S72 .i32 := Memref.whole main_c_0
abbrev tb2 : Memref sig .tc .smem S72 .i32 := Memref.whole main_c_1
abbrev sc0 : Memref sig .tc .vmem S4096x1 .f32 := Memref.whole cc0_scratch0
abbrev sc1 : Memref sig .tc .vmem S4096x128 .f32 := Memref.whole cc0_scratch1
abbrev sc2 : Memref sig .tc .vmem S4096x512 .f32 := Memref.whole cc0_scratch2

/-- The tables' contents: what the host's three constants write. -/
def tab0 : S72.Idx → BitVec 32 := fun i => lit0 (S72.rowMajor i)
def tab1 : S72.Idx → BitVec 32 := fun i => lit1 (S72.rowMajor i)
def tab2 : S72.Idx → BitVec 32 := fun i => lit2 (S72.rowMajor i)

/-- The contents of the scratches. -/
abbrev B0 (F : FTy → Type) (c : Dev nD) := Buf (Elt F) ((c : Thread nD τ).loc cc0_scratch0)
abbrev B1 (F : FTy → Type) (c : Dev nD) := Buf (Elt F) ((c : Thread nD τ).loc cc0_scratch1)
abbrev B2 (F : FTy → Type) (c : Dev nD) := Buf (Elt F) ((c : Thread nD τ).loc cc0_scratch2)

/-- The flag word a grid point reads. -/
abbrev flagW (F : FTy → Type) [FloatOps F] (i : grid0.Coords) (T2 : S72.Idx → BitVec 32) : BitVec 32 :=
  View.readAt (Elt F) tb2.view (Rect.unit (s := S72) (k0_off1 i) S1.size (k0_off1_inb i)).toLoadRect T2
    (Shape.Idx.first (numel1_S1.symm ▸ Nat.one_pos))
/-- The q block and the k block a grid point works on. -/
abbrev qW (F : FTy → Type) [FloatOps F] (i : grid0.Coords) (T0 : S72.Idx → BitVec 32) : BitVec 32 :=
  View.readAt (Elt F) tb0.view (Rect.unit (s := S72) (k0_off1 i) S1.size (k0_off1_inb i)).toLoadRect T0
    (Shape.Idx.first (numel1_S1.symm ▸ Nat.one_pos))
abbrev kW (F : FTy → Type) [FloatOps F] (i : grid0.Coords) (T1 : S72.Idx → BitVec 32) : BitVec 32 :=
  View.readAt (Elt F) tb1.view (Rect.unit (s := S72) (k0_off1 i) S1.size (k0_off1_inb i)).toLoadRect T1
    (Shape.Idx.first (numel1_S1.symm ▸ Nat.one_pos))

/-- Whether a flag word says: first block of its row of blocks; the key span `v`; last block. -/
abbrev isFirst (w : BitVec 32) : Prop := Scalar.cmpi .ne (Scalar.extui (Scalar.cmpi .ne (Scalar.andi w 1#32) 0#32)) 0#32 = 1#1
abbrev isVar (v w : BitVec 32) : Prop := Scalar.cmpi .ne (Scalar.extui (Scalar.cmpi .eq (Scalar.shrsi w 2#32) v)) 0#32 = 1#1
abbrev isLast (w : BitVec 32) : Prop := k0_cond5 w = 1#1

/-- What the body owns at a point: its two blocks, the tables' halves, the scratches. -/
def Own (c : Dev nD) (arg5 : Memref sig .tc .vmem S16x256x576 .bf16) (arg6 : Memref sig .tc .vmem S512x576 .bf16)
    (T0 T1 T2 : S72.Idx → BitVec 32) (x0 : S16x256x576.Idx → Elt F .bf16) (x1 : S512x576.Idx → Elt F .bf16)
    (a0 : B0 F c) (a1 : B1 F c) (a2 : B2 F c) : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (tb0.view.loc (c : Thread nD τ) ↦{fullShare.right} (T0 : Buf (Elt F) (tb0.view.loc (c : Thread nD τ))))
    ∗ (tb1.view.loc (c : Thread nD τ) ↦{fullShare.right} (T1 : Buf (Elt F) (tb1.view.loc (c : Thread nD τ))))
    ∗ (tb2.view.loc (c : Thread nD τ) ↦{fullShare.right} (T2 : Buf (Elt F) (tb2.view.loc (c : Thread nD τ))))
    ∗ (sc0.view.loc (c : Thread nD τ) ↦{fullShare} a0)
    ∗ (sc1.view.loc (c : Thread nD τ) ↦{fullShare} a1)
    ∗ (sc2.view.loc (c : Thread nD τ) ↦{fullShare} a2))

/-- The kernel's body at a point, on its staging memrefs. -/
abbrev bodyOf (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16)
    (h7 : arg7.IsWhole) : Prog (TpuEff nD τ sig (Elt F) Λ₀ .tc) PUnit :=
  cc0_prompt_attention i tb0 (Memref.isWhole_whole _) tb1 (Memref.isWhole_whole _) tb2 (Memref.isWhole_whole _)
    arg5 h5 arg6 h6 arg7 h7 sc0 (Memref.isWhole_whole _) sc1 (Memref.isWhole_whole _) sc2 (Memref.isWhole_whole _)

end Cert.KernelIdeal.Attn

end
-- ==== Proof.Attn.Tables.lean ====
/- The prompt attention's run, part 3: the tables' words, the block a window stages at a grid point, the path a point
   takes and when the output is written back, decided over the 288 points. -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
/-- The tables' contents, as the pipeline takes them. -/
def pfN : pre0.Contents (Elt F) := fun | ⟨0, _⟩ => tab0 | ⟨1, _⟩ => tab1 | ⟨2, _⟩ => tab2 | ⟨_ + 3, h⟩ => absurd h (by simp)

theorem off1_eq (i : grid0.Coords) : k0_off1 i 0 = (i 1).val := by
  have h : (i 1).val < 72 := (i 1).isLt
  show (BitVec.ofNat 32 (i 1).val).toNat = _
  rw [BitVec.toNat_ofNat]; exact Nat.mod_eq_of_lt (by omega)

theorem off1_lt (i : grid0.Coords) (a : Fin 1) : k0_off1 i a + 1 ≤ 72 := by
  obtain rfl : a = 0 := Subsingleton.elim _ _
  rw [off1_eq]; exact (i 1).isLt

theorem rowMajor_off_val : ∀ i : grid0.Coords,
    (S72.rowMajor ((Rect.unit (s := S72) (k0_off1 i) S1.size (k0_off1_inb i)).emb (Shape.Idx.first (numel1_S1.symm ▸ Nat.one_pos)))).val = (i 1).val := by
  decide +kernel

/-- The one entry that a grid point reads of a table. -/
theorem rowMajor_off (i : grid0.Coords) :
    S72.rowMajor ((Rect.unit (s := S72) (k0_off1 i) S1.size (k0_off1_inb i)).emb (Shape.Idx.first (numel1_S1.symm ▸ Nat.one_pos))) = (i 1 : Fin 72) :=
  Fin.ext (rowMajor_off_val i)

theorem flagW_eq (i : grid0.Coords) : flagW F i tab2 = lit2 (i 1) := congrArg lit2 (rowMajor_off i)
theorem qW_eq (i : grid0.Coords) : qW F i tab0 = lit0 (i 1) := congrArg lit0 (rowMajor_off i)
theorem kW_eq (i : grid0.Coords) : kW F i tab1 = lit1 (i 1) := congrArg lit1 (rowMajor_off i)

theorem at0_eq (i : grid0.Coords) : (pfN (F := F)).at 0 (Rect.unit (s := S72) (k0_off1 i) S1.size (k0_off1_inb i)) numel1_S1 = lit0 (i 1) := congrArg lit0 (rowMajor_off i)
theorem at1_eq (i : grid0.Coords) : (pfN (F := F)).at 1 (Rect.unit (s := S72) (k0_off1 i) S1.size (k0_off1_inb i)) numel1_S1 = lit1 (i 1) := congrArg lit1 (rowMajor_off i)
theorem atD_eq (i : grid0.Coords) : (pfN (F := F)).atD 2 (k0_off1 i) = lit2 (i 1) := by
  have h : ∀ a : Fin 1, k0_off1 i a + 1 ≤ S72.size a := fun a => by
    obtain rfl : a = 0 := Subsingleton.elim _ _
    exact off1_lt i 0
  have e : (pfN (F := F)).atD 2 (k0_off1 i) = tab2 (fun a => ⟨k0_off1 i a, h a⟩) := dif_pos h
  rw [e]
  refine congrArg lit2 (Eq.trans (congrArg S72.rowMajor ?_) (rowMajor_off i))
  funext a
  exact Fin.ext (by show k0_off1 i a = k0_off1 i a + 1 * 0; omega)

/-! ## The blocks -/

/-- The block of the queries (and of the output), and of the keys, that a grid point stages. -/
def ixQ (i : grid0.Coords) : Fin 3 → ℕ := ![(0#32).toNat, (Scalar.addi (Scalar.muli (BitVec.ofNat 32 (i 0).val) 16#32) (lit0 (i 1))).toNat, (0#32).toNat]
def ixK (i : grid0.Coords) : Fin 2 → ℕ := ![(Scalar.addi (Scalar.muli (BitVec.ofNat 32 (i 0).val) 8#32) (lit1 (i 1))).toNat, (0#32).toNat]

theorem tr0_eq (i : grid0.Coords) : cc0_transform_0 k0_off1_inb numel1_S1 (pfN (F := F)) i = ixQ i :=
  congrArg (fun w : BitVec 32 => (![(0#32).toNat, (Scalar.addi (Scalar.muli (BitVec.ofNat 32 (i 0).val) 16#32) w).toNat, (0#32).toNat] : Fin 3 → ℕ)) (at0_eq (F := F) i)
theorem tr1_eq (i : grid0.Coords) : cc0_transform_1 k0_off1_inb numel1_S1 (pfN (F := F)) i = ixK i :=
  congrArg (fun w : BitVec 32 => (![(Scalar.addi (Scalar.muli (BitVec.ofNat 32 (i 0).val) 8#32) w).toNat, (0#32).toNat] : Fin 2 → ℕ)) (at1_eq (F := F) i)
theorem tr2_eq (i : grid0.Coords) : cc0_transform_2 k0_off1_inb numel1_S1 (pfN (F := F)) i = ixQ i := tr0_eq i

theorem inb0 : ∀ i : grid0.Coords, ∀ a, (ixQ i a + 1) * S16x256x576.size a ≤ S16x16384x576.size a := by decide +kernel
theorem inb1 : ∀ i : grid0.Coords, ∀ a, (ixK i a + 1) * S512x576.size a ≤ S16384x576.size a := by decide +kernel
theorem inb2 : ∀ i : grid0.Coords, ∀ a, (ixQ i a + 1) * S16x256x512.size a ≤ S16x16384x512.size a := by decide +kernel

/-- Every staged block lies inside its array. -/
theorem ok_pfN : ok0 (pfN (F := F)) :=
  ⟨fun i => ⟨fun a => by rw [tr0_eq]; exact inb0 i a, .inr (Affine.block_words_dvd (s := S16x16384x576) (p := EltTy.packing .bf16) (by decide) (by decide))⟩,
   fun i => ⟨fun a => by rw [tr1_eq]; exact inb1 i a, .inr (Affine.block_words_dvd (s := S16384x576) (p := EltTy.packing .bf16) (by decide) (by decide))⟩,
   fun i => ⟨fun a => by rw [tr2_eq]; exact inb2 i a, .inr (Affine.block_words_dvd (s := S16x16384x512) (p := EltTy.packing .bf16) (by decide) (by decide))⟩⟩

/-- The pipeline at the tables' contents. -/
def adm : (pcfg0 (F := F)).Adm := ⟨pfN, ok_pfN⟩
abbrev cfgA (F : FTy → Type) [FloatOps F] [Named F] : Pipeline.Cfg sig Λ₀ := cfg0 (adm (F := F))
abbrev pcs (F : FTy → Type) [FloatOps F] [Named F] : Fin 1 → Pipeline.Cfg sig Λ₀ := Pipeline.pin (pcfgs (F := F)) fun _ => adm

/-- A point's coordinates and staging memrefs. -/
abbrev crd (t : Fin (cfgA F).N) : grid0.Coords := (cfgA F).grid.coords t
abbrev ms0 (t : Fin (cfgA F).N) : Memref sig .tc .vmem S16x256x576 .bf16 := spec0_0.stage ((cfgA F).slots t (0 : Fin 3))
abbrev hs0 (t : Fin (cfgA F).N) : (ms0 t).IsWhole := hstage0_0 (((cfgA F).slots t (0 : Fin 3)).cast nbuf0_0)
abbrev ms1 (t : Fin (cfgA F).N) : Memref sig .tc .vmem S512x576 .bf16 := spec0_1.stage ((cfgA F).slots t (1 : Fin 3))
abbrev hs1 (t : Fin (cfgA F).N) : (ms1 t).IsWhole := hstage0_1 (((cfgA F).slots t (1 : Fin 3)).cast nbuf0_1)
abbrev ms2 (t : Fin (cfgA F).N) : Memref sig .tc .vmem S16x256x512 .bf16 := spec0_2.stage ((cfgA F).slots t (2 : Fin 3))
abbrev hs2 (t : Fin (cfgA F).N) : (ms2 t).IsWhole := hstage0_2 (((cfgA F).slots t (2 : Fin 3)).cast nbuf0_2)

/-! ## The decisions -/

/-- A point over the whole unmasked block is not the last of its row; any other is, over one of the two masked spans. -/
theorem dec0 : ∀ n : Fin 72, isVar 0#32 (lit2 n) → ¬isVar 1#32 (lit2 n) ∧ ¬isVar 2#32 (lit2 n) ∧ ¬isLast (lit2 n) := by decide +kernel
theorem dec1 : ∀ n : Fin 72, ¬isVar 0#32 (lit2 n) → isVar 1#32 (lit2 n) → ¬isVar 2#32 (lit2 n) ∧ isLast (lit2 n) := by decide +kernel
theorem dec2 : ∀ n : Fin 72, ¬isVar 0#32 (lit2 n) → ¬isVar 1#32 (lit2 n) → isVar 2#32 (lit2 n) ∧ isLast (lit2 n) := by decide +kernel

/-- The output's block is written back exactly after the last point of a row of blocks. -/
theorem flushQ : ∀ t : Fin grid0.N, Pipeline.Window.flushOf grid0 true ixQ t = (k0_cond5 (lit2 (grid0.coords t 1)) == 1#1) := by decide +kernel

theorem idle2_eq (t : Fin (cfgA F).N) : (cfgA F).idle (2 : Fin 3) ((cfgA F).grid.coords t) = !(k0_cond5 (lit2 (crd t 1)) == 1#1) :=
  congrArg (fun w : BitVec 32 => !(k0_cond5 w == 1#1)) (atD_eq (F := F) (crd t))

theorem flush2_eq (t : Fin (cfgA F).N) : ((cfgA F).win (2 : Fin 3)).flush t = (k0_cond5 (lit2 (crd t 1)) == 1#1) := by
  refine Eq.trans ?_ (flushQ t)
  rw [Pipeline.Window.flush_eq_flushOf]
  exact congrArg (fun f => Pipeline.Window.flushOf grid0 true f t) (funext fun i => tr2_eq (F := F) i)

theorem fresh2 : ∀ n, (cfgA F).fresh (2 : Fin 3) n = true
  | 0 => rfl
  | n + 1 => by
    unfold Pipeline.Cfg.fresh
    split
    · rename_i h
      rw [flush2_eq, idle2_eq, fresh2 n]; cases (k0_cond5 (lit2 (crd (F := F) ⟨n, h⟩ 1)) == 1#1) <;> rfl
    · rfl

theorem first_pt : ∀ t : Fin grid0.N, t.val = 0 → isFirst (lit2 (grid0.coords t 1)) := by decide +kernel
theorem first0 (t : Fin (cfgA F).N) (h : t.val = 0) : isFirst (lit2 (crd t 1)) := first_pt t h

end Cert.KernelIdeal.Attn

end
-- ==== Proof.Attn.RunF.lean ====
/- The prompt attention's run, part 2: the body at a grid point, by the path its flag word selects (F, C). -/
module

public import proofs.«01_k».proof.Proof.Gen.KernelIdeal.Skeleton
public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- The body at a point not the first of its row and not the last, over the whole key block, unmasked: from any contents of the output's buffer it
    leaves the scratches at contents read off the run. -/
def runF (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (T0 T1 T2 : S72.Idx → BitVec 32) (x0 : S16x256x576.Idx → Elt F .bf16) (x1 : S512x576.Idx → Elt F .bf16) (a0 : B0 F c) (a1 : B1 F c) (a2 : B2 F c)
    (hc0 : ¬isFirst (flagW F i T2)) (hc1 : isVar 0#32 (flagW F i T2)) (hc2 : ¬isVar 1#32 (flagW F i T2)) (hc3 : ¬isVar 2#32 (flagW F i T2)) (hl : ¬isLast (flagW F i T2)) :
    Σ' (s0 : B0 F c) (s1 : B1 F c), { s2 : B2 F c //
      ∀ (y : S16x256x512.Idx → Elt F .bf16) (K : PUnit → sProp 𝕄),
        iprop(Own c arg5 arg6 T0 T1 T2 x0 x1 a0 a1 a2 ∗ owns (c : Thread nD τ) arg7 fullShare y
          ∗ (iprop(Own c arg5 arg6 T0 T1 T2 x0 x1 s0 s1 s2 ∗ owns (c : Thread nD τ) arg7 fullShare y) -∗ K ⟨⟩))
          ⊢ wp frame (wpE (defs₀ (F := F)) Variants.none c none) Set.univ (bodyOf i arg5 h5 arg6 h6 arg7 h7) K } :=
  ⟨_, _, _, fun y K => by
    unfold owns Own
    delta bodyOf
    rw [cc0_prompt_attention_eq_skeleton]; unfold cc0_prompt_attention_skel
    iintro ⟨⟨H0, H1, HT0, HT1, HT2, HS0, HS1, HS2⟩, ⟨%f2, %hf2, HO2⟩, Hk⟩
    obtain rfl := h7.eq_unread hf2
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(Scalar.cmpi = _); exact hc3) | (guard_target = ¬(k0_cond5 _ = _); exact hl))
    sl_step
    iapply Hk
    isplitl [H0 H1 HT0 HT1 HT2 HS0 HS1 HS2]
    · isplitl [H0]; · iexact H0
      isplitl [H1]; · iexact H1
      isplitl [HT0]; · iexact HT0
      isplitl [HT1]; · iexact HT1
      isplitl [HT2]; · iexact HT2
      isplitl [HS0]; · iexact HS0
      isplitl [HS1]; · iexact HS1
      iexact HS2
    iexists _
    isplitr; · ipureintro; exact h7.read_unread _
    iexact HO2⟩

set_option backward.proofsInPublic true in
set_option maxHeartbeats 8000000 in
/-- The body at a point first of its row and not the last, over the whole key block, unmasked: from any contents of the output's buffer it
    leaves the scratches at contents read off the run. -/
def runC (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (T0 T1 T2 : S72.Idx → BitVec 32) (x0 : S16x256x576.Idx → Elt F .bf16) (x1 : S512x576.Idx → Elt F .bf16)
    (hc0 : isFirst (flagW F i T2)) (hc1 : isVar 0#32 (flagW F i T2)) (hc2 : ¬isVar 1#32 (flagW F i T2)) (hc3 : ¬isVar 2#32 (flagW F i T2)) (hl : ¬isLast (flagW F i T2)) :
    Σ' (s0 : B0 F c) (s1 : B1 F c), { s2 : B2 F c //
      ∀ (a0 : B0 F c) (a1 : B1 F c) (a2 : B2 F c) (y : S16x256x512.Idx → Elt F .bf16) (K : PUnit → sProp 𝕄),
        iprop(Own c arg5 arg6 T0 T1 T2 x0 x1 a0 a1 a2 ∗ owns (c : Thread nD τ) arg7 fullShare y
          ∗ (iprop(Own c arg5 arg6 T0 T1 T2 x0 x1 s0 s1 s2 ∗ owns (c : Thread nD τ) arg7 fullShare y) -∗ K ⟨⟩))
          ⊢ wp frame (wpE (defs₀ (F := F)) Variants.none c none) Set.univ (bodyOf i arg5 h5 arg6 h6 arg7 h7) K } :=
  ⟨_, _, _, fun a0 a1 a2 y K => by
    unfold owns Own
    delta bodyOf
    rw [cc0_prompt_attention_eq_skeleton]; unfold cc0_prompt_attention_skel
    iintro ⟨⟨H0, H1, HT0, HT1, HT2, HS0, HS1, HS2⟩, ⟨%f2, %hf2, HO2⟩, Hk⟩
    obtain rfl := h7.eq_unread hf2
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = Scalar.cmpi = _; exact hc0) | (guard_target = Scalar.cmpi = _; exact hc1) | (guard_target = ¬(Scalar.cmpi = _); exact hc2) | (guard_target = ¬(Scalar.cmpi = _); exact hc3) | (guard_target = ¬(k0_cond5 _ = _); exact hl))
    sl_step
    iapply Hk
    isplitl [H0 H1 HT0 HT1 HT2 HS0 HS1 HS2]
    · isplitl [H0]; · iexact H0
      isplitl [H1]; · iexact H1
      isplitl [HT0]; · iexact HT0
      isplitl [HT1]; · iexact HT1
      isplitl [HT2]; · iexact HT2
      isplitl [HS0]; · iexact HS0
      isplitl [HS1]; · iexact HS1
      iexact HS2
    iexists _
    isplitr; · ipureintro; exact h7.read_unread _
    iexact HO2⟩

end Cert.KernelIdeal.Attn

end
-- ==== Proof.Attn.RunD.lean ====
/- The prompt attention's run, part 2: the body at a grid point, by the path its flag word selects (D, A). -/
module

public import proofs.«01_k».proof.Proof.Gen.KernelIdeal.Skeleton
public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- The body at a point not the first of its row and the last, over the first half of the key block, masked: from any contents of the output's buffer it
    leaves the scratches and the output at contents read off the run. -/
def runD (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (T0 T1 T2 : S72.Idx → BitVec 32) (x0 : S16x256x576.Idx → Elt F .bf16) (x1 : S512x576.Idx → Elt F .bf16) (a0 : B0 F c) (a1 : B1 F c) (a2 : B2 F c)
    (hc0 : ¬isFirst (flagW F i T2)) (hc1 : ¬isVar 0#32 (flagW F i T2)) (hc2 : isVar 1#32 (flagW F i T2)) (hc3 : ¬isVar 2#32 (flagW F i T2)) (hl : isLast (flagW F i T2)) :
    Σ' (o : List (View.Piece (Elt F) S16x256x512 .bf16)) (s0 : B0 F c) (s1 : B1 F c), { s2 : B2 F c //
      ∀ (y : S16x256x512.Idx → Elt F .bf16) (K : PUnit → sProp 𝕄),
        iprop(Own c arg5 arg6 T0 T1 T2 x0 x1 a0 a1 a2 ∗ owns (c : Thread nD τ) arg7 fullShare y
          ∗ (iprop(Own c arg5 arg6 T0 T1 T2 x0 x1 s0 s1 s2 ∗ (∃ f, arg7.view.loc (c : Thread nD τ) ↦[arg7.view.set]{fullShare} arg7.view.writes (Elt F) f o)) -∗ K ⟨⟩))
          ⊢ wp frame (wpE (defs₀ (F := F)) Variants.none c none) Set.univ (bodyOf i arg5 h5 arg6 h6 arg7 h7) K } :=
  ⟨_, _, _, _, fun y K => by
    unfold owns Own
    delta bodyOf
    rw [cc0_prompt_attention_eq_skeleton]; unfold cc0_prompt_attention_skel
    iintro ⟨⟨H0, H1, HT0, HT1, HT2, HS0, HS1, HS2⟩, ⟨%f2, %hf2, HO2⟩, Hk⟩
    obtain rfl := h7.eq_unread hf2
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(Scalar.cmpi = _); exact hc3) | (guard_target = k0_cond5 _ = _; exact hl))
    sl_step
    iapply Hk
    isplitl [H0 H1 HT0 HT1 HT2 HS0 HS1 HS2]
    · isplitl [H0]; · iexact H0
      isplitl [H1]; · iexact H1
      isplitl [HT0]; · iexact HT0
      isplitl [HT1]; · iexact HT1
      isplitl [HT2]; · iexact HT2
      isplitl [HS0]; · iexact HS0
      isplitl [HS1]; · iexact HS1
      iexact HS2
    iexists _
    iexact HO2⟩

set_option backward.proofsInPublic true in
set_option maxHeartbeats 8000000 in
/-- The body at a point first of its row and the last, over the first half of the key block, masked: from any contents of the output's buffer it
    leaves the scratches and the output at contents read off the run. -/
def runA (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (T0 T1 T2 : S72.Idx → BitVec 32) (x0 : S16x256x576.Idx → Elt F .bf16) (x1 : S512x576.Idx → Elt F .bf16)
    (hc0 : isFirst (flagW F i T2)) (hc1 : ¬isVar 0#32 (flagW F i T2)) (hc2 : isVar 1#32 (flagW F i T2)) (hc3 : ¬isVar 2#32 (flagW F i T2)) (hl : isLast (flagW F i T2)) :
    Σ' (o : List (View.Piece (Elt F) S16x256x512 .bf16)) (s0 : B0 F c) (s1 : B1 F c), { s2 : B2 F c //
      ∀ (a0 : B0 F c) (a1 : B1 F c) (a2 : B2 F c) (y : S16x256x512.Idx → Elt F .bf16) (K : PUnit → sProp 𝕄),
        iprop(Own c arg5 arg6 T0 T1 T2 x0 x1 a0 a1 a2 ∗ owns (c : Thread nD τ) arg7 fullShare y
          ∗ (iprop(Own c arg5 arg6 T0 T1 T2 x0 x1 s0 s1 s2 ∗ (∃ f, arg7.view.loc (c : Thread nD τ) ↦[arg7.view.set]{fullShare} arg7.view.writes (Elt F) f o)) -∗ K ⟨⟩))
          ⊢ wp frame (wpE (defs₀ (F := F)) Variants.none c none) Set.univ (bodyOf i arg5 h5 arg6 h6 arg7 h7) K } :=
  ⟨_, _, _, _, fun a0 a1 a2 y K => by
    unfold owns Own
    delta bodyOf
    rw [cc0_prompt_attention_eq_skeleton]; unfold cc0_prompt_attention_skel
    iintro ⟨⟨H0, H1, HT0, HT1, HT2, HS0, HS1, HS2⟩, ⟨%f2, %hf2, HO2⟩, Hk⟩
    obtain rfl := h7.eq_unread hf2
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = Scalar.cmpi = _; exact hc0) | (guard_target = ¬(Scalar.cmpi = _); exact hc1) | (guard_target = Scalar.cmpi = _; exact hc2) | (guard_target = ¬(Scalar.cmpi = _); exact hc3) | (guard_target = k0_cond5 _ = _; exact hl))
    sl_step
    iapply Hk
    isplitl [H0 H1 HT0 HT1 HT2 HS0 HS1 HS2]
    · isplitl [H0]; · iexact H0
      isplitl [H1]; · iexact H1
      isplitl [HT0]; · iexact HT0
      isplitl [HT1]; · iexact HT1
      isplitl [HT2]; · iexact HT2
      isplitl [HS0]; · iexact HS0
      isplitl [HS1]; · iexact HS1
      iexact HS2
    iexists _
    iexact HO2⟩

end Cert.KernelIdeal.Attn

end
-- ==== Proof.Attn.RunE.lean ====
/- The prompt attention's run, part 2: the body at a grid point, by the path its flag word selects (E, B). -/
module

public import proofs.«01_k».proof.Proof.Gen.KernelIdeal.Skeleton
public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- The body at a point not the first of its row and the last, over the whole key block, masked: from any contents of the output's buffer it
    leaves the scratches and the output at contents read off the run. -/
def runE (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (T0 T1 T2 : S72.Idx → BitVec 32) (x0 : S16x256x576.Idx → Elt F .bf16) (x1 : S512x576.Idx → Elt F .bf16) (a0 : B0 F c) (a1 : B1 F c) (a2 : B2 F c)
    (hc0 : ¬isFirst (flagW F i T2)) (hc1 : ¬isVar 0#32 (flagW F i T2)) (hc2 : ¬isVar 1#32 (flagW F i T2)) (hc3 : isVar 2#32 (flagW F i T2)) (hl : isLast (flagW F i T2)) :
    Σ' (o : List (View.Piece (Elt F) S16x256x512 .bf16)) (s0 : B0 F c) (s1 : B1 F c), { s2 : B2 F c //
      ∀ (y : S16x256x512.Idx → Elt F .bf16) (K : PUnit → sProp 𝕄),
        iprop(Own c arg5 arg6 T0 T1 T2 x0 x1 a0 a1 a2 ∗ owns (c : Thread nD τ) arg7 fullShare y
          ∗ (iprop(Own c arg5 arg6 T0 T1 T2 x0 x1 s0 s1 s2 ∗ (∃ f, arg7.view.loc (c : Thread nD τ) ↦[arg7.view.set]{fullShare} arg7.view.writes (Elt F) f o)) -∗ K ⟨⟩))
          ⊢ wp frame (wpE (defs₀ (F := F)) Variants.none c none) Set.univ (bodyOf i arg5 h5 arg6 h6 arg7 h7) K } :=
  ⟨_, _, _, _, fun y K => by
    unfold owns Own
    delta bodyOf
    rw [cc0_prompt_attention_eq_skeleton]; unfold cc0_prompt_attention_skel
    iintro ⟨⟨H0, H1, HT0, HT1, HT2, HS0, HS1, HS2⟩, ⟨%f2, %hf2, HO2⟩, Hk⟩
    obtain rfl := h7.eq_unread hf2
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = Scalar.cmpi = _; exact hc3) | (guard_target = k0_cond5 _ = _; exact hl))
    sl_step
    iapply Hk
    isplitl [H0 H1 HT0 HT1 HT2 HS0 HS1 HS2]
    · isplitl [H0]; · iexact H0
      isplitl [H1]; · iexact H1
      isplitl [HT0]; · iexact HT0
      isplitl [HT1]; · iexact HT1
      isplitl [HT2]; · iexact HT2
      isplitl [HS0]; · iexact HS0
      isplitl [HS1]; · iexact HS1
      iexact HS2
    iexists _
    iexact HO2⟩

set_option backward.proofsInPublic true in
set_option maxHeartbeats 8000000 in
/-- The body at a point first of its row and the last, over the whole key block, masked: from any contents of the output's buffer it
    leaves the scratches and the output at contents read off the run. -/
def runB (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (T0 T1 T2 : S72.Idx → BitVec 32) (x0 : S16x256x576.Idx → Elt F .bf16) (x1 : S512x576.Idx → Elt F .bf16)
    (hc0 : isFirst (flagW F i T2)) (hc1 : ¬isVar 0#32 (flagW F i T2)) (hc2 : ¬isVar 1#32 (flagW F i T2)) (hc3 : isVar 2#32 (flagW F i T2)) (hl : isLast (flagW F i T2)) :
    Σ' (o : List (View.Piece (Elt F) S16x256x512 .bf16)) (s0 : B0 F c) (s1 : B1 F c), { s2 : B2 F c //
      ∀ (a0 : B0 F c) (a1 : B1 F c) (a2 : B2 F c) (y : S16x256x512.Idx → Elt F .bf16) (K : PUnit → sProp 𝕄),
        iprop(Own c arg5 arg6 T0 T1 T2 x0 x1 a0 a1 a2 ∗ owns (c : Thread nD τ) arg7 fullShare y
          ∗ (iprop(Own c arg5 arg6 T0 T1 T2 x0 x1 s0 s1 s2 ∗ (∃ f, arg7.view.loc (c : Thread nD τ) ↦[arg7.view.set]{fullShare} arg7.view.writes (Elt F) f o)) -∗ K ⟨⟩))
          ⊢ wp frame (wpE (defs₀ (F := F)) Variants.none c none) Set.univ (bodyOf i arg5 h5 arg6 h6 arg7 h7) K } :=
  ⟨_, _, _, _, fun a0 a1 a2 y K => by
    unfold owns Own
    delta bodyOf
    rw [cc0_prompt_attention_eq_skeleton]; unfold cc0_prompt_attention_skel
    iintro ⟨⟨H0, H1, HT0, HT1, HT2, HS0, HS1, HS2⟩, ⟨%f2, %hf2, HO2⟩, Hk⟩
    obtain rfl := h7.eq_unread hf2
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = Scalar.cmpi = _; exact hc0) | (guard_target = ¬(Scalar.cmpi = _); exact hc1) | (guard_target = ¬(Scalar.cmpi = _); exact hc2) | (guard_target = Scalar.cmpi = _; exact hc3) | (guard_target = k0_cond5 _ = _; exact hl))
    sl_step
    iapply Hk
    isplitl [H0 H1 HT0 HT1 HT2 HS0 HS1 HS2]
    · isplitl [H0]; · iexact H0
      isplitl [H1]; · iexact H1
      isplitl [HT0]; · iexact HT0
      isplitl [HT1]; · iexact HT1
      isplitl [HT2]; · iexact HT2
      isplitl [HS0]; · iexact HS0
      isplitl [HS1]; · iexact HS1
      iexact HS2
    iexists _
    iexact HO2⟩

end Cert.KernelIdeal.Attn

end
-- ==== Proof.Attn.Step.lean ====
/- The prompt attention's run, part 4: what the body leaves at a grid point — the scratches and, at the last point of a
   row of blocks, the output's block — as one function of the point, its two blocks and the scratches before. -/
module

public import proofs.«01_k».proof.Proof.Attn.Tables
public import proofs.«01_k».proof.Proof.Attn.RunF
public import proofs.«01_k».proof.Proof.Attn.RunD
public import proofs.«01_k».proof.Proof.Attn.RunE

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A whole buffer of the output's block, through which its contents are stated. -/
abbrev VO : View sig .tc .vmem S16x256x512 .bf16 := (Memref.whole cc0_stg2_0 : Memref sig .tc .vmem S16x256x512 .bf16).view

/-- What a point leaves: the output's block (of a point that stores none, nothing is said) and the three scratches. -/
abbrev Out (F : FTy → Type) (c : Dev nD) := (S16x256x512.Idx → Elt F .bf16) × B0 F c × B1 F c × B2 F c

variable (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (x0 : S16x256x576.Idx → Elt F .bf16) (x1 : S512x576.Idx → Elt F .bf16) (a0 : B0 F c) (a1 : B1 F c) (a2 : B2 F c)

/-- Path A's run at the point. -/
abbrev atA (q0 : isFirst (lit2 (i 1))) (q1 : ¬isVar 0#32 (lit2 (i 1))) (q2 : isVar 1#32 (lit2 (i 1))) :=
  runA c i arg5 h5 arg6 h6 arg7 h7 tab0 tab1 tab2 x0 x1 (by rw [flagW_eq]; exact q0) (by rw [flagW_eq]; exact q1) (by rw [flagW_eq]; exact q2) (by rw [flagW_eq]; exact (dec1 _ q1 q2).1) (by rw [flagW_eq]; exact (dec1 _ q1 q2).2)
/-- Path A's store covers the output's block. -/
theorem coverA (q0 : isFirst (lit2 (i 1))) (q1 : ¬isVar 0#32 (lit2 (i 1))) (q2 : isVar 1#32 (lit2 (i 1))) (y : S16x256x512.Idx) : ∃ pc ∈ (atA c i arg5 h5 arg6 h6 arg7 h7 x0 x1 q0 q1 q2).1, y ∈ pc.1.set :=
  View.cover_of_tiledL (atA c i arg5 h5 arg6 h6 arg7 h7 x0 x1 q0 q1 q2).1 S16x256x512.size (by sl_kernel_rfl) y
/-- What path A leaves. -/
def outA (q0 : isFirst (lit2 (i 1))) (q1 : ¬isVar 0#32 (lit2 (i 1))) (q2 : isVar 1#32 (lit2 (i 1))) : Out F c :=
  (VO.read (Elt F) (VO.writes (Elt F) VO.junk (atA c i arg5 h5 arg6 h6 arg7 h7 x0 x1 q0 q1 q2).1), (atA c i arg5 h5 arg6 h6 arg7 h7 x0 x1 q0 q1 q2).2.1, (atA c i arg5 h5 arg6 h6 arg7 h7 x0 x1 q0 q1 q2).2.2.1, (atA c i arg5 h5 arg6 h6 arg7 h7 x0 x1 q0 q1 q2).2.2.2.1)

/-- Path B's run at the point. -/
abbrev atB (q0 : isFirst (lit2 (i 1))) (q1 : ¬isVar 0#32 (lit2 (i 1))) (q2 : ¬isVar 1#32 (lit2 (i 1))) :=
  runB c i arg5 h5 arg6 h6 arg7 h7 tab0 tab1 tab2 x0 x1 (by rw [flagW_eq]; exact q0) (by rw [flagW_eq]; exact q1) (by rw [flagW_eq]; exact q2) (by rw [flagW_eq]; exact (dec2 _ q1 q2).1) (by rw [flagW_eq]; exact (dec2 _ q1 q2).2)
/-- Path B's store covers the output's block. -/
theorem coverB (q0 : isFirst (lit2 (i 1))) (q1 : ¬isVar 0#32 (lit2 (i 1))) (q2 : ¬isVar 1#32 (lit2 (i 1))) (y : S16x256x512.Idx) : ∃ pc ∈ (atB c i arg5 h5 arg6 h6 arg7 h7 x0 x1 q0 q1 q2).1, y ∈ pc.1.set :=
  View.cover_of_tiledL (atB c i arg5 h5 arg6 h6 arg7 h7 x0 x1 q0 q1 q2).1 S16x256x512.size (by sl_kernel_rfl) y
/-- What path B leaves. -/
def outB (q0 : isFirst (lit2 (i 1))) (q1 : ¬isVar 0#32 (lit2 (i 1))) (q2 : ¬isVar 1#32 (lit2 (i 1))) : Out F c :=
  (VO.read (Elt F) (VO.writes (Elt F) VO.junk (atB c i arg5 h5 arg6 h6 arg7 h7 x0 x1 q0 q1 q2).1), (atB c i arg5 h5 arg6 h6 arg7 h7 x0 x1 q0 q1 q2).2.1, (atB c i arg5 h5 arg6 h6 arg7 h7 x0 x1 q0 q1 q2).2.2.1, (atB c i arg5 h5 arg6 h6 arg7 h7 x0 x1 q0 q1 q2).2.2.2.1)

/-- Path C's run at the point. -/
abbrev atC (q0 : isFirst (lit2 (i 1))) (q1 : isVar 0#32 (lit2 (i 1))) :=
  runC c i arg5 h5 arg6 h6 arg7 h7 tab0 tab1 tab2 x0 x1 (by rw [flagW_eq]; exact q0) (by rw [flagW_eq]; exact q1) (by rw [flagW_eq]; exact (dec0 _ q1).1) (by rw [flagW_eq]; exact (dec0 _ q1).2.1) (by rw [flagW_eq]; exact (dec0 _ q1).2.2)
/-- What path C leaves. -/
def outC (q0 : isFirst (lit2 (i 1))) (q1 : isVar 0#32 (lit2 (i 1))) : Out F c :=
  (VO.read (Elt F) VO.junk, (atC c i arg5 h5 arg6 h6 arg7 h7 x0 x1 q0 q1).1, (atC c i arg5 h5 arg6 h6 arg7 h7 x0 x1 q0 q1).2.1, (atC c i arg5 h5 arg6 h6 arg7 h7 x0 x1 q0 q1).2.2.1)

/-- Path D's run at the point. -/
abbrev atD (q0 : ¬isFirst (lit2 (i 1))) (q1 : ¬isVar 0#32 (lit2 (i 1))) (q2 : isVar 1#32 (lit2 (i 1))) :=
  runD c i arg5 h5 arg6 h6 arg7 h7 tab0 tab1 tab2 x0 x1 a0 a1 a2 (by rw [flagW_eq]; exact q0) (by rw [flagW_eq]; exact q1) (by rw [flagW_eq]; exact q2) (by rw [flagW_eq]; exact (dec1 _ q1 q2).1) (by rw [flagW_eq]; exact (dec1 _ q1 q2).2)
/-- Path D's store covers the output's block. -/
theorem coverD (q0 : ¬isFirst (lit2 (i 1))) (q1 : ¬isVar 0#32 (lit2 (i 1))) (q2 : isVar 1#32 (lit2 (i 1))) (y : S16x256x512.Idx) : ∃ pc ∈ (atD c i arg5 h5 arg6 h6 arg7 h7 x0 x1 a0 a1 a2 q0 q1 q2).1, y ∈ pc.1.set :=
  View.cover_of_tiledL (atD c i arg5 h5 arg6 h6 arg7 h7 x0 x1 a0 a1 a2 q0 q1 q2).1 S16x256x512.size (by sl_kernel_rfl) y
/-- What path D leaves. -/
def outD (q0 : ¬isFirst (lit2 (i 1))) (q1 : ¬isVar 0#32 (lit2 (i 1))) (q2 : isVar 1#32 (lit2 (i 1))) : Out F c :=
  (VO.read (Elt F) (VO.writes (Elt F) VO.junk (atD c i arg5 h5 arg6 h6 arg7 h7 x0 x1 a0 a1 a2 q0 q1 q2).1), (atD c i arg5 h5 arg6 h6 arg7 h7 x0 x1 a0 a1 a2 q0 q1 q2).2.1, (atD c i arg5 h5 arg6 h6 arg7 h7 x0 x1 a0 a1 a2 q0 q1 q2).2.2.1, (atD c i arg5 h5 arg6 h6 arg7 h7 x0 x1 a0 a1 a2 q0 q1 q2).2.2.2.1)

/-- Path E's run at the point. -/
abbrev atE (q0 : ¬isFirst (lit2 (i 1))) (q1 : ¬isVar 0#32 (lit2 (i 1))) (q2 : ¬isVar 1#32 (lit2 (i 1))) :=
  runE c i arg5 h5 arg6 h6 arg7 h7 tab0 tab1 tab2 x0 x1 a0 a1 a2 (by rw [flagW_eq]; exact q0) (by rw [flagW_eq]; exact q1) (by rw [flagW_eq]; exact q2) (by rw [flagW_eq]; exact (dec2 _ q1 q2).1) (by rw [flagW_eq]; exact (dec2 _ q1 q2).2)
/-- Path E's store covers the output's block. -/
theorem coverE (q0 : ¬isFirst (lit2 (i 1))) (q1 : ¬isVar 0#32 (lit2 (i 1))) (q2 : ¬isVar 1#32 (lit2 (i 1))) (y : S16x256x512.Idx) : ∃ pc ∈ (atE c i arg5 h5 arg6 h6 arg7 h7 x0 x1 a0 a1 a2 q0 q1 q2).1, y ∈ pc.1.set :=
  View.cover_of_tiledL (atE c i arg5 h5 arg6 h6 arg7 h7 x0 x1 a0 a1 a2 q0 q1 q2).1 S16x256x512.size (by sl_kernel_rfl) y
/-- What path E leaves. -/
def outE (q0 : ¬isFirst (lit2 (i 1))) (q1 : ¬isVar 0#32 (lit2 (i 1))) (q2 : ¬isVar 1#32 (lit2 (i 1))) : Out F c :=
  (VO.read (Elt F) (VO.writes (Elt F) VO.junk (atE c i arg5 h5 arg6 h6 arg7 h7 x0 x1 a0 a1 a2 q0 q1 q2).1), (atE c i arg5 h5 arg6 h6 arg7 h7 x0 x1 a0 a1 a2 q0 q1 q2).2.1, (atE c i arg5 h5 arg6 h6 arg7 h7 x0 x1 a0 a1 a2 q0 q1 q2).2.2.1, (atE c i arg5 h5 arg6 h6 arg7 h7 x0 x1 a0 a1 a2 q0 q1 q2).2.2.2.1)

/-- Path F's run at the point. -/
abbrev atF (q0 : ¬isFirst (lit2 (i 1))) (q1 : isVar 0#32 (lit2 (i 1))) :=
  runF c i arg5 h5 arg6 h6 arg7 h7 tab0 tab1 tab2 x0 x1 a0 a1 a2 (by rw [flagW_eq]; exact q0) (by rw [flagW_eq]; exact q1) (by rw [flagW_eq]; exact (dec0 _ q1).1) (by rw [flagW_eq]; exact (dec0 _ q1).2.1) (by rw [flagW_eq]; exact (dec0 _ q1).2.2)
/-- What path F leaves. -/
def outF (q0 : ¬isFirst (lit2 (i 1))) (q1 : isVar 0#32 (lit2 (i 1))) : Out F c :=
  (VO.read (Elt F) VO.junk, (atF c i arg5 h5 arg6 h6 arg7 h7 x0 x1 a0 a1 a2 q0 q1).1, (atF c i arg5 h5 arg6 h6 arg7 h7 x0 x1 a0 a1 a2 q0 q1).2.1, (atF c i arg5 h5 arg6 h6 arg7 h7 x0 x1 a0 a1 a2 q0 q1).2.2.1)

/-- What the point leaves, by the path its flag word selects. -/
def res : Out F c :=
  if q0 : isFirst (lit2 (i 1)) then
    if q1 : isVar 0#32 (lit2 (i 1)) then outC c i arg5 h5 arg6 h6 arg7 h7 x0 x1 q0 q1
    else if q2 : isVar 1#32 (lit2 (i 1)) then outA c i arg5 h5 arg6 h6 arg7 h7 x0 x1 q0 q1 q2 else outB c i arg5 h5 arg6 h6 arg7 h7 x0 x1 q0 q1 q2
  else
    if q1 : isVar 0#32 (lit2 (i 1)) then outF c i arg5 h5 arg6 h6 arg7 h7 x0 x1 a0 a1 a2 q0 q1
    else if q2 : isVar 1#32 (lit2 (i 1)) then outD c i arg5 h5 arg6 h6 arg7 h7 x0 x1 a0 a1 a2 q0 q1 q2 else outE c i arg5 h5 arg6 h6 arg7 h7 x0 x1 a0 a1 a2 q0 q1 q2

theorem res_A (q0 : isFirst (lit2 (i 1))) (q1 : ¬isVar 0#32 (lit2 (i 1))) (q2 : isVar 1#32 (lit2 (i 1))) : res c i arg5 h5 arg6 h6 arg7 h7 x0 x1 a0 a1 a2 = outA c i arg5 h5 arg6 h6 arg7 h7 x0 x1 q0 q1 q2 := by
  unfold res; rw [dif_pos q0, dif_neg q1, dif_pos q2]
theorem res_B (q0 : isFirst (lit2 (i 1))) (q1 : ¬isVar 0#32 (lit2 (i 1))) (q2 : ¬isVar 1#32 (lit2 (i 1))) : res c i arg5 h5 arg6 h6 arg7 h7 x0 x1 a0 a1 a2 = outB c i arg5 h5 arg6 h6 arg7 h7 x0 x1 q0 q1 q2 := by
  unfold res; rw [dif_pos q0, dif_neg q1, dif_neg q2]
theorem res_C (q0 : isFirst (lit2 (i 1))) (q1 : isVar 0#32 (lit2 (i 1))) : res c i arg5 h5 arg6 h6 arg7 h7 x0 x1 a0 a1 a2 = outC c i arg5 h5 arg6 h6 arg7 h7 x0 x1 q0 q1 := by
  unfold res; rw [dif_pos q0, dif_pos q1]
theorem res_D (q0 : ¬isFirst (lit2 (i 1))) (q1 : ¬isVar 0#32 (lit2 (i 1))) (q2 : isVar 1#32 (lit2 (i 1))) : res c i arg5 h5 arg6 h6 arg7 h7 x0 x1 a0 a1 a2 = outD c i arg5 h5 arg6 h6 arg7 h7 x0 x1 a0 a1 a2 q0 q1 q2 := by
  unfold res; rw [dif_neg q0, dif_neg q1, dif_pos q2]
theorem res_E (q0 : ¬isFirst (lit2 (i 1))) (q1 : ¬isVar 0#32 (lit2 (i 1))) (q2 : ¬isVar 1#32 (lit2 (i 1))) : res c i arg5 h5 arg6 h6 arg7 h7 x0 x1 a0 a1 a2 = outE c i arg5 h5 arg6 h6 arg7 h7 x0 x1 a0 a1 a2 q0 q1 q2 := by
  unfold res; rw [dif_neg q0, dif_neg q1, dif_neg q2]
theorem res_F (q0 : ¬isFirst (lit2 (i 1))) (q1 : isVar 0#32 (lit2 (i 1))) : res c i arg5 h5 arg6 h6 arg7 h7 x0 x1 a0 a1 a2 = outF c i arg5 h5 arg6 h6 arg7 h7 x0 x1 a0 a1 a2 q0 q1 := by
  unfold res; rw [dif_neg q0, dif_pos q1]

/-- The first point of a row of blocks forgets the scratches. -/
theorem res_first (q0 : isFirst (lit2 (i 1))) (b0 : B0 F c) (b1 : B1 F c) (b2 : B2 F c) :
    res c i arg5 h5 arg6 h6 arg7 h7 x0 x1 a0 a1 a2 = res c i arg5 h5 arg6 h6 arg7 h7 x0 x1 b0 b1 b2 := by
  unfold res; rw [dif_pos q0, dif_pos q0]

attribute [local irreducible] runA runB runC runD runE runF

set_option maxHeartbeats 1000000 in
/-- The body at a point, the output kept or stored. -/
theorem res_sound_idle (hl : ¬isLast (lit2 (i 1))) (y : S16x256x512.Idx → Elt F .bf16) (K : PUnit → sProp 𝕄) :
    iprop(Own c arg5 arg6 tab0 tab1 tab2 x0 x1 a0 a1 a2 ∗ owns (c : Thread nD τ) arg7 fullShare y
      ∗ (iprop(Own c arg5 arg6 tab0 tab1 tab2 x0 x1 (res c i arg5 h5 arg6 h6 arg7 h7 x0 x1 a0 a1 a2).2.1 (res c i arg5 h5 arg6 h6 arg7 h7 x0 x1 a0 a1 a2).2.2.1 (res c i arg5 h5 arg6 h6 arg7 h7 x0 x1 a0 a1 a2).2.2.2 ∗ owns (c : Thread nD τ) arg7 fullShare y) -∗ K ⟨⟩))
      ⊢ wp frame (wpE (defs₀ (F := F)) Variants.none c none) Set.univ (bodyOf i arg5 h5 arg6 h6 arg7 h7) K := by
  by_cases q1 : isVar 0#32 (lit2 (i 1))
  · by_cases q0 : isFirst (lit2 (i 1))
    · rw [res_C c i arg5 h5 arg6 h6 arg7 h7 x0 x1 a0 a1 a2 q0 q1]
      dsimp only [outC]
      exact (atC c i arg5 h5 arg6 h6 arg7 h7 x0 x1 q0 q1).2.2.2 a0 a1 a2 y K
    · rw [res_F c i arg5 h5 arg6 h6 arg7 h7 x0 x1 a0 a1 a2 q0 q1]
      dsimp only [outF]
      exact (atF c i arg5 h5 arg6 h6 arg7 h7 x0 x1 a0 a1 a2 q0 q1).2.2.2 y K
  · by_cases q2 : isVar 1#32 (lit2 (i 1))
    · exact absurd (dec1 _ q1 q2).2 hl
    · exact absurd (dec2 _ q1 q2).2 hl

set_option maxHeartbeats 4000000 in
theorem res_sound_last (hl : isLast (lit2 (i 1))) (y : S16x256x512.Idx → Elt F .bf16) (K : PUnit → sProp 𝕄) :
    iprop(Own c arg5 arg6 tab0 tab1 tab2 x0 x1 a0 a1 a2 ∗ owns (c : Thread nD τ) arg7 fullShare y
      ∗ (iprop(Own c arg5 arg6 tab0 tab1 tab2 x0 x1 (res c i arg5 h5 arg6 h6 arg7 h7 x0 x1 a0 a1 a2).2.1 (res c i arg5 h5 arg6 h6 arg7 h7 x0 x1 a0 a1 a2).2.2.1 (res c i arg5 h5 arg6 h6 arg7 h7 x0 x1 a0 a1 a2).2.2.2
          ∗ owns (c : Thread nD τ) arg7 fullShare (res c i arg5 h5 arg6 h6 arg7 h7 x0 x1 a0 a1 a2).1) -∗ K ⟨⟩))
      ⊢ wp frame (wpE (defs₀ (F := F)) Variants.none c none) Set.univ (bodyOf i arg5 h5 arg6 h6 arg7 h7) K := by
  by_cases q1 : isVar 0#32 (lit2 (i 1))
  · exact absurd hl (dec0 _ q1).2.2
  · by_cases q2 : isVar 1#32 (lit2 (i 1))
    · by_cases q0 : isFirst (lit2 (i 1))
      · rw [res_A c i arg5 h5 arg6 h6 arg7 h7 x0 x1 a0 a1 a2 q0 q1 q2]
        dsimp only [outA]
        iintro ⟨HI, HY, Hk⟩
        iapply (atA c i arg5 h5 arg6 h6 arg7 h7 x0 x1 q0 q1 q2).2.2.2.2 a0 a1 a2 y K
        isplitl [HI]; · iexact HI
        isplitl [HY]; · iexact HY
        iintro ⟨HI, ⟨%f, HY⟩⟩
        iapply Hk
        isplitl [HI]; · iexact HI
        unfold owns; iexists _; isplitr; swap
        · iexact HY
        · ipureintro; exact View.read_writes_of_cover _ _ _ _ _ (coverA c i arg5 h5 arg6 h6 arg7 h7 x0 x1 q0 q1 q2)
      · rw [res_D c i arg5 h5 arg6 h6 arg7 h7 x0 x1 a0 a1 a2 q0 q1 q2]
        dsimp only [outD]
        iintro ⟨HI, HY, Hk⟩
        iapply (atD c i arg5 h5 arg6 h6 arg7 h7 x0 x1 a0 a1 a2 q0 q1 q2).2.2.2.2 y K
        isplitl [HI]; · iexact HI
        isplitl [HY]; · iexact HY
        iintro ⟨HI, ⟨%f, HY⟩⟩
        iapply Hk
        isplitl [HI]; · iexact HI
        unfold owns; iexists _; isplitr; swap
        · iexact HY
        · ipureintro; exact View.read_writes_of_cover _ _ _ _ _ (coverD c i arg5 h5 arg6 h6 arg7 h7 x0 x1 a0 a1 a2 q0 q1 q2)
    · by_cases q0 : isFirst (lit2 (i 1))
      · rw [res_B c i arg5 h5 arg6 h6 arg7 h7 x0 x1 a0 a1 a2 q0 q1 q2]
        dsimp only [outB]
        iintro ⟨HI, HY, Hk⟩
        iapply (atB c i arg5 h5 arg6 h6 arg7 h7 x0 x1 q0 q1 q2).2.2.2.2 a0 a1 a2 y K
        isplitl [HI]; · iexact HI
        isplitl [HY]; · iexact HY
        iintro ⟨HI, ⟨%f, HY⟩⟩
        iapply Hk
        isplitl [HI]; · iexact HI
        unfold owns; iexists _; isplitr; swap
        · iexact HY
        · ipureintro; exact View.read_writes_of_cover _ _ _ _ _ (coverB c i arg5 h5 arg6 h6 arg7 h7 x0 x1 q0 q1 q2)
      · rw [res_E c i arg5 h5 arg6 h6 arg7 h7 x0 x1 a0 a1 a2 q0 q1 q2]
        dsimp only [outE]
        iintro ⟨HI, HY, Hk⟩
        iapply (atE c i arg5 h5 arg6 h6 arg7 h7 x0 x1 a0 a1 a2 q0 q1 q2).2.2.2.2 y K
        isplitl [HI]; · iexact HI
        isplitl [HY]; · iexact HY
        iintro ⟨HI, ⟨%f, HY⟩⟩
        iapply Hk
        isplitl [HI]; · iexact HI
        unfold owns; iexists _; isplitr; swap
        · iexact HY
        · ipureintro; exact View.read_writes_of_cover _ _ _ _ _ (coverE c i arg5 h5 arg6 h6 arg7 h7 x0 x1 a0 a1 a2 q0 q1 q2)

end Cert.KernelIdeal.Attn

end
-- ==== Proof.Attn.Launch.lean ====
/- The prompt attention's run, part 5: the scratches and the output point by point, the body's obligation, and the launch:
   the program terminates without fault, its arguments unchanged, its result the blocks written back. -/
module

public import proofs.«01_k».proof.Proof.Attn.Step
public import Idealize.ShloMosaic.Lib.Claim

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The proof's resource algebra. -/
abbrev EP : Emb (UR sig nD τ) 𝕄 := emb₁

variable (m : (ℓ : Loc nD τ sig) → Buf (Elt F) ℓ) (ρ : Dev nD → PrngReg)

/-- The memory the region finds: the launch's, with the three tables written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes]
    repeat' apply And.intro
    all_goals exact fun hm => StableHlo.devRef_ne_of_ne (fun h => by cases h) (Finset.mem_singleton.mp hm)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes]
    repeat' apply And.intro
    all_goals exact fun hm => StableHlo.devRef_ne_of_ne (fun h => by cases h) (Finset.mem_singleton.mp hm)))
theorem V_c (c : Dev nD) : V m c main_c = tab0 := by
  unfold V hostOps0; simp only [StableHlo.after_cons, StableHlo.after_nil]
  rw [StableHlo.nullary_result_ne' (h := by decide), StableHlo.nullary_result_ne' (h := by decide), StableHlo.nullary_result']; rfl
theorem V_c_0 (c : Dev nD) : V m c main_c_0 = tab1 := by
  unfold V hostOps0; simp only [StableHlo.after_cons, StableHlo.after_nil]
  rw [StableHlo.nullary_result_ne' (h := by decide), StableHlo.nullary_result']; rfl
theorem V_c_1 (c : Dev nD) : V m c main_c_1 = tab2 := by
  unfold V hostOps0; simp only [StableHlo.after_cons, StableHlo.after_nil]
  rw [StableHlo.nullary_result']; rfl

/-- Window `w`'s block at point `t`, read off its array. -/
def iblk (c : Dev nD) (w : Fin (cfgA F).W) (t : Fin (cfgA F).N) : (((cfgA F).win w).xblock (crd t)).Idx → Elt F ((cfgA F).win w).elt :=
  (((cfgA F).win w).blk t).view.read (Elt F) (V m c ((cfgA F).win w).arr.view.ref)

/-- What point `t` leaves, from what the scratches held. -/
def stepT (c : Dev nD) (t : Fin (cfgA F).N) (a : B0 F c × B1 F c × B2 F c) : Out F c :=
  res c (crd t) (ms0 t) (hs0 t) (ms1 t) (hs1 t) (ms2 t) (hs2 t) (iblk m c (0 : Fin 3) t) (iblk m c (1 : Fin 3) t) a.1 a.2.1 a.2.2

/-- What the points up to `n` leave. -/
def traj (c : Dev nD) : (n : ℕ) → n < (cfgA F).N → Out F c
  | 0, h => stepT m c ⟨0, h⟩ (sc0.view.junk, sc1.view.junk, sc2.view.junk)
  | n + 1, h => stepT m c ⟨n + 1, h⟩ (traj c n (Nat.lt_of_succ_lt h)).2

/-- The scratches before position `t`. -/
def prev (c : Dev nD) (t : Fin ((cfgA F).N + 1)) : B0 F c × B1 F c × B2 F c :=
  if h : t.val = 0 then (sc0.view.junk, sc1.view.junk, sc2.view.junk) else (traj m c (t.val - 1) (by omega)).2

theorem prev_succ (c : Dev nD) (t : Fin (cfgA F).N) : prev m c t.succ = (traj m c t.val t.isLt).2 := by
  unfold prev; simp only [Fin.val_succ, Nat.add_one_ne_zero, ↓reduceDIte, Nat.add_one_sub_one]
theorem traj_eq (c : Dev nD) (t : Fin (cfgA F).N) : traj m c t.val t.isLt = stepT m c t (prev m c t.castSucc) := by
  obtain ⟨n, hn⟩ := t
  cases n with
  | zero => rfl
  | succ n => unfold prev; simp only [Fin.val_castSucc, Nat.add_one_ne_zero, dif_neg, not_false_eq_true]; rfl

/-- At a point whose flag says first, what it leaves does not depend on the scratches; the first point is one. -/
theorem traj_of (c : Dev nD) (t : Fin (cfgA F).N) (a : B0 F c × B1 F c × B2 F c) (ha : t.val ≠ 0 → a = prev m c t.castSucc) :
    stepT m c t a = traj m c t.val t.isLt := by
  rw [traj_eq]
  by_cases h : t.val = 0
  · unfold stepT; exact res_first _ _ _ _ _ _ _ _ _ _ _ _ _ (first0 t h) _ _ _
  · rw [ha h]

/-- The invariant before point `t`: the scratches as the points so far left them, and the body's halves of the tables. -/
def Phi (c : Dev nD) (t : Fin ((cfgA F).N + 1)) : sProp 𝕄 :=
  iprop(∃ a0, ∃ a1, ∃ a2, ⌜t.val ≠ 0 → (a0, a1, a2) = prev m c t⌝
    ∗ (sc0.view.loc (c : Thread nD τ) ↦{fullShare} a0) ∗ (sc1.view.loc (c : Thread nD τ) ↦{fullShare} a1) ∗ (sc2.view.loc (c : Thread nD τ) ↦{fullShare} a2)
    ∗ (tb0.view.loc (c : Thread nD τ) ↦{fullShare.right} (tab0 : Buf (Elt F) (tb0.view.loc (c : Thread nD τ))))
    ∗ (tb1.view.loc (c : Thread nD τ) ↦{fullShare.right} (tab1 : Buf (Elt F) (tb1.view.loc (c : Thread nD τ))))
    ∗ (tb2.view.loc (c : Thread nD τ) ↦{fullShare.right} (tab2 : Buf (Elt F) (tb2.view.loc (c : Thread nD τ)))))

/-- The proof data of the one pipeline. -/
def dats (_ : Fin 1) (c : Dev nD) : Dat τ (Elt F) Unit ℕ (UR sig nD τ) ℕ (cfgA F) c where
  A w := V m c ((cfgA F).win w).arr.view.ref
  after w t := match w with
    | ⟨0, _⟩ => iblk m c (0 : Fin 3) t
    | ⟨1, _⟩ => iblk m c (1 : Fin 3) t
    | ⟨2, _⟩ => (traj m c t.val t.isLt).1
  Φ t := Phi m c t
  q _ := fullShare
  owed _ := 0

theorem after0 (c : Dev nD) (t : Fin (cfgA F).N) : (dats m 0 c).after (0 : Fin 3) t = iblk m c (0 : Fin 3) t := rfl
theorem after1 (c : Dev nD) (t : Fin (cfgA F).N) : (dats m 0 c).after (1 : Fin 3) t = iblk m c (1 : Fin 3) t := rfl
theorem after2 (c : Dev nD) (t : Fin (cfgA F).N) : (dats m 0 c).after (2 : Fin 3) t = (traj m c t.val t.isLt).1 := rfl

theorem before0 (c : Dev nD) (t : Fin (cfgA F).N) (d) : (dats m 0 c).before (0 : Fin 3) t d = iblk m c (0 : Fin 3) t :=
  ((dats m 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA F).N) (d) : (dats m 0 c).before (1 : Fin 3) t d = iblk m c (1 : Fin 3) t :=
  ((dats m 0 c).before_in_eq_fetched (1 : Fin 3) rfl (fun _ => rfl) (fun _ _ _ => rfl) (fun t => by rw [after1]; unfold Dat.blockOf iblk; rfl) t d).trans
    (by unfold Dat.fetched Dat.blockOf iblk; rfl)
theorem before2 (c : Dev nD) (t : Fin (cfgA F).N) (d) : (dats m 0 c).before (2 : Fin 3) t d = d := by
  rw [(dats m 0 c).before_out_traj (2 : Fin 3) rfl (fun _ _ => rfl)
    (fun t _ _ hf => absurd hf (by rw [fresh2]; decide)) t.val t rfl d]
  rw [fresh2]; rfl

/-- The body at point `t`, on its staging memrefs. -/
abbrev bodyAt (t : Fin (cfgA F).N) : Prog (TpuEff nD τ sig (Elt F) Λ₀ .tc) PUnit :=
  bodyOf (crd t) (ms0 t) (hs0 t) (ms1 t) (hs1 t) (ms2 t) (hs2 t)

set_option maxHeartbeats 4800000 in
/-- The body's obligation at point `t`. -/
theorem sound_body (c : Dev nD) (t : Fin (cfgA F).N) :
    iprop((dats m 0 c).Φ t.castSucc ∗ (dats m 0 c).owesAt () t.castSucc
        ∗ (∃ d, owns (c : Thread nD τ) (ms0 t) fullShare ((dats m 0 c).before (0 : Fin 3) t d))
        ∗ (∃ d, owns (c : Thread nD τ) (ms1 t) fullShare ((dats m 0 c).before (1 : Fin 3) t d))
        ∗ (∃ d, owns (c : Thread nD τ) (ms2 t) fullShare ((dats m 0 c).before (2 : Fin 3) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  by_cases hl : isLast (lit2 (crd t 1))
  · have i2 : (cfgA F).idle (2 : Fin 3) ((cfgA F).grid.coords t) = false := by
      rw [idle2_eq]; rw [show k0_cond5 (lit2 (crd t 1)) = 1#1 from hl]; rfl
    rewrite [i2]
    simp only [before0, before1, before2, after0, after1, after2]
    rewrite [show (dats m 0 c).Φ t.succ = Phi m c t.succ from rfl, show (dats m 0 c).Φ t.castSucc = Phi m c t.castSucc from rfl,
      show (dats m 0 c).owesAt () t.succ = (dats m 0 c).owesAt () t.castSucc from rfl]
    unfold Phi; simp only [prev_succ, Fin.val_castSucc, Fin.val_succ]
    iintro ⟨⟨%a0, %a1, %a2, %ha, HS0, HS1, HS2, HT0, HT1, HT2⟩, Ho, ⟨%d0, H0⟩, ⟨%d1, H1⟩, ⟨%d2, H2⟩⟩
    rw [← traj_of m c t (a0, a1, a2) ha]
    unfold stepT
    iapply (res_sound_last c (crd t) (ms0 t) (hs0 t) (ms1 t) (hs1 t) (ms2 t) (hs2 t) (iblk m c (0 : Fin 3) t) (iblk m c (1 : Fin 3) t) a0 a1 a2 hl d2 _)
    unfold Own
    isplitl [H0 H1 HT0 HT1 HT2 HS0 HS1 HS2]
    · isplitl [H0]; · iapply rep_of_owns; iexact H0
      isplitl [H1]; · iapply rep_of_owns; iexact H1
      isplitl [HT0]; · iexact HT0
      isplitl [HT1]; · iexact HT1
      isplitl [HT2]; · iexact HT2
      isplitl [HS0]; · iexact HS0
      isplitl [HS1]; · iexact HS1
      iexact HS2
    isplitl [H2]; · iexact H2
    iintro ⟨⟨H0, H1, HT0, HT1, HT2, HS0, HS1, HS2⟩, H2⟩
    isplitl [HS0 HS1 HS2 HT0 HT1 HT2]
    · iexists _; iexists _; iexists _
      isplitr; swap
      · isplitl [HS0]; · iexact HS0
        isplitl [HS1]; · iexact HS1
        isplitl [HS2]; · iexact HS2
        isplitl [HT0]; · iexact HT0
        isplitl [HT1]; · iexact HT1
        iexact HT2
      · ipureintro; intro _; rfl
    isplitl [Ho]; · iexact Ho
    isplitl [H0]; · iapply owns_of_rep; iexact H0
    isplitl [H1]; · iapply owns_of_rep; iexact H1
    iexact H2
  · have hb : (k0_cond5 (lit2 (crd t 1)) == 1#1) = false := by simpa using hl
    have i2 : (cfgA F).idle (2 : Fin 3) ((cfgA F).grid.coords t) = true := by
      rw [idle2_eq, hb]; rfl
    have f2 : ((cfgA F).win (2 : Fin 3)).flush t = false := by rw [flush2_eq, hb]
    rewrite [i2]
    simp only [before0, before1, before2, after0, after1, f2]
    rewrite [show (dats m 0 c).Φ t.succ = Phi m c t.succ from rfl, show (dats m 0 c).Φ t.castSucc = Phi m c t.castSucc from rfl,
      show (dats m 0 c).owesAt () t.succ = (dats m 0 c).owesAt () t.castSucc from rfl]
    unfold Phi; simp only [prev_succ, Fin.val_castSucc, Fin.val_succ]
    iintro ⟨⟨%a0, %a1, %a2, %ha, HS0, HS1, HS2, HT0, HT1, HT2⟩, Ho, ⟨%d0, H0⟩, ⟨%d1, H1⟩, ⟨%d2, H2⟩⟩
    rw [← traj_of m c t (a0, a1, a2) ha]
    unfold stepT
    iapply (res_sound_idle c (crd t) (ms0 t) (hs0 t) (ms1 t) (hs1 t) (ms2 t) (hs2 t) (iblk m c (0 : Fin 3) t) (iblk m c (1 : Fin 3) t) a0 a1 a2 hl d2 _)
    unfold Own
    isplitl [H0 H1 HT0 HT1 HT2 HS0 HS1 HS2]
    · isplitl [H0]; · iapply rep_of_owns; iexact H0
      isplitl [H1]; · iapply rep_of_owns; iexact H1
      isplitl [HT0]; · iexact HT0
      isplitl [HT1]; · iexact HT1
      isplitl [HT2]; · iexact HT2
      isplitl [HS0]; · iexact HS0
      isplitl [HS1]; · iexact HS1
      iexact HS2
    isplitl [H2]; · iexact H2
    iintro ⟨⟨H0, H1, HT0, HT1, HT2, HS0, HS1, HS2⟩, H2⟩
    isplitl [HS0 HS1 HS2 HT0 HT1 HT2]
    · iexists _; iexists _; iexists _
      isplitr; swap
      · isplitl [HS0]; · iexact HS0
        isplitl [HS1]; · iexact HS1
        isplitl [HS2]; · iexact HS2
        isplitl [HT0]; · iexact HT0
        isplitl [HT1]; · iexact HT1
        iexact HT2
      · ipureintro; intro _; rfl
    isplitl [Ho]; · iexact Ho
    isplitl [H0]; · iapply owns_of_rep; iexact H0
    isplitl [H1]; · iapply owns_of_rep; iexact H1
    iexists d2; iexact H2

theorem body_obligation (c : Dev nD) : BodyObligation (dats m 0 c) (defs₀ (F := F)) Variants.none () Set.univ := fun t => by
  rw [bigSep_W0]
  exact sound_body m c t

/-! ## The launch -/

/-- The launch's element of the resource algebra. -/
def u₀ (F : FTy → Type) [FloatOps F] [Named F] : UR sig nD τ :=
  initOf (Pipeline.cells (pcs F) ((launch0 (F := F)).cellOf_inj fun _ => adm))
    (Pipeline.launchToks (pcs F) ((launch0 (F := F)).cellOf_inj fun _ => adm))

theorem share_eq (c : Dev nD) (w : Fin (cfgA F).W) : (dats m 0 c).share w = fullShare := by unfold Dat.share; split <;> rfl

/-- The tables as the launch hands them over, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi0_intro (c : Dev nD) :
    iprop(BI.emp ∗ Pipeline.prefHeld pre0 c (fun _ => fullShare.right) (adm (F := F)).1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1, HT2⟩, ⟨%a0, HS0⟩, ⟨%a1, HS1⟩, ⟨%a2, HS2⟩⟩
  iexists a0; iexists a1; iexists a2
  isplitr; · ipureintro; intro h; exact absurd rfl h
  isplitl [HS0]; · iexact HS0
  isplitl [HS1]; · iexact HS1
  isplitl [HS2]; · iexact HS2
  isplitl [HT0]; · iexact HT0
  isplitl [HT1]; · iexact HT1
  iexact HT2

theorem phiN_exit (c : Dev nD) : (dats m 0 c).Φ (Fin.last (cfgA F).N) ⊢ iprop(BI.emp ∗ Pipeline.scopedRest spec0 c) := by
  rw [scopedRest0_eq, show (dats m 0 c).Φ (Fin.last (cfgA F).N) = Phi m c (Fin.last _) from rfl]
  unfold Phi
  iintro ⟨%a0, %a1, %a2, -, HS0, HS1, HS2, -, -, -⟩
  isplitr; · iempintro
  isplitl [HS0]; · iexists a0; iexact HS0
  isplitl [HS1]; · iexists a1; iexact HS1
  iexists a2; iexact HS2

/-- Every array at what the library computes. -/
def QC : PUnit × MemSt nD τ sig (Elt F) → Prop := fun r =>
  ∀ (c : Dev nD) (w : Fin (cfgA F).W), r.2.mem (((cfgA F).win w).arr.view.loc (c : Thread nD τ)) = (dats m 0 c).arrAt w (cfgA F).N

theorem V_pre (c : Dev nD) (j : Fin 3) : V m c (pre0.ref j) = (adm (F := F)).1 j := by
  fin_cases j
  · exact V_c m c
  · exact V_c_0 m c
  · exact V_c_1 m c

set_option backward.isDefEq.respectTransparency.types false in
set_option maxHeartbeats 4000000 in
/-- From any memory with zero counters: every weakly fair execution of @main terminates, and every final state has each
    array at the computed contents and every semaphore counter at zero. -/
theorem run_main_quiescent : θ_run (defs (F := F)) (onTc (τ := τ) (main (F := F))) ⟨m, fun _ => 0, ρ⟩ (fun r => QC m r ∧ r.2.sem = fun _ => 0) :=
  Pipeline.θ_run_region_noSem_pf_quiescent pcfgs (fun _ => adm) (dats m) () ((launch0 (F := F)).cellOf_inj fun _ => adm) (0 : Fin 1)
    (launch0 (F := F)).win.to₀ (launch0 (F := F)).pre EP defs₀ Variants.none m ρ main
    (hbody := fun c => (body_obligation m c).loose) (hne := (launch0 (F := F)).block_pos)
    (harr := (launch0 (F := F)).arr_whole) (hstage := (launch0 (F := F)).stage_whole) (howed := fun _ _ => rfl)
    (u₀ := u₀ F) (hu₀ := .rfl)
    (V := V m)
    (hmain := Pipeline.hmainP_prefix pcfgs 0 defs₀ Variants.none m main hostOps0 hostOps0_sub hostOps0_fresh main_chain)
    (hsplit := fun c => Pipeline.arrays_split (pcs F) (dats m) 0 (launch0 (F := F)).win.arr_inj c (launch0 (F := F)).arr_whole
      (share_eq m c) _ _ fun _ => rfl)
    (hpf := V_pre m)
    (X := fun _ => iprop(emp)) (Y := fun _ => iprop(emp)) (Z := fun _ => iprop(emp))
    (hX := fun c => by rw [unscopedRestP0_eq]; iintro -; isplitr <;> iempintro)
    (hin := phi0_intro m)
    (hout := phiN_exit m)
    (QY := fun _ _ => True)
    (hY := fun c s' => by
      iintro ⟨-, -, HSI⟩; imodintro
      isplitr; · ipureintro; trivial
      iexact HSI)
    (hQ := fun _ h hz => ⟨fun c => (h c).1, hz⟩)

/-- The result: the output's array after the last point. -/
def outArr (c : Dev nD) : Buf (Elt F) ((c.tc : Thread nD τ).loc main_v0) := (dats m 0 c).arrAt (2 : Fin 3) (cfgA F).N

/-- The run: terminates without fault, the counters at zero, the arguments unchanged, the result as computed. -/
theorem run_main : θ_run (defs (F := F)) (onTc (τ := τ) (main (F := F))) ⟨m, fun _ => 0, ρ⟩ (fun r => (∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨h.1 c (2 : Fin 3),
    ((h.1 c (0 : Fin 3)).trans ((dats m 0 c).arrAt_in (0 : Fin 3) rfl _)).trans (V_arg0 m c),
    ((h.1 c (1 : Fin 3)).trans ((dats m 0 c).arrAt_in (1 : Fin 3) rfl _)).trans (V_arg1 m c)⟩, h.2⟩) (run_main_quiescent m ρ)

/-- The frame: every execution terminates without fault, the arguments unchanged and the counters at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

end Cert.KernelIdeal.Attn

end
-- ==== Proof.Attn.KernelFrame.lean ====
/- The kernel's frame from its ideal program's: the two have the same text but for the masked score, and the run is proved
   over any float values, so read with the word's own value for that name it is the kernel's run. -/
module

public import proofs.«01_k».proof.Defs
public import proofs.«01_k».proof.Proof.Gen.Kernel
public import proofs.«01_k».proof.Proof.Attn.Launch

@[expose] public section

noncomputable section

namespace Cert.KernelIdeal.Attn

open Idealize.ShloMosaic Idealize.SL.Sem

/-- The name read as the float word it stands at. -/
abbrev wordNamed : Named Bits where
  named _ _ {φ} bits := Scalar.ofBits φ bits

set_option maxRecDepth 100000 in
set_option maxHeartbeats 4000000 in
theorem body_eq : @Cert.Kernel.cc0_prompt_attention Bits _ Cert.Kernel.Gen.facts = @Cert.KernelIdeal.cc0_prompt_attention Bits _ wordNamed Cert.KernelIdeal.Gen.facts := rfl

set_option maxRecDepth 100000 in
set_option maxHeartbeats 4000000 in
theorem pcfgs_eq : @Cert.Kernel.pcfgs Bits _ Cert.Kernel.Gen.facts = @Cert.KernelIdeal.pcfgs Bits _ wordNamed Cert.KernelIdeal.Gen.facts := rfl

set_option maxRecDepth 100000 in
set_option maxHeartbeats 4000000 in
theorem defs₀_eq : @Cert.Kernel.defs₀ Bits _ Cert.Kernel.Gen.facts = @Cert.KernelIdeal.defs₀ Bits _ wordNamed Cert.KernelIdeal.Gen.facts := by
  unfold Cert.Kernel.defs₀ Cert.KernelIdeal.defs₀
  congr 1
  funext l a
  match l, a with
  | 0, (t, s) =>
    dsimp only
    rw [body_eq]
    rfl
  | ⟨_ + 1, h⟩, _ => exact absurd h (Nat.not_lt.2 (Nat.le_add_left _ _))

set_option maxRecDepth 100000 in
set_option maxHeartbeats 4000000 in
/-- The kernel as printed: terminates without fault, its arguments unchanged, every counter at zero. -/
theorem frame_kernel : @Cert.quiescent_Kernel Cert.Kernel.Gen.facts := fun m ρ _ => by
  have h := @frame Bits _ wordNamed m ρ
  unfold defs at h
  rw [← defs₀_eq] at h
  exact h

end Cert.KernelIdeal.Attn

end
-- ==== Proof.Attn.Rows.lean ====
/- What a grid point stores in the scratches, head by head: each run's list of stores is sixteen groups of rows, the same
   function of the head's queries, the key block and the head's rows before. -/
module

public import proofs.«01_k».proof.Proof.Attn.Step
public import Idealize.ShloMosaic.Lib.WritesUnit
public import Idealize.ShloMosaic.Lib.VecWindow

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem inbQ (g : Fin 16) : ∀ a, (![g.val, 0, 0] : Fin 3 → ℕ) a + S1x256x576.size a ≤ S16x256x576.size a := by decide +revert

/-- A head's queries. -/
abbrev rQ (g : Fin 16) : Rect S16x256x576 := Rect.unit (s := S16x256x576) ![g.val, 0, 0] S1x256x576.size (inbQ g)

/-- The heads, the last stored first. -/
abbrev heads : List (Fin 16) := [15, 14, 13, 12, 11, 10, 9, 8, 7, 6, 5, 4, 3, 2, 1, 0]

theorem mem_heads (g : Fin 16) : g ∈ heads := by decide +revert
theorem not_mem_drop (g : Fin 16) : g ∉ heads.drop (16 - g.val) := by decide +revert

theorem inbR1 (g : Fin 16) : ∀ a, (![256 * g.val, 0] : Fin 2 → ℕ) a + S256x1.size a ≤ S4096x1.size a := by decide +revert
theorem inbW1 : ∀ a, (![0, 0] : Fin 2 → ℕ) a + S4096x1.size a ≤ S4096x1.size a := by decide
/-- A head's rows of the scratch of 1 columns, and the whole of it. -/
abbrev rR1 (g : Fin 16) : Rect S4096x1 := Rect.unit (s := S4096x1) ![256 * g.val, 0] S256x1.size (inbR1 g)
abbrev rW1 : Rect S4096x1 := Rect.unit (s := S4096x1) ![0, 0] S4096x1.size inbW1
/-- One scratch's stores, from each head's rows. -/
def rows1 (P : Fin 16 → S256x1.Idx → Elt F .f32) (l : List (Fin 16)) : List (View.Piece (Elt F) S4096x1 .f32) :=
  l.map fun g => ⟨rR1 g, P g⟩
/-- A head's rows of the scratch. -/
def hd0 {c : Dev nD} (a : B0 F c) (g : Fin 16) : S256x1.Idx → Elt F .f32 := View.readAt (Elt F) sc0.view (rR1 g).toLoadRect a
/-- What a head's rows hold after the stores: that head's. -/
theorem hit1 (f : sc0.view.ty.Contents (Elt F)) (P : Fin 16 → S256x1.Idx → Elt F .f32) (T : List (View.Piece (Elt F) S4096x1 .f32)) (g : Fin 16) :
    ∀ l : List (Fin 16), g ∈ l → View.readAt (Elt F) sc0.view (rR1 g).toLoadRect (sc0.view.writes (Elt F) f (rows1 P l ++ T)) = P g
  | [], h => absurd h (List.not_mem_nil)
  | k :: l, h => by
    by_cases e : k = g
    · subst e
      funext x
      exact View.read_writes_cons_emb sc0.view f (rR1 k) (P k) (rows1 P l ++ T) x
    · have hl : g ∈ l := by rcases List.mem_cons.mp h with h | h; exacts [absurd h.symm e, h]
      rw [← hit1 f P T g l hl]
      funext x
      refine View.read_writes_cons_unit_of_not_mem sc0.view f (inbR1 k) (P k) (rows1 P l ++ T) _ rfl (0 : Fin 2) ?_
      have hx : (x (0 : Fin 2)).val < 256 := (x (0 : Fin 2)).isLt
      have hk : k.val ≠ g.val := fun h => e (Fin.ext h)
      show 256 * g.val + 1 * (x (0 : Fin 2)).val < 256 * k.val ∨ 256 * k.val + 256 ≤ 256 * g.val + 1 * (x (0 : Fin 2)).val
      omega
/-- Stores to other heads' rows leave a head's rows. -/
theorem miss1 (f : sc0.view.ty.Contents (Elt F)) (P : Fin 16 → S256x1.Idx → Elt F .f32) (T : List (View.Piece (Elt F) S4096x1 .f32)) (g : Fin 16) :
    ∀ l : List (Fin 16), g ∉ l → View.readAt (Elt F) sc0.view (rR1 g).toLoadRect (sc0.view.writes (Elt F) f (rows1 P l ++ T))
      = View.readAt (Elt F) sc0.view (rR1 g).toLoadRect (sc0.view.writes (Elt F) f T)
  | [], h => rfl
  | k :: l, h => by
    have hk : k ≠ g := fun e => h (by rw [e]; exact List.mem_cons_self)
    rw [← miss1 f P T g l (fun h' => h (List.mem_cons_of_mem _ h'))]
    funext x
    refine View.read_writes_cons_unit_of_not_mem sc0.view f (inbR1 k) (P k) (rows1 P l ++ T) _ rfl (0 : Fin 2) ?_
    have hx : (x (0 : Fin 2)).val < 256 := (x (0 : Fin 2)).isLt
    have hk' : k.val ≠ g.val := fun h => hk (Fin.ext h)
    show 256 * g.val + 1 * (x (0 : Fin 2)).val < 256 * k.val ∨ 256 * k.val + 256 ≤ 256 * g.val + 1 * (x (0 : Fin 2)).val
    omega
/-- A head's rows after the first store, of the whole scratch. -/
theorem whole1 (f : sc0.view.ty.Contents (Elt F)) (w : S4096x1.Idx → Elt F .f32) (g : Fin 16) :
    View.readAt (Elt F) sc0.view (rR1 g).toLoadRect (sc0.view.writes (Elt F) f [⟨rW1, w⟩]) = fun x => w ((rR1 g).emb x) := by
  funext x
  exact congrFun (View.read_writes_full sc0.view f inbW1 w []) _
/-- What the covered load of a head's rows finds while the stores to it are still to come: the first store. -/
theorem init1 (P : Fin 16 → S256x1.Idx → Elt F .f32) (w : S4096x1.Idx → Elt F .f32) (H : List (View.Piece (Elt F) S4096x1 .f32))
    (h : H = rows1 P heads ++ [⟨rW1, w⟩]) (g : Fin 16) :
    sc0.view.readCov (H.drop (16 - g.val)) (rR1 g).toLoadRect = fun x => w ((rR1 g).emb x) := by
  have e : H.drop (16 - g.val) = rows1 P (heads.drop (16 - g.val)) ++ [⟨rW1, w⟩] := by
    rw [h]; fin_cases g <;> rfl
  rw [e]
  exact (miss1 sc0.view.junk P [⟨rW1, w⟩] g _ (not_mem_drop g)).trans (whole1 sc0.view.junk w g)

theorem inbR128 (g : Fin 16) : ∀ a, (![256 * g.val, 0] : Fin 2 → ℕ) a + S256x128.size a ≤ S4096x128.size a := by decide +revert
theorem inbW128 : ∀ a, (![0, 0] : Fin 2 → ℕ) a + S4096x128.size a ≤ S4096x128.size a := by decide
/-- A head's rows of the scratch of 128 columns, and the whole of it. -/
abbrev rR128 (g : Fin 16) : Rect S4096x128 := Rect.unit (s := S4096x128) ![256 * g.val, 0] S256x128.size (inbR128 g)
abbrev rW128 : Rect S4096x128 := Rect.unit (s := S4096x128) ![0, 0] S4096x128.size inbW128
/-- One scratch's stores, from each head's rows. -/
def rows128 (P : Fin 16 → S256x128.Idx → Elt F .f32) (l : List (Fin 16)) : List (View.Piece (Elt F) S4096x128 .f32) :=
  l.map fun g => ⟨rR128 g, P g⟩
/-- A head's rows of the scratch. -/
def hd1 {c : Dev nD} (a : B1 F c) (g : Fin 16) : S256x128.Idx → Elt F .f32 := View.readAt (Elt F) sc1.view (rR128 g).toLoadRect a
/-- What a head's rows hold after the stores: that head's. -/
theorem hit128 (f : sc1.view.ty.Contents (Elt F)) (P : Fin 16 → S256x128.Idx → Elt F .f32) (T : List (View.Piece (Elt F) S4096x128 .f32)) (g : Fin 16) :
    ∀ l : List (Fin 16), g ∈ l → View.readAt (Elt F) sc1.view (rR128 g).toLoadRect (sc1.view.writes (Elt F) f (rows128 P l ++ T)) = P g
  | [], h => absurd h (List.not_mem_nil)
  | k :: l, h => by
    by_cases e : k = g
    · subst e
      funext x
      exact View.read_writes_cons_emb sc1.view f (rR128 k) (P k) (rows128 P l ++ T) x
    · have hl : g ∈ l := by rcases List.mem_cons.mp h with h | h; exacts [absurd h.symm e, h]
      rw [← hit128 f P T g l hl]
      funext x
      refine View.read_writes_cons_unit_of_not_mem sc1.view f (inbR128 k) (P k) (rows128 P l ++ T) _ rfl (0 : Fin 2) ?_
      have hx : (x (0 : Fin 2)).val < 256 := (x (0 : Fin 2)).isLt
      have hk : k.val ≠ g.val := fun h => e (Fin.ext h)
      show 256 * g.val + 1 * (x (0 : Fin 2)).val < 256 * k.val ∨ 256 * k.val + 256 ≤ 256 * g.val + 1 * (x (0 : Fin 2)).val
      omega
/-- Stores to other heads' rows leave a head's rows. -/
theorem miss128 (f : sc1.view.ty.Contents (Elt F)) (P : Fin 16 → S256x128.Idx → Elt F .f32) (T : List (View.Piece (Elt F) S4096x128 .f32)) (g : Fin 16) :
    ∀ l : List (Fin 16), g ∉ l → View.readAt (Elt F) sc1.view (rR128 g).toLoadRect (sc1.view.writes (Elt F) f (rows128 P l ++ T))
      = View.readAt (Elt F) sc1.view (rR128 g).toLoadRect (sc1.view.writes (Elt F) f T)
  | [], h => rfl
  | k :: l, h => by
    have hk : k ≠ g := fun e => h (by rw [e]; exact List.mem_cons_self)
    rw [← miss128 f P T g l (fun h' => h (List.mem_cons_of_mem _ h'))]
    funext x
    refine View.read_writes_cons_unit_of_not_mem sc1.view f (inbR128 k) (P k) (rows128 P l ++ T) _ rfl (0 : Fin 2) ?_
    have hx : (x (0 : Fin 2)).val < 256 := (x (0 : Fin 2)).isLt
    have hk' : k.val ≠ g.val := fun h => hk (Fin.ext h)
    show 256 * g.val + 1 * (x (0 : Fin 2)).val < 256 * k.val ∨ 256 * k.val + 256 ≤ 256 * g.val + 1 * (x (0 : Fin 2)).val
    omega
/-- A head's rows after the first store, of the whole scratch. -/
theorem whole128 (f : sc1.view.ty.Contents (Elt F)) (w : S4096x128.Idx → Elt F .f32) (g : Fin 16) :
    View.readAt (Elt F) sc1.view (rR128 g).toLoadRect (sc1.view.writes (Elt F) f [⟨rW128, w⟩]) = fun x => w ((rR128 g).emb x) := by
  funext x
  exact congrFun (View.read_writes_full sc1.view f inbW128 w []) _
/-- What the covered load of a head's rows finds while the stores to it are still to come: the first store. -/
theorem init128 (P : Fin 16 → S256x128.Idx → Elt F .f32) (w : S4096x128.Idx → Elt F .f32) (H : List (View.Piece (Elt F) S4096x128 .f32))
    (h : H = rows128 P heads ++ [⟨rW128, w⟩]) (g : Fin 16) :
    sc1.view.readCov (H.drop (16 - g.val)) (rR128 g).toLoadRect = fun x => w ((rR128 g).emb x) := by
  have e : H.drop (16 - g.val) = rows128 P (heads.drop (16 - g.val)) ++ [⟨rW128, w⟩] := by
    rw [h]; fin_cases g <;> rfl
  rw [e]
  exact (miss128 sc1.view.junk P [⟨rW128, w⟩] g _ (not_mem_drop g)).trans (whole128 sc1.view.junk w g)

theorem inbR512 (g : Fin 16) : ∀ a, (![256 * g.val, 0] : Fin 2 → ℕ) a + S256x512.size a ≤ S4096x512.size a := by decide +revert
theorem inbW512 : ∀ a, (![0, 0] : Fin 2 → ℕ) a + S4096x512.size a ≤ S4096x512.size a := by decide
/-- A head's rows of the scratch of 512 columns, and the whole of it. -/
abbrev rR512 (g : Fin 16) : Rect S4096x512 := Rect.unit (s := S4096x512) ![256 * g.val, 0] S256x512.size (inbR512 g)
abbrev rW512 : Rect S4096x512 := Rect.unit (s := S4096x512) ![0, 0] S4096x512.size inbW512
/-- One scratch's stores, from each head's rows. -/
def rows512 (P : Fin 16 → S256x512.Idx → Elt F .f32) (l : List (Fin 16)) : List (View.Piece (Elt F) S4096x512 .f32) :=
  l.map fun g => ⟨rR512 g, P g⟩
/-- A head's rows of the scratch. -/
def hd2 {c : Dev nD} (a : B2 F c) (g : Fin 16) : S256x512.Idx → Elt F .f32 := View.readAt (Elt F) sc2.view (rR512 g).toLoadRect a
/-- What a head's rows hold after the stores: that head's. -/
theorem hit512 (f : sc2.view.ty.Contents (Elt F)) (P : Fin 16 → S256x512.Idx → Elt F .f32) (T : List (View.Piece (Elt F) S4096x512 .f32)) (g : Fin 16) :
    ∀ l : List (Fin 16), g ∈ l → View.readAt (Elt F) sc2.view (rR512 g).toLoadRect (sc2.view.writes (Elt F) f (rows512 P l ++ T)) = P g
  | [], h => absurd h (List.not_mem_nil)
  | k :: l, h => by
    by_cases e : k = g
    · subst e
      funext x
      exact View.read_writes_cons_emb sc2.view f (rR512 k) (P k) (rows512 P l ++ T) x
    · have hl : g ∈ l := by rcases List.mem_cons.mp h with h | h; exacts [absurd h.symm e, h]
      rw [← hit512 f P T g l hl]
      funext x
      refine View.read_writes_cons_unit_of_not_mem sc2.view f (inbR512 k) (P k) (rows512 P l ++ T) _ rfl (0 : Fin 2) ?_
      have hx : (x (0 : Fin 2)).val < 256 := (x (0 : Fin 2)).isLt
      have hk : k.val ≠ g.val := fun h => e (Fin.ext h)
      show 256 * g.val + 1 * (x (0 : Fin 2)).val < 256 * k.val ∨ 256 * k.val + 256 ≤ 256 * g.val + 1 * (x (0 : Fin 2)).val
      omega
/-- Stores to other heads' rows leave a head's rows. -/
theorem miss512 (f : sc2.view.ty.Contents (Elt F)) (P : Fin 16 → S256x512.Idx → Elt F .f32) (T : List (View.Piece (Elt F) S4096x512 .f32)) (g : Fin 16) :
    ∀ l : List (Fin 16), g ∉ l → View.readAt (Elt F) sc2.view (rR512 g).toLoadRect (sc2.view.writes (Elt F) f (rows512 P l ++ T))
      = View.readAt (Elt F) sc2.view (rR512 g).toLoadRect (sc2.view.writes (Elt F) f T)
  | [], h => rfl
  | k :: l, h => by
    have hk : k ≠ g := fun e => h (by rw [e]; exact List.mem_cons_self)
    rw [← miss512 f P T g l (fun h' => h (List.mem_cons_of_mem _ h'))]
    funext x
    refine View.read_writes_cons_unit_of_not_mem sc2.view f (inbR512 k) (P k) (rows512 P l ++ T) _ rfl (0 : Fin 2) ?_
    have hx : (x (0 : Fin 2)).val < 256 := (x (0 : Fin 2)).isLt
    have hk' : k.val ≠ g.val := fun h => hk (Fin.ext h)
    show 256 * g.val + 1 * (x (0 : Fin 2)).val < 256 * k.val ∨ 256 * k.val + 256 ≤ 256 * g.val + 1 * (x (0 : Fin 2)).val
    omega
/-- A head's rows after the first store, of the whole scratch. -/
theorem whole512 (f : sc2.view.ty.Contents (Elt F)) (w : S4096x512.Idx → Elt F .f32) (g : Fin 16) :
    View.readAt (Elt F) sc2.view (rR512 g).toLoadRect (sc2.view.writes (Elt F) f [⟨rW512, w⟩]) = fun x => w ((rR512 g).emb x) := by
  funext x
  exact congrFun (View.read_writes_full sc2.view f inbW512 w []) _
/-- What the covered load of a head's rows finds while the stores to it are still to come: the first store. -/
theorem init512 (P : Fin 16 → S256x512.Idx → Elt F .f32) (w : S4096x512.Idx → Elt F .f32) (H : List (View.Piece (Elt F) S4096x512 .f32))
    (h : H = rows512 P heads ++ [⟨rW512, w⟩]) (g : Fin 16) :
    sc2.view.readCov (H.drop (16 - g.val)) (rR512 g).toLoadRect = fun x => w ((rR512 g).emb x) := by
  have e : H.drop (16 - g.val) = rows512 P (heads.drop (16 - g.val)) ++ [⟨rW512, w⟩] := by
    rw [h]; fin_cases g <;> rfl
  rw [e]
  exact (miss512 sc2.view.junk P [⟨rW512, w⟩] g _ (not_mem_drop g)).trans (whole512 sc2.view.junk w g)

variable (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (x0 : S16x256x576.Idx → Elt F .bf16) (x1 : S512x576.Idx → Elt F .bf16) (a0 : B0 F c) (a1 : B1 F c) (a2 : B2 F c)

/-- A head's queries, the key block's first 256 rows, the whole key block. -/
abbrev ldQ (g : Fin 16) : Vec F S1x256x576 .bf16 := View.readAt (Elt F) arg5.view (rQ g).toLoadRect (arg5.view.rep x0)
abbrev ldK256 : Vec F S256x576 .bf16 := View.readAt (Elt F) arg6.view (Rect.unit (s := S512x576) ![0, 0] S256x576.size inb_S512x576_S256x576_0_0).toLoadRect (arg6.view.rep x1)
abbrev ldK512 : Vec F S512x576 .bf16 := View.readAt (Elt F) arg6.view (Rect.unit (s := S512x576) ![0, 0] S512x576.size inb_S512x576_S512x576_0_0).toLoadRect (arg6.view.rep x1)

/-- A head's scores at a point: the first 256 keys of the block, masked; the whole block, masked; the whole block. -/
def sc1m (g : Fin 16) : FVec F S256x256 .f32 := k0_pay160 (ldK256 arg6 x1) (k0_pay150 (F := F) (qW F i tab0) (kW F i tab1)) (ldQ arg5 x0 g)
def sc2m (g : Fin 16) : FVec F S256x512 .f32 := k0_pay274 (ldK512 arg6 x1) (k0_pay264 (F := F) (qW F i tab0) (kW F i tab1)) (ldQ arg5 x0 g)
def sc0m (g : Fin 16) : FVec F S256x512 .f32 := k0_pay13 (ldK512 arg6 x1) (ldQ arg5 x0 g)
/-- The values of a point: the latent part of its keys. -/
def vl1 : FVec F S256x512 .bf16 := k0_pay149 (ldK256 arg6 x1)
def vl2 : FVec F S512x512 .bf16 := k0_pay12 (ldK512 arg6 x1)

/-- A head's rows as the first point of a row of blocks sets them. -/
def z0 (g : Fin 16) : S256x1.Idx → Elt F .f32 := fun x => k0_pay1 ((rR1 g).emb x)
def z1 (g : Fin 16) : S256x128.Idx → Elt F .f32 := fun x => k0_pay2 ((rR128 g).emb x)
def z2 (g : Fin 16) : S256x512.Idx → Elt F .f32 := fun x => k0_pay3 ((rR512 g).emb x)

/-- The block of the output made of the whole sums. -/
def oB (s1 : B1 F c) (s2 : B2 F c) : S16x256x512.Idx → Elt F .bf16 :=
  k0_pay11 (View.readAt (Elt F) sc1.view rW128.toLoadRect s1) (View.readAt (Elt F) sc2.view rW512.toLoadRect s2)
theorem inbO : ∀ a, (![0, 0, 0] : Fin 3 → ℕ) a + S16x256x512.size a ≤ S16x256x512.size a := by decide
theorem read_out (w : S16x256x512.Idx → Elt F .bf16) : VO.read (Elt F) (VO.writes (Elt F) VO.junk [⟨Rect.unit (s := S16x256x512) ![0, 0, 0] S16x256x512.size inbO, w⟩]) = w :=
  View.read_writes_full VO VO.junk inbO w []

set_option maxHeartbeats 8000000 in
theorem HS0_A : runA.sl.HS0_17 i arg5 arg6 tab0 tab1 x0 x1
    = rows1 (fun g => k0_pay157 (sc1m i arg5 arg6 x0 x1 g) (sc0.view.readCov ((runA.sl.HS0_17 i arg5 arg6 tab0 tab1 x0 x1).drop (16 - g.val)) (rR1 g).toLoadRect)) heads ++ [⟨rW1, k0_pay1⟩] := rfl

set_option maxHeartbeats 8000000 in
theorem HS1_A : runA.sl.HS1_17 i arg5 arg6 tab0 tab1 x0 x1
    = rows128 (fun g => k0_pay158 (sc1m i arg5 arg6 x0 x1 g) (sc0.view.readCov ((runA.sl.HS0_17 i arg5 arg6 tab0 tab1 x0 x1).drop (16 - g.val)) (rR1 g).toLoadRect) (sc1.view.readCov ((runA.sl.HS1_17 i arg5 arg6 tab0 tab1 x0 x1).drop (16 - g.val)) (rR128 g).toLoadRect)) heads ++ [⟨rW128, k0_pay2⟩] := rfl

set_option maxHeartbeats 8000000 in
theorem HS2_A : runA.sl.HS2_17 i arg5 arg6 tab0 tab1 x0 x1
    = rows512 (fun g => k0_pay159 (vl1 arg6 x1) (sc1m i arg5 arg6 x0 x1 g) (sc0.view.readCov ((runA.sl.HS0_17 i arg5 arg6 tab0 tab1 x0 x1).drop (16 - g.val)) (rR1 g).toLoadRect) (sc2.view.readCov ((runA.sl.HS2_17 i arg5 arg6 tab0 tab1 x0 x1).drop (16 - g.val)) (rR512 g).toLoadRect)) heads ++ [⟨rW512, k0_pay3⟩] := rfl

theorem in0_A (g : Fin 16) : (sc0.view.readCov ((runA.sl.HS0_17 i arg5 arg6 tab0 tab1 x0 x1).drop (16 - g.val)) (rR1 g).toLoadRect) = z0 g := init1 _ _ _ (HS0_A i arg5 arg6 x0 x1) g

theorem in1_A (g : Fin 16) : (sc1.view.readCov ((runA.sl.HS1_17 i arg5 arg6 tab0 tab1 x0 x1).drop (16 - g.val)) (rR128 g).toLoadRect) = z1 g := init128 _ _ _ (HS1_A i arg5 arg6 x0 x1) g

theorem in2_A (g : Fin 16) : (sc2.view.readCov ((runA.sl.HS2_17 i arg5 arg6 tab0 tab1 x0 x1).drop (16 - g.val)) (rR512 g).toLoadRect) = z2 g := init512 _ _ _ (HS2_A i arg5 arg6 x0 x1) g

set_option maxHeartbeats 8000000 in
theorem HS0_B : runB.sl.HS0_17 i arg5 arg6 tab0 tab1 x0 x1
    = rows1 (fun g => k0_pay271 (sc2m i arg5 arg6 x0 x1 g) (sc0.view.readCov ((runB.sl.HS0_17 i arg5 arg6 tab0 tab1 x0 x1).drop (16 - g.val)) (rR1 g).toLoadRect)) heads ++ [⟨rW1, k0_pay1⟩] := rfl

set_option maxHeartbeats 8000000 in
theorem HS1_B : runB.sl.HS1_17 i arg5 arg6 tab0 tab1 x0 x1
    = rows128 (fun g => k0_pay272 (sc2m i arg5 arg6 x0 x1 g) (sc0.view.readCov ((runB.sl.HS0_17 i arg5 arg6 tab0 tab1 x0 x1).drop (16 - g.val)) (rR1 g).toLoadRect) (sc1.view.readCov ((runB.sl.HS1_17 i arg5 arg6 tab0 tab1 x0 x1).drop (16 - g.val)) (rR128 g).toLoadRect)) heads ++ [⟨rW128, k0_pay2⟩] := rfl

set_option maxHeartbeats 8000000 in
theorem HS2_B : runB.sl.HS2_17 i arg5 arg6 tab0 tab1 x0 x1
    = rows512 (fun g => k0_pay273 (vl2 arg6 x1) (sc2m i arg5 arg6 x0 x1 g) (sc0.view.readCov ((runB.sl.HS0_17 i arg5 arg6 tab0 tab1 x0 x1).drop (16 - g.val)) (rR1 g).toLoadRect) (sc2.view.readCov ((runB.sl.HS2_17 i arg5 arg6 tab0 tab1 x0 x1).drop (16 - g.val)) (rR512 g).toLoadRect)) heads ++ [⟨rW512, k0_pay3⟩] := rfl

theorem in0_B (g : Fin 16) : (sc0.view.readCov ((runB.sl.HS0_17 i arg5 arg6 tab0 tab1 x0 x1).drop (16 - g.val)) (rR1 g).toLoadRect) = z0 g := init1 _ _ _ (HS0_B i arg5 arg6 x0 x1) g

theorem in1_B (g : Fin 16) : (sc1.view.readCov ((runB.sl.HS1_17 i arg5 arg6 tab0 tab1 x0 x1).drop (16 - g.val)) (rR128 g).toLoadRect) = z1 g := init128 _ _ _ (HS1_B i arg5 arg6 x0 x1) g

theorem in2_B (g : Fin 16) : (sc2.view.readCov ((runB.sl.HS2_17 i arg5 arg6 tab0 tab1 x0 x1).drop (16 - g.val)) (rR512 g).toLoadRect) = z2 g := init512 _ _ _ (HS2_B i arg5 arg6 x0 x1) g

set_option maxHeartbeats 8000000 in
theorem HS0_C : runC.sl.HS0_17 arg5 arg6 x0 x1
    = rows1 (fun g => k0_pay271 (sc0m arg5 arg6 x0 x1 g) (sc0.view.readCov ((runC.sl.HS0_17 arg5 arg6 x0 x1).drop (16 - g.val)) (rR1 g).toLoadRect)) heads ++ [⟨rW1, k0_pay1⟩] := rfl

set_option maxHeartbeats 8000000 in
theorem HS1_C : runC.sl.HS1_17 arg5 arg6 x0 x1
    = rows128 (fun g => k0_pay272 (sc0m arg5 arg6 x0 x1 g) (sc0.view.readCov ((runC.sl.HS0_17 arg5 arg6 x0 x1).drop (16 - g.val)) (rR1 g).toLoadRect) (sc1.view.readCov ((runC.sl.HS1_17 arg5 arg6 x0 x1).drop (16 - g.val)) (rR128 g).toLoadRect)) heads ++ [⟨rW128, k0_pay2⟩] := rfl

set_option maxHeartbeats 8000000 in
theorem HS2_C : runC.sl.HS2_17 arg5 arg6 x0 x1
    = rows512 (fun g => k0_pay273 (vl2 arg6 x1) (sc0m arg5 arg6 x0 x1 g) (sc0.view.readCov ((runC.sl.HS0_17 arg5 arg6 x0 x1).drop (16 - g.val)) (rR1 g).toLoadRect) (sc2.view.readCov ((runC.sl.HS2_17 arg5 arg6 x0 x1).drop (16 - g.val)) (rR512 g).toLoadRect)) heads ++ [⟨rW512, k0_pay3⟩] := rfl

theorem in0_C (g : Fin 16) : (sc0.view.readCov ((runC.sl.HS0_17 arg5 arg6 x0 x1).drop (16 - g.val)) (rR1 g).toLoadRect) = z0 g := init1 _ _ _ (HS0_C arg5 arg6 x0 x1) g

theorem in1_C (g : Fin 16) : (sc1.view.readCov ((runC.sl.HS1_17 arg5 arg6 x0 x1).drop (16 - g.val)) (rR128 g).toLoadRect) = z1 g := init128 _ _ _ (HS1_C arg5 arg6 x0 x1) g

theorem in2_C (g : Fin 16) : (sc2.view.readCov ((runC.sl.HS2_17 arg5 arg6 x0 x1).drop (16 - g.val)) (rR512 g).toLoadRect) = z2 g := init512 _ _ _ (HS2_C arg5 arg6 x0 x1) g

set_option maxHeartbeats 8000000 in
theorem HS0_D : runD.sl.HS0_16 c i arg5 arg6 tab0 tab1 x0 x1 a0
    = rows1 (fun g => k0_pay157 (sc1m i arg5 arg6 x0 x1 g) (hd0 a0 g)) heads := rfl

set_option maxHeartbeats 8000000 in
theorem HS1_D : runD.sl.HS1_16 c i arg5 arg6 tab0 tab1 x0 x1 a0 a1
    = rows128 (fun g => k0_pay158 (sc1m i arg5 arg6 x0 x1 g) (hd0 a0 g) (hd1 a1 g)) heads := rfl

set_option maxHeartbeats 8000000 in
theorem HS2_D : runD.sl.HS2_16 c i arg5 arg6 tab0 tab1 x0 x1 a0 a2
    = rows512 (fun g => k0_pay159 (vl1 arg6 x1) (sc1m i arg5 arg6 x0 x1 g) (hd0 a0 g) (hd2 a2 g)) heads := rfl

set_option maxHeartbeats 8000000 in
theorem HS0_E : runE.sl.HS0_16 c i arg5 arg6 tab0 tab1 x0 x1 a0
    = rows1 (fun g => k0_pay271 (sc2m i arg5 arg6 x0 x1 g) (hd0 a0 g)) heads := rfl

set_option maxHeartbeats 8000000 in
theorem HS1_E : runE.sl.HS1_16 c i arg5 arg6 tab0 tab1 x0 x1 a0 a1
    = rows128 (fun g => k0_pay272 (sc2m i arg5 arg6 x0 x1 g) (hd0 a0 g) (hd1 a1 g)) heads := rfl

set_option maxHeartbeats 8000000 in
theorem HS2_E : runE.sl.HS2_16 c i arg5 arg6 tab0 tab1 x0 x1 a0 a2
    = rows512 (fun g => k0_pay273 (vl2 arg6 x1) (sc2m i arg5 arg6 x0 x1 g) (hd0 a0 g) (hd2 a2 g)) heads := rfl

set_option maxHeartbeats 8000000 in
theorem HS0_F : runF.sl.HS0_16 c arg5 arg6 x0 x1 a0
    = rows1 (fun g => k0_pay271 (sc0m arg5 arg6 x0 x1 g) (hd0 a0 g)) heads := rfl

set_option maxHeartbeats 8000000 in
theorem HS1_F : runF.sl.HS1_16 c arg5 arg6 x0 x1 a0 a1
    = rows128 (fun g => k0_pay272 (sc0m arg5 arg6 x0 x1 g) (hd0 a0 g) (hd1 a1 g)) heads := rfl

set_option maxHeartbeats 8000000 in
theorem HS2_F : runF.sl.HS2_16 c arg5 arg6 x0 x1 a0 a2
    = rows512 (fun g => k0_pay273 (vl2 arg6 x1) (sc0m arg5 arg6 x0 x1 g) (hd0 a0 g) (hd2 a2 g)) heads := rfl

end Cert.KernelIdeal.Attn

end
-- ==== Proof.Attn.Paths.lean ====
/- What each path leaves in a head's rows of the scratches, and in the output's block. -/
module

public import proofs.«01_k».proof.Proof.Attn.Rows

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (x0 : S16x256x576.Idx → Elt F .bf16) (x1 : S512x576.Idx → Elt F .bf16) (a0 : B0 F c) (a1 : B1 F c) (a2 : B2 F c)

attribute [local irreducible] runA.sl.HS0_17 runA.sl.HS1_17 runA.sl.HS2_17 runB.sl.HS0_17 runB.sl.HS1_17 runB.sl.HS2_17 runC.sl.HS0_17 runC.sl.HS1_17 runC.sl.HS2_17 runD.sl.HS0_16 runD.sl.HS1_16 runD.sl.HS2_16 runE.sl.HS0_16 runE.sl.HS1_16 runE.sl.HS2_16 runF.sl.HS0_16 runF.sl.HS1_16 runF.sl.HS2_16
attribute [local irreducible] View.writes View.readAt View.read k0_pay11

/-- Path A: a head's rows after. -/
theorem hd0_A (q0 : isFirst (lit2 (i 1))) (q1 : ¬isVar 0#32 (lit2 (i 1))) (q2 : isVar 1#32 (lit2 (i 1))) (g : Fin 16) : hd0 (outA c i arg5 h5 arg6 h6 arg7 h7 x0 x1 q0 q1 q2).2.1 g = k0_pay157 (sc1m i arg5 arg6 x0 x1 g) (z0 g) := by
  have e : (outA c i arg5 h5 arg6 h6 arg7 h7 x0 x1 q0 q1 q2).2.1 = sc0.view.writes (Elt F) sc0.view.junk (rows1 (fun g => k0_pay157 (sc1m i arg5 arg6 x0 x1 g) (sc0.view.readCov ((runA.sl.HS0_17 i arg5 arg6 tab0 tab1 x0 x1).drop (16 - g.val)) (rR1 g).toLoadRect)) heads ++ [⟨rW1, k0_pay1⟩]) := by
    rw [← HS0_A i arg5 arg6 x0 x1]; rfl
  rw [e]
  refine (hit1 _ _ _ g heads (mem_heads g)).trans ?_
  dsimp only
  rw [in0_A i arg5 arg6 x0 x1 g]

/-- Path A: a head's rows after. -/
theorem hd1_A (q0 : isFirst (lit2 (i 1))) (q1 : ¬isVar 0#32 (lit2 (i 1))) (q2 : isVar 1#32 (lit2 (i 1))) (g : Fin 16) : hd1 (outA c i arg5 h5 arg6 h6 arg7 h7 x0 x1 q0 q1 q2).2.2.1 g = k0_pay158 (sc1m i arg5 arg6 x0 x1 g) (z0 g) (z1 g) := by
  have e : (outA c i arg5 h5 arg6 h6 arg7 h7 x0 x1 q0 q1 q2).2.2.1 = sc1.view.writes (Elt F) sc1.view.junk (rows128 (fun g => k0_pay158 (sc1m i arg5 arg6 x0 x1 g) (sc0.view.readCov ((runA.sl.HS0_17 i arg5 arg6 tab0 tab1 x0 x1).drop (16 - g.val)) (rR1 g).toLoadRect) (sc1.view.readCov ((runA.sl.HS1_17 i arg5 arg6 tab0 tab1 x0 x1).drop (16 - g.val)) (rR128 g).toLoadRect)) heads ++ [⟨rW128, k0_pay2⟩]) := by
    rw [← HS1_A i arg5 arg6 x0 x1]; rfl
  rw [e]
  refine (hit128 _ _ _ g heads (mem_heads g)).trans ?_
  dsimp only
  rw [in0_A i arg5 arg6 x0 x1 g, in1_A i arg5 arg6 x0 x1 g]

/-- Path A: a head's rows after. -/
theorem hd2_A (q0 : isFirst (lit2 (i 1))) (q1 : ¬isVar 0#32 (lit2 (i 1))) (q2 : isVar 1#32 (lit2 (i 1))) (g : Fin 16) : hd2 (outA c i arg5 h5 arg6 h6 arg7 h7 x0 x1 q0 q1 q2).2.2.2 g = k0_pay159 (vl1 arg6 x1) (sc1m i arg5 arg6 x0 x1 g) (z0 g) (z2 g) := by
  have e : (outA c i arg5 h5 arg6 h6 arg7 h7 x0 x1 q0 q1 q2).2.2.2 = sc2.view.writes (Elt F) sc2.view.junk (rows512 (fun g => k0_pay159 (vl1 arg6 x1) (sc1m i arg5 arg6 x0 x1 g) (sc0.view.readCov ((runA.sl.HS0_17 i arg5 arg6 tab0 tab1 x0 x1).drop (16 - g.val)) (rR1 g).toLoadRect) (sc2.view.readCov ((runA.sl.HS2_17 i arg5 arg6 tab0 tab1 x0 x1).drop (16 - g.val)) (rR512 g).toLoadRect)) heads ++ [⟨rW512, k0_pay3⟩]) := by
    rw [← HS2_A i arg5 arg6 x0 x1]; rfl
  rw [e]
  refine (hit512 _ _ _ g heads (mem_heads g)).trans ?_
  dsimp only
  rw [in0_A i arg5 arg6 x0 x1 g, in2_A i arg5 arg6 x0 x1 g]

/-- Path A: the block of the output. -/
theorem out_A (q0 : isFirst (lit2 (i 1))) (q1 : ¬isVar 0#32 (lit2 (i 1))) (q2 : isVar 1#32 (lit2 (i 1))) : (outA c i arg5 h5 arg6 h6 arg7 h7 x0 x1 q0 q1 q2).1 = oB c (outA c i arg5 h5 arg6 h6 arg7 h7 x0 x1 q0 q1 q2).2.2.1 (outA c i arg5 h5 arg6 h6 arg7 h7 x0 x1 q0 q1 q2).2.2.2 :=
  read_out _

/-- Path B: a head's rows after. -/
theorem hd0_B (q0 : isFirst (lit2 (i 1))) (q1 : ¬isVar 0#32 (lit2 (i 1))) (q2 : ¬isVar 1#32 (lit2 (i 1))) (g : Fin 16) : hd0 (outB c i arg5 h5 arg6 h6 arg7 h7 x0 x1 q0 q1 q2).2.1 g = k0_pay271 (sc2m i arg5 arg6 x0 x1 g) (z0 g) := by
  have e : (outB c i arg5 h5 arg6 h6 arg7 h7 x0 x1 q0 q1 q2).2.1 = sc0.view.writes (Elt F) sc0.view.junk (rows1 (fun g => k0_pay271 (sc2m i arg5 arg6 x0 x1 g) (sc0.view.readCov ((runB.sl.HS0_17 i arg5 arg6 tab0 tab1 x0 x1).drop (16 - g.val)) (rR1 g).toLoadRect)) heads ++ [⟨rW1, k0_pay1⟩]) := by
    rw [← HS0_B i arg5 arg6 x0 x1]; rfl
  rw [e]
  refine (hit1 _ _ _ g heads (mem_heads g)).trans ?_
  dsimp only
  rw [in0_B i arg5 arg6 x0 x1 g]

/-- Path B: a head's rows after. -/
theorem hd1_B (q0 : isFirst (lit2 (i 1))) (q1 : ¬isVar 0#32 (lit2 (i 1))) (q2 : ¬isVar 1#32 (lit2 (i 1))) (g : Fin 16) : hd1 (outB c i arg5 h5 arg6 h6 arg7 h7 x0 x1 q0 q1 q2).2.2.1 g = k0_pay272 (sc2m i arg5 arg6 x0 x1 g) (z0 g) (z1 g) := by
  have e : (outB c i arg5 h5 arg6 h6 arg7 h7 x0 x1 q0 q1 q2).2.2.1 = sc1.view.writes (Elt F) sc1.view.junk (rows128 (fun g => k0_pay272 (sc2m i arg5 arg6 x0 x1 g) (sc0.view.readCov ((runB.sl.HS0_17 i arg5 arg6 tab0 tab1 x0 x1).drop (16 - g.val)) (rR1 g).toLoadRect) (sc1.view.readCov ((runB.sl.HS1_17 i arg5 arg6 tab0 tab1 x0 x1).drop (16 - g.val)) (rR128 g).toLoadRect)) heads ++ [⟨rW128, k0_pay2⟩]) := by
    rw [← HS1_B i arg5 arg6 x0 x1]; rfl
  rw [e]
  refine (hit128 _ _ _ g heads (mem_heads g)).trans ?_
  dsimp only
  rw [in0_B i arg5 arg6 x0 x1 g, in1_B i arg5 arg6 x0 x1 g]

/-- Path B: a head's rows after. -/
theorem hd2_B (q0 : isFirst (lit2 (i 1))) (q1 : ¬isVar 0#32 (lit2 (i 1))) (q2 : ¬isVar 1#32 (lit2 (i 1))) (g : Fin 16) : hd2 (outB c i arg5 h5 arg6 h6 arg7 h7 x0 x1 q0 q1 q2).2.2.2 g = k0_pay273 (vl2 arg6 x1) (sc2m i arg5 arg6 x0 x1 g) (z0 g) (z2 g) := by
  have e : (outB c i arg5 h5 arg6 h6 arg7 h7 x0 x1 q0 q1 q2).2.2.2 = sc2.view.writes (Elt F) sc2.view.junk (rows512 (fun g => k0_pay273 (vl2 arg6 x1) (sc2m i arg5 arg6 x0 x1 g) (sc0.view.readCov ((runB.sl.HS0_17 i arg5 arg6 tab0 tab1 x0 x1).drop (16 - g.val)) (rR1 g).toLoadRect) (sc2.view.readCov ((runB.sl.HS2_17 i arg5 arg6 tab0 tab1 x0 x1).drop (16 - g.val)) (rR512 g).toLoadRect)) heads ++ [⟨rW512, k0_pay3⟩]) := by
    rw [← HS2_B i arg5 arg6 x0 x1]; rfl
  rw [e]
  refine (hit512 _ _ _ g heads (mem_heads g)).trans ?_
  dsimp only
  rw [in0_B i arg5 arg6 x0 x1 g, in2_B i arg5 arg6 x0 x1 g]

/-- Path B: the block of the output. -/
theorem out_B (q0 : isFirst (lit2 (i 1))) (q1 : ¬isVar 0#32 (lit2 (i 1))) (q2 : ¬isVar 1#32 (lit2 (i 1))) : (outB c i arg5 h5 arg6 h6 arg7 h7 x0 x1 q0 q1 q2).1 = oB c (outB c i arg5 h5 arg6 h6 arg7 h7 x0 x1 q0 q1 q2).2.2.1 (outB c i arg5 h5 arg6 h6 arg7 h7 x0 x1 q0 q1 q2).2.2.2 :=
  read_out _

/-- Path C: a head's rows after. -/
theorem hd0_C (q0 : isFirst (lit2 (i 1))) (q1 : isVar 0#32 (lit2 (i 1))) (g : Fin 16) : hd0 (outC c i arg5 h5 arg6 h6 arg7 h7 x0 x1 q0 q1).2.1 g = k0_pay271 (sc0m arg5 arg6 x0 x1 g) (z0 g) := by
  have e : (outC c i arg5 h5 arg6 h6 arg7 h7 x0 x1 q0 q1).2.1 = sc0.view.writes (Elt F) sc0.view.junk (rows1 (fun g => k0_pay271 (sc0m arg5 arg6 x0 x1 g) (sc0.view.readCov ((runC.sl.HS0_17 arg5 arg6 x0 x1).drop (16 - g.val)) (rR1 g).toLoadRect)) heads ++ [⟨rW1, k0_pay1⟩]) := by
    rw [← HS0_C arg5 arg6 x0 x1]; rfl
  rw [e]
  refine (hit1 _ _ _ g heads (mem_heads g)).trans ?_
  dsimp only
  rw [in0_C arg5 arg6 x0 x1 g]

/-- Path C: a head's rows after. -/
theorem hd1_C (q0 : isFirst (lit2 (i 1))) (q1 : isVar 0#32 (lit2 (i 1))) (g : Fin 16) : hd1 (outC c i arg5 h5 arg6 h6 arg7 h7 x0 x1 q0 q1).2.2.1 g = k0_pay272 (sc0m arg5 arg6 x0 x1 g) (z0 g) (z1 g) := by
  have e : (outC c i arg5 h5 arg6 h6 arg7 h7 x0 x1 q0 q1).2.2.1 = sc1.view.writes (Elt F) sc1.view.junk (rows128 (fun g => k0_pay272 (sc0m arg5 arg6 x0 x1 g) (sc0.view.readCov ((runC.sl.HS0_17 arg5 arg6 x0 x1).drop (16 - g.val)) (rR1 g).toLoadRect) (sc1.view.readCov ((runC.sl.HS1_17 arg5 arg6 x0 x1).drop (16 - g.val)) (rR128 g).toLoadRect)) heads ++ [⟨rW128, k0_pay2⟩]) := by
    rw [← HS1_C arg5 arg6 x0 x1]; rfl
  rw [e]
  refine (hit128 _ _ _ g heads (mem_heads g)).trans ?_
  dsimp only
  rw [in0_C arg5 arg6 x0 x1 g, in1_C arg5 arg6 x0 x1 g]

/-- Path C: a head's rows after. -/
theorem hd2_C (q0 : isFirst (lit2 (i 1))) (q1 : isVar 0#32 (lit2 (i 1))) (g : Fin 16) : hd2 (outC c i arg5 h5 arg6 h6 arg7 h7 x0 x1 q0 q1).2.2.2 g = k0_pay273 (vl2 arg6 x1) (sc0m arg5 arg6 x0 x1 g) (z0 g) (z2 g) := by
  have e : (outC c i arg5 h5 arg6 h6 arg7 h7 x0 x1 q0 q1).2.2.2 = sc2.view.writes (Elt F) sc2.view.junk (rows512 (fun g => k0_pay273 (vl2 arg6 x1) (sc0m arg5 arg6 x0 x1 g) (sc0.view.readCov ((runC.sl.HS0_17 arg5 arg6 x0 x1).drop (16 - g.val)) (rR1 g).toLoadRect) (sc2.view.readCov ((runC.sl.HS2_17 arg5 arg6 x0 x1).drop (16 - g.val)) (rR512 g).toLoadRect)) heads ++ [⟨rW512, k0_pay3⟩]) := by
    rw [← HS2_C arg5 arg6 x0 x1]; rfl
  rw [e]
  refine (hit512 _ _ _ g heads (mem_heads g)).trans ?_
  dsimp only
  rw [in0_C arg5 arg6 x0 x1 g, in2_C arg5 arg6 x0 x1 g]

/-- Path D: a head's rows after. -/
theorem hd0_D (q0 : ¬isFirst (lit2 (i 1))) (q1 : ¬isVar 0#32 (lit2 (i 1))) (q2 : isVar 1#32 (lit2 (i 1))) (g : Fin 16) : hd0 (outD c i arg5 h5 arg6 h6 arg7 h7 x0 x1 a0 a1 a2 q0 q1 q2).2.1 g = k0_pay157 (sc1m i arg5 arg6 x0 x1 g) (hd0 a0 g) := by
  have e : (outD c i arg5 h5 arg6 h6 arg7 h7 x0 x1 a0 a1 a2 q0 q1 q2).2.1 = sc0.view.writes (Elt F) sc0.view.junk (rows1 (fun g => k0_pay157 (sc1m i arg5 arg6 x0 x1 g) (hd0 a0 g)) heads ++ []) := by
    rw [List.append_nil, ← HS0_D c i arg5 arg6 x0 x1 a0]; rfl
  rw [e]
  refine (hit1 _ _ _ g heads (mem_heads g)).trans ?_
  rfl

/-- Path D: a head's rows after. -/
theorem hd1_D (q0 : ¬isFirst (lit2 (i 1))) (q1 : ¬isVar 0#32 (lit2 (i 1))) (q2 : isVar 1#32 (lit2 (i 1))) (g : Fin 16) : hd1 (outD c i arg5 h5 arg6 h6 arg7 h7 x0 x1 a0 a1 a2 q0 q1 q2).2.2.1 g = k0_pay158 (sc1m i arg5 arg6 x0 x1 g) (hd0 a0 g) (hd1 a1 g) := by
  have e : (outD c i arg5 h5 arg6 h6 arg7 h7 x0 x1 a0 a1 a2 q0 q1 q2).2.2.1 = sc1.view.writes (Elt F) sc1.view.junk (rows128 (fun g => k0_pay158 (sc1m i arg5 arg6 x0 x1 g) (hd0 a0 g) (hd1 a1 g)) heads ++ []) := by
    rw [List.append_nil, ← HS1_D c i arg5 arg6 x0 x1 a0 a1]; rfl
  rw [e]
  refine (hit128 _ _ _ g heads (mem_heads g)).trans ?_
  rfl

/-- Path D: a head's rows after. -/
theorem hd2_D (q0 : ¬isFirst (lit2 (i 1))) (q1 : ¬isVar 0#32 (lit2 (i 1))) (q2 : isVar 1#32 (lit2 (i 1))) (g : Fin 16) : hd2 (outD c i arg5 h5 arg6 h6 arg7 h7 x0 x1 a0 a1 a2 q0 q1 q2).2.2.2 g = k0_pay159 (vl1 arg6 x1) (sc1m i arg5 arg6 x0 x1 g) (hd0 a0 g) (hd2 a2 g) := by
  have e : (outD c i arg5 h5 arg6 h6 arg7 h7 x0 x1 a0 a1 a2 q0 q1 q2).2.2.2 = sc2.view.writes (Elt F) sc2.view.junk (rows512 (fun g => k0_pay159 (vl1 arg6 x1) (sc1m i arg5 arg6 x0 x1 g) (hd0 a0 g) (hd2 a2 g)) heads ++ []) := by
    rw [List.append_nil, ← HS2_D c i arg5 arg6 x0 x1 a0 a2]; rfl
  rw [e]
  refine (hit512 _ _ _ g heads (mem_heads g)).trans ?_
  rfl

/-- Path D: the block of the output. -/
theorem out_D (q0 : ¬isFirst (lit2 (i 1))) (q1 : ¬isVar 0#32 (lit2 (i 1))) (q2 : isVar 1#32 (lit2 (i 1))) : (outD c i arg5 h5 arg6 h6 arg7 h7 x0 x1 a0 a1 a2 q0 q1 q2).1 = oB c (outD c i arg5 h5 arg6 h6 arg7 h7 x0 x1 a0 a1 a2 q0 q1 q2).2.2.1 (outD c i arg5 h5 arg6 h6 arg7 h7 x0 x1 a0 a1 a2 q0 q1 q2).2.2.2 :=
  read_out _

/-- Path E: a head's rows after. -/
theorem hd0_E (q0 : ¬isFirst (lit2 (i 1))) (q1 : ¬isVar 0#32 (lit2 (i 1))) (q2 : ¬isVar 1#32 (lit2 (i 1))) (g : Fin 16) : hd0 (outE c i arg5 h5 arg6 h6 arg7 h7 x0 x1 a0 a1 a2 q0 q1 q2).2.1 g = k0_pay271 (sc2m i arg5 arg6 x0 x1 g) (hd0 a0 g) := by
  have e : (outE c i arg5 h5 arg6 h6 arg7 h7 x0 x1 a0 a1 a2 q0 q1 q2).2.1 = sc0.view.writes (Elt F) sc0.view.junk (rows1 (fun g => k0_pay271 (sc2m i arg5 arg6 x0 x1 g) (hd0 a0 g)) heads ++ []) := by
    rw [List.append_nil, ← HS0_E c i arg5 arg6 x0 x1 a0]; rfl
  rw [e]
  refine (hit1 _ _ _ g heads (mem_heads g)).trans ?_
  rfl

/-- Path E: a head's rows after. -/
theorem hd1_E (q0 : ¬isFirst (lit2 (i 1))) (q1 : ¬isVar 0#32 (lit2 (i 1))) (q2 : ¬isVar 1#32 (lit2 (i 1))) (g : Fin 16) : hd1 (outE c i arg5 h5 arg6 h6 arg7 h7 x0 x1 a0 a1 a2 q0 q1 q2).2.2.1 g = k0_pay272 (sc2m i arg5 arg6 x0 x1 g) (hd0 a0 g) (hd1 a1 g) := by
  have e : (outE c i arg5 h5 arg6 h6 arg7 h7 x0 x1 a0 a1 a2 q0 q1 q2).2.2.1 = sc1.view.writes (Elt F) sc1.view.junk (rows128 (fun g => k0_pay272 (sc2m i arg5 arg6 x0 x1 g) (hd0 a0 g) (hd1 a1 g)) heads ++ []) := by
    rw [List.append_nil, ← HS1_E c i arg5 arg6 x0 x1 a0 a1]; rfl
  rw [e]
  refine (hit128 _ _ _ g heads (mem_heads g)).trans ?_
  rfl

/-- Path E: a head's rows after. -/
theorem hd2_E (q0 : ¬isFirst (lit2 (i 1))) (q1 : ¬isVar 0#32 (lit2 (i 1))) (q2 : ¬isVar 1#32 (lit2 (i 1))) (g : Fin 16) : hd2 (outE c i arg5 h5 arg6 h6 arg7 h7 x0 x1 a0 a1 a2 q0 q1 q2).2.2.2 g = k0_pay273 (vl2 arg6 x1) (sc2m i arg5 arg6 x0 x1 g) (hd0 a0 g) (hd2 a2 g) := by
  have e : (outE c i arg5 h5 arg6 h6 arg7 h7 x0 x1 a0 a1 a2 q0 q1 q2).2.2.2 = sc2.view.writes (Elt F) sc2.view.junk (rows512 (fun g => k0_pay273 (vl2 arg6 x1) (sc2m i arg5 arg6 x0 x1 g) (hd0 a0 g) (hd2 a2 g)) heads ++ []) := by
    rw [List.append_nil, ← HS2_E c i arg5 arg6 x0 x1 a0 a2]; rfl
  rw [e]
  refine (hit512 _ _ _ g heads (mem_heads g)).trans ?_
  rfl

/-- Path E: the block of the output. -/
theorem out_E (q0 : ¬isFirst (lit2 (i 1))) (q1 : ¬isVar 0#32 (lit2 (i 1))) (q2 : ¬isVar 1#32 (lit2 (i 1))) : (outE c i arg5 h5 arg6 h6 arg7 h7 x0 x1 a0 a1 a2 q0 q1 q2).1 = oB c (outE c i arg5 h5 arg6 h6 arg7 h7 x0 x1 a0 a1 a2 q0 q1 q2).2.2.1 (outE c i arg5 h5 arg6 h6 arg7 h7 x0 x1 a0 a1 a2 q0 q1 q2).2.2.2 :=
  read_out _

/-- Path F: a head's rows after. -/
theorem hd0_F (q0 : ¬isFirst (lit2 (i 1))) (q1 : isVar 0#32 (lit2 (i 1))) (g : Fin 16) : hd0 (outF c i arg5 h5 arg6 h6 arg7 h7 x0 x1 a0 a1 a2 q0 q1).2.1 g = k0_pay271 (sc0m arg5 arg6 x0 x1 g) (hd0 a0 g) := by
  have e : (outF c i arg5 h5 arg6 h6 arg7 h7 x0 x1 a0 a1 a2 q0 q1).2.1 = sc0.view.writes (Elt F) sc0.view.junk (rows1 (fun g => k0_pay271 (sc0m arg5 arg6 x0 x1 g) (hd0 a0 g)) heads ++ []) := by
    rw [List.append_nil, ← HS0_F c arg5 arg6 x0 x1 a0]; rfl
  rw [e]
  refine (hit1 _ _ _ g heads (mem_heads g)).trans ?_
  rfl

/-- Path F: a head's rows after. -/
theorem hd1_F (q0 : ¬isFirst (lit2 (i 1))) (q1 : isVar 0#32 (lit2 (i 1))) (g : Fin 16) : hd1 (outF c i arg5 h5 arg6 h6 arg7 h7 x0 x1 a0 a1 a2 q0 q1).2.2.1 g = k0_pay272 (sc0m arg5 arg6 x0 x1 g) (hd0 a0 g) (hd1 a1 g) := by
  have e : (outF c i arg5 h5 arg6 h6 arg7 h7 x0 x1 a0 a1 a2 q0 q1).2.2.1 = sc1.view.writes (Elt F) sc1.view.junk (rows128 (fun g => k0_pay272 (sc0m arg5 arg6 x0 x1 g) (hd0 a0 g) (hd1 a1 g)) heads ++ []) := by
    rw [List.append_nil, ← HS1_F c arg5 arg6 x0 x1 a0 a1]; rfl
  rw [e]
  refine (hit128 _ _ _ g heads (mem_heads g)).trans ?_
  rfl

/-- Path F: a head's rows after. -/
theorem hd2_F (q0 : ¬isFirst (lit2 (i 1))) (q1 : isVar 0#32 (lit2 (i 1))) (g : Fin 16) : hd2 (outF c i arg5 h5 arg6 h6 arg7 h7 x0 x1 a0 a1 a2 q0 q1).2.2.2 g = k0_pay273 (vl2 arg6 x1) (sc0m arg5 arg6 x0 x1 g) (hd0 a0 g) (hd2 a2 g) := by
  have e : (outF c i arg5 h5 arg6 h6 arg7 h7 x0 x1 a0 a1 a2 q0 q1).2.2.2 = sc2.view.writes (Elt F) sc2.view.junk (rows512 (fun g => k0_pay273 (vl2 arg6 x1) (sc0m arg5 arg6 x0 x1 g) (hd0 a0 g) (hd2 a2 g)) heads ++ []) := by
    rw [List.append_nil, ← HS2_F c arg5 arg6 x0 x1 a0 a2]; rfl
  rw [e]
  refine (hit512 _ _ _ g heads (mem_heads g)).trans ?_
  rfl

end Cert.KernelIdeal.Attn

end
-- ==== Proof.Attn.Softmax.lean ====
/- One query's softmax, online and at once: the running maximum, sums and outputs after any number of keys, and their
   quotient, over the extended reals. -/
module

public import Idealize.ShloMosaic.PureOps.BitExact
public import Idealize.ShloMosaic.PureOps.Ideal
public import Idealize.ShloMosaic.Lib.Pointwise

@[expose] public section

set_option maxRecDepth 16384
set_option Elab.async false

noncomputable section

namespace Cert.KernelIdeal.Attn

open Idealize.ShloMosaic
open Finset

/-- A finite sum of reals, read as extended reals. -/
theorem coeSum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The weight of key `k` for query `q`, relative to the maximum `μ`: nothing beyond the query. -/
def wt (r : ℕ → ℝ) (q : ℕ) (μ : ℝ) (k : ℕ) : ℝ := if k ≤ q then (2 : ℝ) ^ (r k - μ) else 0

/-- The causal attention of query `q`: its keys' values, weighted by two to their scores. -/
def attn (r : ℕ → ℝ) (v : ℕ → Fin 512 → ℝ) (q : ℕ) (c : Fin 512) : ℝ :=
  (∑ k ∈ range (q + 1), (2 : ℝ) ^ r k * v k c) / ∑ k ∈ range (q + 1), (2 : ℝ) ^ r k

/-- The state of one query's row after `n` keys: nothing yet, or a maximum and the weights relative to it, summed by lane
    and against the values. -/
def St (r : ℕ → ℝ) (v : ℕ → Fin 512 → ℝ) (q n : ℕ) (m : EReal) (l : Fin 128 → EReal) (a : Fin 512 → EReal) : Prop :=
  (n = 0 ∧ m = ⊥ ∧ (∀ j, l j = 0) ∧ ∀ c, a c = 0) ∨
  ∃ μ : ℝ, m = (μ : EReal) ∧ (∀ j : Fin 128, l j = ((∑ k ∈ range n, if k % 128 = j.val then wt r q μ k else 0 : ℝ) : EReal))
    ∧ ∀ c, a c = ((∑ k ∈ range n, wt r q μ k * v k c : ℝ) : EReal)

theorem wt_rescale (r : ℕ → ℝ) (q : ℕ) (μ μ' : ℝ) (k : ℕ) : wt r q μ k * (2 : ℝ) ^ (μ - μ') = wt r q μ' k := by
  unfold wt
  split
  · rw [← Real.rpow_add (by norm_num)]; congr 1; ring
  · rw [zero_mul]

theorem exp2_coe' (x : ℝ) : Ideal.exp2 (x : EReal) = (((2 : ℝ) ^ x : ℝ) : EReal) := rfl

/-- A block of scores: the real score of a key within reach of the query, nothing beyond it. -/
def blk (r : ℕ → ℝ) (q n : ℕ) {N : ℕ} (s : Fin N → EReal) : Prop :=
  ∀ k : Fin N, s k = if n + k.val ≤ q then (r (n + k.val) : EReal) else ⊥

theorem weight_blk {r : ℕ → ℝ} {q n N : ℕ} {s : Fin N → EReal} (hs : blk r q n s) (μ : ℝ) (k : Fin N) :
    Ideal.exp2 (s k - (μ : EReal)) = ((wt r q μ (n + k.val) : ℝ) : EReal) := by
  rw [hs k]; unfold wt
  split
  · rw [← EReal.coe_sub, exp2_coe']
  · rw [EReal.bot_sub]; rfl

theorem max_real {r : ℕ → ℝ} {q n N : ℕ} (hN : 0 < N) {s : Fin N → EReal} (hs : blk r q n s) {m : EReal} (hm : m ≠ ⊤) (h0 : n = 0 ∨ m ≠ ⊥) :
    ∃ μ : ℝ, max m (univ.sup s) = (μ : EReal) := by
  have ht : max m (univ.sup s) < ⊤ := by
    refine max_lt (lt_top_iff_ne_top.mpr hm) ((Finset.sup_lt_iff bot_lt_top).mpr fun k _ => ?_)
    rw [hs k]; split
    · exact EReal.coe_lt_top _
    · exact bot_lt_top
  have hb : max m (univ.sup s) ≠ ⊥ := by
    rcases h0 with h0 | h0
    · intro h
      have h1 : s ⟨0, hN⟩ ≤ max m (univ.sup s) := le_trans (Finset.le_sup (mem_univ _)) (le_max_right _ _)
      rw [h, le_bot_iff, hs, if_pos (by subst h0; exact Nat.zero_le _)] at h1
      exact EReal.coe_ne_bot _ h1
    · intro h
      exact h0 (le_bot_iff.mp (h ▸ le_max_left m (univ.sup s)))
  exact ⟨_, (EReal.coe_toReal ht.ne hb).symm⟩

theorem lane_split (f : ℕ → ℝ) (n N : ℕ) (hn : 128 ∣ n) (j : Fin 128) :
    (∑ k ∈ range (n + N), if k % 128 = j.val then f k else 0)
      = (∑ k ∈ range n, if k % 128 = j.val then f k else 0) + ∑ k : Fin N, if k.val % 128 = j.val then f (n + k.val) else 0 := by
  rw [Finset.sum_range_add, ← Fin.sum_univ_eq_sum_range (fun k => if (n + k) % 128 = j.val then f (n + k) else 0) N]
  congr 1
  refine Finset.sum_congr rfl fun k _ => ?_
  obtain ⟨d, rfl⟩ := hn
  rw [Nat.mul_add_mod]

/-- One block of keys: the state after it. -/
theorem St.step {r : ℕ → ℝ} {v : ℕ → Fin 512 → ℝ} {q n N : ℕ} {m : EReal} {l : Fin 128 → EReal} {a : Fin 512 → EReal}
    (h : St r v q n m l a) (hn : 128 ∣ n) (hN : 0 < N) (s : Fin N → EReal) (hs : blk r q n s) (w : Fin N → Fin 512 → EReal)
    (hw : ∀ k c, w k c = (v (n + k.val) c : EReal)) (m' : EReal) (hm' : m' = max m (univ.sup s)) (l' : Fin 128 → EReal)
    (hl' : ∀ j : Fin 128, l' j = l j * Ideal.exp2 (m - m') + ∑ k : Fin N, if k.val % 128 = j.val then Ideal.exp2 (s k - m') else 0)
    (a' : Fin 512 → EReal) (ha' : ∀ c, a' c = a c * Ideal.exp2 (m - m') + ∑ k : Fin N, Ideal.exp2 (s k - m') * w k c) :
    St r v q (n + N) m' l' a' := by
  right
  have hr : ∃ μ' : ℝ, m' = (μ' : EReal) := by
    rw [hm']
    rcases h with ⟨h0, hm, -, -⟩ | ⟨μ, hm, -, -⟩
    · exact max_real hN hs (by rw [hm]; exact bot_ne_top) (Or.inl h0)
    · exact max_real hN hs (by rw [hm]; exact EReal.coe_ne_top _) (Or.inr (by rw [hm]; exact EReal.coe_ne_bot _))
  obtain ⟨μ', hμ⟩ := hr
  refine ⟨μ', hμ, fun j => ?_, fun c => ?_⟩
  · rw [hl' j, hμ, lane_split _ n N hn, EReal.coe_add]
    congr 1
    · rcases h with ⟨h0, hm, hl, -⟩ | ⟨μ, hm, hl, -⟩
      · rw [hl j, zero_mul, h0, range_zero, sum_empty, EReal.coe_zero]
      · rw [hl j, hm, ← EReal.coe_sub, exp2_coe', ← EReal.coe_mul, Finset.sum_mul]
        congr 1
        refine Finset.sum_congr rfl fun k _ => ?_
        split
        · exact wt_rescale r q μ μ' k
        · rw [zero_mul]
    · rw [coeSum]
      refine Finset.sum_congr rfl fun k _ => ?_
      split
      · exact weight_blk hs μ' k
      · rw [EReal.coe_zero]
  · rw [ha' c, hμ, Finset.sum_range_add, EReal.coe_add]
    congr 1
    · rcases h with ⟨h0, hm, -, ha⟩ | ⟨μ, hm, -, ha⟩
      · rw [ha c, zero_mul, h0, range_zero, sum_empty, EReal.coe_zero]
      · rw [ha c, hm, ← EReal.coe_sub, exp2_coe', ← EReal.coe_mul, Finset.sum_mul]
        congr 1
        refine Finset.sum_congr rfl fun k _ => ?_
        rw [← wt_rescale r q μ μ' k]; ring
    · rw [← Fin.sum_univ_eq_sum_range (fun k => wt r q μ' (n + k) * v (n + k) c) N, coeSum]
      refine Finset.sum_congr rfl fun k _ => ?_
      rw [weight_blk hs μ' k, hw k c, EReal.coe_mul]

theorem sum_wt (r : ℕ → ℝ) (q n : ℕ) (μ : ℝ) (hq : q < n) (f : ℕ → ℝ) :
    (∑ k ∈ range n, wt r q μ k * f k) = (∑ k ∈ range (q + 1), (2 : ℝ) ^ r k * f k) * (2 : ℝ) ^ (-μ) := by
  rw [Finset.sum_mul, ← Finset.sum_subset (s₁ := range (q + 1)) (s₂ := range n)]
  · refine Finset.sum_congr rfl fun k hk => ?_
    have : k ≤ q := by have := mem_range.mp hk; omega
    rw [wt, if_pos this, sub_eq_add_neg, Real.rpow_add (by norm_num)]; ring
  · intro k hk; have := mem_range.mp hk; exact mem_range.mpr (by omega)
  · intro k _ hk
    have : ¬k ≤ q := fun h => hk (mem_range.mpr (by omega))
    rw [wt, if_neg this, zero_mul]

theorem den_pos (r : ℕ → ℝ) (q : ℕ) : 0 < ∑ k ∈ range (q + 1), (2 : ℝ) ^ r k :=
  Finset.sum_pos (fun k _ => Real.rpow_pos_of_pos (by norm_num) _) ⟨0, mem_range.mpr (by omega)⟩

theorem div_real (x y : ℝ) (h : y ≠ 0) : Ideal.div (x : EReal) (y : EReal) = ((x / y : ℝ) : EReal) := by
  rw [Ideal.div_coe h, ← EReal.coe_mul]; congr 1; ring

/-- The quotient, once every key within reach is in: the attention. -/
theorem St.final {r : ℕ → ℝ} {v : ℕ → Fin 512 → ℝ} {q n : ℕ} {m : EReal} {l : Fin 128 → EReal} {a : Fin 512 → EReal}
    (h : St r v q n m l a) (hq : q < n) (c : Fin 512) : Ideal.div (a c) (∑ j : Fin 128, l j) = ((attn r v q c : ℝ) : EReal) := by
  rcases h with ⟨h0, -⟩ | ⟨μ, -, hl, ha⟩
  · omega
  have e : (∑ j : Fin 128, l j) = ((∑ k ∈ range n, wt r q μ k * 1 : ℝ) : EReal) := by
    rw [Finset.sum_congr rfl (fun j _ => hl j), ← coeSum, Finset.sum_comm]
    congr 1
    refine Finset.sum_congr rfl fun k _ => ?_
    rw [Finset.sum_eq_single (⟨k % 128, Nat.mod_lt _ (by norm_num)⟩ : Fin 128)]
    · rw [if_pos rfl, mul_one]
    · intro j _ hj
      exact if_neg fun h => hj (Fin.ext h.symm)
    · intro h; exact absurd (mem_univ _) h
  have hp : (2 : ℝ) ^ (-μ) ≠ 0 := (Real.rpow_pos_of_pos (by norm_num) _).ne'
  have hd := (den_pos r q).ne'
  rw [e, ha c, sum_wt r q n μ hq, sum_wt r q n μ hq (fun _ => 1)]
  simp only [mul_one]
  rw [div_real _ _ (mul_ne_zero hd hp)]
  congr 1
  unfold attn
  field_simp

/-- Two lanes' worth of keys, and four. -/
theorem chunk2 (f : Fin 256 → EReal) (j : Fin 128) :
    (∑ k : Fin 256, if k.val % 128 = j.val then f k else 0) = f ⟨0 + j.val, by omega⟩ + f ⟨128 + j.val, by omega⟩ := by
  have hj := j.isLt
  rw [← Finset.sum_filter]
  have e : (univ.filter fun k : Fin 256 => k.val % 128 = j.val) = {⟨0 + j.val, by omega⟩, ⟨128 + j.val, by omega⟩} := by
    ext k; have := k.isLt
    simp only [mem_filter, mem_univ, true_and, mem_insert, mem_singleton, Fin.ext_iff]
    omega
  rw [e, Finset.sum_pair (fun h => by have := congrArg Fin.val h; dsimp only at this; omega)]

theorem chunk4 (f : Fin 512 → EReal) (j : Fin 128) :
    (∑ k : Fin 512, if k.val % 128 = j.val then f k else 0)
      = f ⟨0 + j.val, by omega⟩ + f ⟨128 + j.val, by omega⟩ + f ⟨256 + j.val, by omega⟩ + f ⟨384 + j.val, by omega⟩ := by
  have hj := j.isLt
  rw [← Finset.sum_filter]
  have e : (univ.filter fun k : Fin 512 => k.val % 128 = j.val)
      = {⟨0 + j.val, by omega⟩, ⟨128 + j.val, by omega⟩, ⟨256 + j.val, by omega⟩, ⟨384 + j.val, by omega⟩} := by
    ext k; have := k.isLt
    simp only [mem_filter, mem_univ, true_and, mem_insert, mem_singleton, Fin.ext_iff]
    omega
  rw [e, Finset.sum_insert, Finset.sum_insert, Finset.sum_pair]
  · rw [add_assoc, add_assoc]
  · simp only [ne_eq, Fin.ext_iff]; omega
  · simp only [mem_insert, mem_singleton, Fin.ext_iff, not_or]; omega
  · simp only [mem_insert, mem_singleton, Fin.ext_iff, not_or]; omega

/-- The softmax taken at once: the scores times the logarithm of two, the maximum subtracted, the weights divided by
    their sum, the values weighted. -/
theorem softmax_at_once {N : ℕ} (r : ℕ → ℝ) (v : ℕ → Fin 512 → ℝ) (q : ℕ) (hq : q < N) (s e : Fin N → EReal)
    (hs : ∀ k : Fin N, s k = if k.val ≤ q then ((r k.val * Real.log 2 : ℝ) : EReal) else ⊥)
    (M : EReal) (hM : M = max ⊥ (univ.sup s)) (he : ∀ k, e k = Ideal.exp (s k - M))
    (L : EReal) (hL : L = 0 + ∑ k, e k) (w : Fin N → Fin 512 → EReal) (hw : ∀ k c, w k c = (v k.val c : EReal)) (c : Fin 512) :
    (∑ k, Ideal.div (e k) L * w k c) = ((attn r v q c : ℝ) : EReal) := by
  have hb : blk (fun k => r k * Real.log 2) q 0 s := fun k => by rw [hs k, Nat.zero_add]
  obtain ⟨μ, hμ⟩ := max_real (Nat.lt_of_le_of_lt (Nat.zero_le _) hq) hb (m := ⊥) bot_ne_top (Or.inl rfl)
  rw [← hM] at hμ
  have he' : ∀ k : Fin N, e k = ((wt r q 0 k.val * Real.exp (-μ) : ℝ) : EReal) := fun k => by
    rw [he k, hs k, hμ]; unfold wt
    split
    · rw [← EReal.coe_sub, Ideal.exp_coe, sub_eq_add_neg, Real.exp_add, sub_zero, Real.rpow_def_of_pos (by norm_num), mul_comm (r _)]
    · rw [EReal.bot_sub, zero_mul]; rfl
  have hL' : L = (((∑ k ∈ range (q + 1), (2 : ℝ) ^ r k) * Real.exp (-μ) : ℝ) : EReal) := by
    rw [hL, zero_add, Finset.sum_congr rfl (fun k _ => he' k), ← coeSum, ← Finset.sum_mul,
      Fin.sum_univ_eq_sum_range (fun k => wt r q 0 k) N]
    have := sum_wt r q N 0 hq (fun _ => 1)
    simp only [mul_one, neg_zero, Real.rpow_zero] at this
    rw [this]
  have hp : Real.exp (-μ) ≠ 0 := (Real.exp_pos _).ne'
  have hd := (den_pos r q).ne'
  have e1 : ∀ k : Fin N, Ideal.div (e k) L * w k c
      = (((wt r q 0 k.val * v k.val c) * (∑ k ∈ range (q + 1), (2 : ℝ) ^ r k)⁻¹ : ℝ) : EReal) := fun k => by
    rw [he' k, hL', hw k c, div_real _ _ (mul_ne_zero hd hp), ← EReal.coe_mul]
    congr 1
    field_simp
  rw [Finset.sum_congr rfl (fun k _ => e1 k), ← coeSum, ← Finset.sum_mul, Fin.sum_univ_eq_sum_range (fun k => wt r q 0 k * v k c) N,
    sum_wt r q N 0 hq (fun k => v k c)]
  congr 1
  rw [neg_zero, Real.rpow_zero, mul_one]
  rfl

end Cert.KernelIdeal.Attn

end
-- ==== Proof.Attn.Elements.lean ====
/- The vector terms of a grid point, element by element, over the extended reals. -/
module

public import proofs.«01_k».proof.Proof.Attn.Rows
public import proofs.«01_k».proof.Proof.Attn.Softmax
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.KernelIdeal.Attn

open Cert.KernelIdeal Cert.KernelIdeal.Gen
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic

theorem neg_inf : Ideal.ofBits .f32 0xFF800000#32 = ⊥ := by simp [Ideal.ofBits, Ideal.ieee]

/-- The mask's value. -/
theorem named_mask : Named.named (F := Ideal) (φ := .f32) κ "mask" 0xF149F2CA#32 = (⊥ : EReal) :=
  IdealRules.named_const.ideal_named_scalar κ "mask" _ _ (by simp [κ])

/-- Comparing two small numbers as words. -/
theorem sle_small (a b : ℕ) (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [Bool.eq_iff_iff, BitVec.sle_iff_toInt_le, BitVec.toInt_eq_toNat_of_lt, BitVec.toInt_eq_toNat_of_lt, BitVec.toNat_ofNat, BitVec.toNat_ofNat,
      Nat.mod_eq_of_lt (by omega), Nat.mod_eq_of_lt (by omega), decide_eq_true_iff]
    · exact Int.ofNat_le
    · rw [BitVec.toNat_ofNat, Nat.mod_eq_of_lt (by omega)]; omega
    · rw [BitVec.toNat_ofNat, Nat.mod_eq_of_lt (by omega)]; omega
  unfold IntOp.cmpi
  simp only [h]
  by_cases hab : a ≤ b <;> simp [hab]

/-! ### Blocks of 256 keys -/

theorem max256 (s : FVec Ideal S256x256 .f32) (m : FVec Ideal S256x1 .f32) (r : Fin 256) :
    k0_pay154 (F := Ideal) s m (ix2 r 0) = max (m (ix2 r 0)) (Finset.univ.sup fun k : Fin 256 => s (ix2 r k)) := by
  unfold k0_pay154
  show max (m (ix2 r 0)) (shapeCast S256x1 (multiReduction .maximumf [1] S256 s 0xFF800000#32 reduces_S256x256_S256 (.inl rfl) rfl) shapeCasts_S256_S256x1 (ix2 r 0)) = _
  rw [shapeCast_a_a1_apply]
  refine congrArg (max _) ((Ideal.multiReduction_maximumf_single s 0xFF800000#32 reduces_S256x256_S256 (.inl rfl) rfl (ix1 r)).trans ?_)
  show Finset.fold max (Ideal.ofBits .f32 0xFF800000#32) _ _ = _
  rw [neg_inf]
  have e : s ∘ reduces_S256x256_S256.lift (ix1 r) = fun k : Fin 256 => s (ix2 r k) := by
    funext k
    exact congrArg s (funext fun a => match a with | ⟨0, _⟩ => rfl | ⟨1, _⟩ => rfl)
  rw [e]
  rfl

theorem new256 (s : FVec Ideal S256x256 .f32) (m : FVec Ideal S256x1 .f32) (r : Fin 256) :
    k0_pay157 (F := Ideal) s m (ix2 r 0) = max (m (ix2 r 0)) (Finset.univ.sup fun k : Fin 256 => s (ix2 r k)) := by
  unfold k0_pay157
  rw [shapeCast_self, max256]

theorem corr256 (s : FVec Ideal S256x256 .f32) (m : FVec Ideal S256x1 .f32) (r : Fin 256) :
    k0_pay155 (F := Ideal) s m (ix2 r 0) = Ideal.exp2 (m (ix2 r 0) - k0_pay157 (F := Ideal) s m (ix2 r 0)) := by
  rw [new256, ← max256]; rfl

theorem bc1_256 {N : ℕ} (x : S256x1.Idx → EReal) (h : S256x1.Broadcasts ⟨2, ![256, N]⟩) (r : Fin 256) (k : Fin N) :
    broadcastTo ⟨2, ![256, N]⟩ x h (ix2 r k) = x (ix2 r 0) :=
  broadcastTo_apply x h _ _ (fun a => match a with | ⟨0, _⟩ => rfl | ⟨1, _⟩ => rfl)

theorem prob256 (s : FVec Ideal S256x256 .f32) (m : FVec Ideal S256x1 .f32) (r : Fin 256) (k : Fin 256) :
    k0_pay156 (F := Ideal) s m (ix2 r k) = Ideal.exp2 (s (ix2 r k) - k0_pay157 (F := Ideal) s m (ix2 r 0)) := by
  rw [new256, ← max256]
  unfold k0_pay156
  show Ideal.exp2 (s (ix2 r k) - broadcastTo S256x256 (k0_pay154 (F := Ideal) s m) broadcasts_S256x1_S256x256 (ix2 r k)) = _
  rw [bc1_256]

theorem slice256 (x : FVec Ideal S256x256 .f32) (o : ℕ) (ho : o + 128 ≤ 256) (h : S256x256.Slices ![0, o] S256x128) (r : Fin 256) (j : Fin 128) :
    extractStridedSlice S256x128 ![0, o] x h (ix2 r j) = x (ix2 r ⟨o + j.val, by omega⟩) :=
  extractStridedSlice_apply _ x h _ _ (fun a => match a with | ⟨0, _⟩ => (Nat.zero_add _).symm | ⟨1, _⟩ => rfl)

theorem lane256 (s : FVec Ideal S256x256 .f32) (m : FVec Ideal S256x1 .f32) (l : FVec Ideal S256x128 .f32) (r : Fin 256) (j : Fin 128) :
    k0_pay158 (F := Ideal) s m l (ix2 r j) = l (ix2 r j) * Ideal.exp2 (m (ix2 r 0) - k0_pay157 (F := Ideal) s m (ix2 r 0))
      + ∑ k : Fin 256, if k.val % 128 = j.val then Ideal.exp2 (s (ix2 r k) - k0_pay157 (F := Ideal) s m (ix2 r 0)) else 0 := by
  rw [chunk2 (fun k => Ideal.exp2 (s (ix2 r k) - k0_pay157 (F := Ideal) s m (ix2 r 0))) j, ← corr256]
  simp only [← prob256]
  unfold k0_pay158
  rw [shapeCast_self]
  simp only [addf_apply, mulf_apply]
  rw [bc1_256]
  congr 1
  rw [slice256 _ 0 (by norm_num), slice256 _ 128 (by norm_num)]

theorem out256 (v : FVec Ideal S256x512 .bf16) (s : FVec Ideal S256x256 .f32) (m : FVec Ideal S256x1 .f32) (a : FVec Ideal S256x512 .f32) (r : Fin 256) (c : Fin 512) :
    k0_pay159 (F := Ideal) v s m a (ix2 r c) = a (ix2 r c) * Ideal.exp2 (m (ix2 r 0) - k0_pay157 (F := Ideal) s m (ix2 r 0))
      + ∑ k : Fin 256, Ideal.exp2 (s (ix2 r k) - k0_pay157 (F := Ideal) s m (ix2 r 0)) * v (ix2 k c) := by
  rw [← corr256]
  simp only [← prob256]
  unfold k0_pay159
  rw [shapeCast_self]
  simp only [addf_apply, mulf_apply]
  rw [bc1_256]
  congr 1
  show FloatOps.matmul (F := Ideal) (DotDims.plain 256 256 512) none (truncf .bf16 (k0_pay156 (F := Ideal) s m) bitsLt_bf16_f32) v (constant S256x512 .f32 0x00000000#32) (ix2 r c) = _
  rw [Ideal.matmul_plain_apply, constant_apply, Ideal.ofBits_zero_f32, zero_add]
  rfl

theorem vals256 (k : FVec Ideal S256x576 .bf16) (j : Fin 256) (c : Fin 512) :
    k0_pay149 (F := Ideal) k (ix2 j c) = k (ix2 j ⟨c.val, by omega⟩) :=
  extractStridedSlice_apply _ k slices_S256x576_o0_0_S256x512 _ _ (fun a => match a with | ⟨0, _⟩ => (Nat.zero_add _).symm | ⟨1, _⟩ => (Nat.zero_add _).symm)

theorem dot256 (q : FVec Ideal S1x256x576 .bf16) (k : FVec Ideal S256x576 .bf16) (r : Fin 256) (j : Fin 256) :
    matmul (F := Ideal) dot_S256x576_S256x576_S256x256_1_1_0_0_n_n none (shapeCast S256x576 q shapeCasts_S1x256x576_S256x576) k (constant S256x256 .f32 0x00000000#32) (ix2 r j)
      = ∑ d : Fin 576, q (ix3 0 r d) * k (ix2 j d) := by
  show FloatOps.matmul (F := Ideal) (DotDims.transposedRhs 256 576 256) none (shapeCast S256x576 q shapeCasts_S1x256x576_S256x576) k (constant S256x256 .f32 0x00000000#32) (ix2 r j) = _
  rw [Ideal.matmul_transposedRhs_apply, constant_apply, Ideal.ofBits_zero_f32, zero_add]
  refine Finset.sum_congr rfl fun d _ => ?_
  rw [shapeCast_1ab_ab_apply]

theorem mask256 (i j : ℕ) (hi : i < 16) (hj : j < 8) (r : Fin 256) (k : Fin 256) :
    k0_pay150 (F := Ideal) (BitVec.ofNat 32 i) (BitVec.ofNat 32 j) (ix3 0 r k) = if 512 * j + k.val ≤ 256 * i + r.val then 1#1 else 0#1 := by
  unfold k0_pay150
  dsimp only
  rw [shapeCast_ab_1ab_apply]
  show IntOp.cmpi .sle (BitVec.ofNat 32 j * 512#32 + BitVec.ofNat 32 (0 * 256 + k.val)) (BitVec.ofNat 32 i * 256#32 + BitVec.ofNat 32 (0 * 256 + r.val)) = _
  have e1 : BitVec.ofNat 32 j * 512#32 + BitVec.ofNat 32 (0 * 256 + k.val) = BitVec.ofNat 32 (512 * j + k.val) := by
    apply BitVec.eq_of_toNat_eq
    simp only [BitVec.toNat_add, BitVec.toNat_mul, BitVec.toNat_ofNat]
    omega
  have e2 : BitVec.ofNat 32 i * 256#32 + BitVec.ofNat 32 (0 * 256 + r.val) = BitVec.ofNat 32 (256 * i + r.val) := by
    apply BitVec.eq_of_toNat_eq
    simp only [BitVec.toNat_add, BitVec.toNat_mul, BitVec.toNat_ofNat]
    omega
  rw [e1, e2]
  exact sle_small _ _ (by omega) (by omega)

theorem masked256 (q : FVec Ideal S1x256x576 .bf16) (k : FVec Ideal S256x576 .bf16) (i j : ℕ) (hi : i < 16) (hj : j < 8) (r : Fin 256) (n : Fin 256) :
    k0_pay160 (F := Ideal) k (k0_pay150 (F := Ideal) (BitVec.ofNat 32 i) (BitVec.ofNat 32 j)) q (ix2 r n)
      = if 512 * j + n.val ≤ 256 * i + r.val then ∑ d : Fin 576, q (ix3 0 r d) * k (ix2 n d) else ⊥ := by
  unfold k0_pay160
  rw [shapeCast_1ab_ab_apply, select_apply, shapeCast_ab_1ab_apply, dot256, mask256 i j hi hj]
  split
  · rw [select_one]
  · rw [select_zero, broadcast_apply, named_mask]

/-! ### Blocks of 512 keys -/

theorem max512 (s : FVec Ideal S256x512 .f32) (m : FVec Ideal S256x1 .f32) (r : Fin 256) :
    k0_pay268 (F := Ideal) s m (ix2 r 0) = max (m (ix2 r 0)) (Finset.univ.sup fun k : Fin 512 => s (ix2 r k)) := by
  unfold k0_pay268
  show max (m (ix2 r 0)) (shapeCast S256x1 (multiReduction .maximumf [1] S256 s 0xFF800000#32 reduces_S256x512_S256 (.inl rfl) rfl) shapeCasts_S256_S256x1 (ix2 r 0)) = _
  rw [shapeCast_a_a1_apply]
  refine congrArg (max _) ((Ideal.multiReduction_maximumf_single s 0xFF800000#32 reduces_S256x512_S256 (.inl rfl) rfl (ix1 r)).trans ?_)
  show Finset.fold max (Ideal.ofBits .f32 0xFF800000#32) _ _ = _
  rw [neg_inf]
  have e : s ∘ reduces_S256x512_S256.lift (ix1 r) = fun k : Fin 512 => s (ix2 r k) := by
    funext k
    exact congrArg s (funext fun a => match a with | ⟨0, _⟩ => rfl | ⟨1, _⟩ => rfl)
  rw [e]
  rfl

theorem new512 (s : FVec Ideal S256x512 .f32) (m : FVec Ideal S256x1 .f32) (r : Fin 256) :
    k0_pay271 (F := Ideal) s m (ix2 r 0) = max (m (ix2 r 0)) (Finset.univ.sup fun k : Fin 512 => s (ix2 r k)) := by
  unfold k0_pay271
  rw [shapeCast_self, max512]

theorem corr512 (s : FVec Ideal S256x512 .f32) (m : FVec Ideal S256x1 .f32) (r : Fin 256) :
    k0_pay269 (F := Ideal) s m (ix2 r 0) = Ideal.exp2 (m (ix2 r 0) - k0_pay271 (F := Ideal) s m (ix2 r 0)) := by
  rw [new512, ← max512]; rfl

theorem bc1_512 {N : ℕ} (x : S256x1.Idx → EReal) (h : S256x1.Broadcasts ⟨2, ![256, N]⟩) (r : Fin 256) (k : Fin N) :
    broadcastTo ⟨2, ![256, N]⟩ x h (ix2 r k) = x (ix2 r 0) :=
  broadcastTo_apply x h _ _ (fun a => match a with | ⟨0, _⟩ => rfl | ⟨1, _⟩ => rfl)

theorem prob512 (s : FVec Ideal S256x512 .f32) (m : FVec Ideal S256x1 .f32) (r : Fin 256) (k : Fin 512) :
    k0_pay270 (F := Ideal) s m (ix2 r k) = Ideal.exp2 (s (ix2 r k) - k0_pay271 (F := Ideal) s m (ix2 r 0)) := by
  rw [new512, ← max512]
  unfold k0_pay270
  show Ideal.exp2 (s (ix2 r k) - broadcastTo S256x512 (k0_pay268 (F := Ideal) s m) broadcasts_S256x1_S256x512 (ix2 r k)) = _
  rw [bc1_512]

theorem slice512 (x : FVec Ideal S256x512 .f32) (o : ℕ) (ho : o + 128 ≤ 512) (h : S256x512.Slices ![0, o] S256x128) (r : Fin 256) (j : Fin 128) :
    extractStridedSlice S256x128 ![0, o] x h (ix2 r j) = x (ix2 r ⟨o + j.val, by omega⟩) :=
  extractStridedSlice_apply _ x h _ _ (fun a => match a with | ⟨0, _⟩ => (Nat.zero_add _).symm | ⟨1, _⟩ => rfl)

theorem lane512 (s : FVec Ideal S256x512 .f32) (m : FVec Ideal S256x1 .f32) (l : FVec Ideal S256x128 .f32) (r : Fin 256) (j : Fin 128) :
    k0_pay272 (F := Ideal) s m l (ix2 r j) = l (ix2 r j) * Ideal.exp2 (m (ix2 r 0) - k0_pay271 (F := Ideal) s m (ix2 r 0))
      + ∑ k : Fin 512, if k.val % 128 = j.val then Ideal.exp2 (s (ix2 r k) - k0_pay271 (F := Ideal) s m (ix2 r 0)) else 0 := by
  rw [chunk4 (fun k => Ideal.exp2 (s (ix2 r k) - k0_pay271 (F := Ideal) s m (ix2 r 0))) j, ← corr512]
  simp only [← prob512]
  unfold k0_pay272
  rw [shapeCast_self]
  simp only [addf_apply, mulf_apply]
  rw [bc1_512]
  congr 1
  rw [slice512 _ 0 (by norm_num), slice512 _ 128 (by norm_num), slice512 _ 256 (by norm_num), slice512 _ 384 (by norm_num)]

theorem out512 (v : FVec Ideal S512x512 .bf16) (s : FVec Ideal S256x512 .f32) (m : FVec Ideal S256x1 .f32) (a : FVec Ideal S256x512 .f32) (r : Fin 256) (c : Fin 512) :
    k0_pay273 (F := Ideal) v s m a (ix2 r c) = a (ix2 r c) * Ideal.exp2 (m (ix2 r 0) - k0_pay271 (F := Ideal) s m (ix2 r 0))
      + ∑ k : Fin 512, Ideal.exp2 (s (ix2 r k) - k0_pay271 (F := Ideal) s m (ix2 r 0)) * v (ix2 k c) := by
  rw [← corr512]
  simp only [← prob512]
  unfold k0_pay273
  rw [shapeCast_self]
  simp only [addf_apply, mulf_apply]
  rw [bc1_512]
  congr 1
  show FloatOps.matmul (F := Ideal) (DotDims.plain 256 512 512) none (truncf .bf16 (k0_pay270 (F := Ideal) s m) bitsLt_bf16_f32) v (constant S256x512 .f32 0x00000000#32) (ix2 r c) = _
  rw [Ideal.matmul_plain_apply, constant_apply, Ideal.ofBits_zero_f32, zero_add]
  rfl

theorem vals512 (k : FVec Ideal S512x576 .bf16) (j : Fin 512) (c : Fin 512) :
    k0_pay12 (F := Ideal) k (ix2 j c) = k (ix2 j ⟨c.val, by omega⟩) :=
  extractStridedSlice_apply _ k slices_S512x576_o0_0_S512x512 _ _ (fun a => match a with | ⟨0, _⟩ => (Nat.zero_add _).symm | ⟨1, _⟩ => (Nat.zero_add _).symm)

theorem dot512 (q : FVec Ideal S1x256x576 .bf16) (k : FVec Ideal S512x576 .bf16) (r : Fin 256) (j : Fin 512) :
    matmul (F := Ideal) dot_S256x576_S512x576_S256x512_1_1_0_0_n_n none (shapeCast S256x576 q shapeCasts_S1x256x576_S256x576) k (constant S256x512 .f32 0x00000000#32) (ix2 r j)
      = ∑ d : Fin 576, q (ix3 0 r d) * k (ix2 j d) := by
  show FloatOps.matmul (F := Ideal) (DotDims.transposedRhs 256 576 512) none (shapeCast S256x576 q shapeCasts_S1x256x576_S256x576) k (constant S256x512 .f32 0x00000000#32) (ix2 r j) = _
  rw [Ideal.matmul_transposedRhs_apply, constant_apply, Ideal.ofBits_zero_f32, zero_add]
  refine Finset.sum_congr rfl fun d _ => ?_
  rw [shapeCast_1ab_ab_apply]

theorem mask512 (i j : ℕ) (hi : i < 16) (hj : j < 8) (r : Fin 256) (k : Fin 512) :
    k0_pay264 (F := Ideal) (BitVec.ofNat 32 i) (BitVec.ofNat 32 j) (ix3 0 r k) = if 512 * j + k.val ≤ 256 * i + r.val then 1#1 else 0#1 := by
  unfold k0_pay264
  dsimp only
  rw [shapeCast_ab_1ab_apply]
  show IntOp.cmpi .sle (BitVec.ofNat 32 j * 512#32 + BitVec.ofNat 32 (0 * 512 + k.val)) (BitVec.ofNat 32 i * 256#32 + BitVec.ofNat 32 (0 * 256 + r.val)) = _
  have e1 : BitVec.ofNat 32 j * 512#32 + BitVec.ofNat 32 (0 * 512 + k.val) = BitVec.ofNat 32 (512 * j + k.val) := by
    apply BitVec.eq_of_toNat_eq
    simp only [BitVec.toNat_add, BitVec.toNat_mul, BitVec.toNat_ofNat]
    omega
  have e2 : BitVec.ofNat 32 i * 256#32 + BitVec.ofNat 32 (0 * 256 + r.val) = BitVec.ofNat 32 (256 * i + r.val) := by
    apply BitVec.eq_of_toNat_eq
    simp only [BitVec.toNat_add, BitVec.toNat_mul, BitVec.toNat_ofNat]
    omega
  rw [e1, e2]
  exact sle_small _ _ (by omega) (by omega)

theorem masked512 (q : FVec Ideal S1x256x576 .bf16) (k : FVec Ideal S512x576 .bf16) (i j : ℕ) (hi : i < 16) (hj : j < 8) (r : Fin 256) (n : Fin 512) :
    k0_pay274 (F := Ideal) k (k0_pay264 (F := Ideal) (BitVec.ofNat 32 i) (BitVec.ofNat 32 j)) q (ix2 r n)
      = if 512 * j + n.val ≤ 256 * i + r.val then ∑ d : Fin 576, q (ix3 0 r d) * k (ix2 n d) else ⊥ := by
  unfold k0_pay274
  rw [shapeCast_1ab_ab_apply, select_apply, shapeCast_ab_1ab_apply, dot512, mask512 i j hi hj]
  split
  · rw [select_one]
  · rw [select_zero, broadcast_apply, named_mask]

theorem plain512 (q : FVec Ideal S1x256x576 .bf16) (k : FVec Ideal S512x576 .bf16) (r : Fin 256) (n : Fin 512) :
    k0_pay13 (F := Ideal) k q (ix2 r n) = ∑ d : Fin 576, q (ix3 0 r d) * k (ix2 n d) := dot512 q k r n

/-- What the first point sets. -/
theorem start0 (x : S4096x1.Idx) : k0_pay1 (F := Ideal) x = ⊥ := by
  unfold k0_pay1
  rw [shapeCast_self, broadcast_apply, named_mask]
theorem start1 (x : S4096x128.Idx) : k0_pay2 (F := Ideal) x = 0 := by
  unfold k0_pay2
  rw [shapeCast_self]
  exact Ideal.ofBits_zero_f32
theorem start2 (x : S4096x512.Idx) : k0_pay3 (F := Ideal) x = 0 := by
  unfold k0_pay3
  rw [shapeCast_self]
  exact Ideal.ofBits_zero_f32

/-- The output's block: the sums divided. -/
theorem fin11 (l : FVec Ideal S4096x128 .f32) (a : FVec Ideal S4096x512 .f32) (g : Fin 16) (r : Fin 256) (c : Fin 512) :
    k0_pay11 (F := Ideal) l a (ix3 g r c)
      = Ideal.div (a (ix2 ⟨256 * g.val + r.val, by omega⟩ c)) (∑ j : Fin 128, l (ix2 ⟨256 * g.val + r.val, by omega⟩ j)) := by
  unfold k0_pay11
  dsimp only
  rw [truncf_apply, shapeCast_apply (k := (ix2 ⟨256 * g.val + r.val, by omega⟩ c : S4096x512.Idx)), divf_apply]
  · congr 1
    rw [broadcastTo_apply (k := (ix2 ⟨256 * g.val + r.val, by omega⟩ 0 : S4096x1.Idx)), shapeCast_a_a1_apply]
    · refine (Ideal.multiReduction_add_single l 0x00000000#32 reduces_S4096x128_S4096 (.inl rfl) rfl _).trans ?_
      refine Finset.sum_congr rfl fun j _ => ?_
      exact congrArg l (funext fun a => match a with | ⟨0, _⟩ => rfl | ⟨1, _⟩ => rfl)
    · exact fun a => match a with | ⟨0, _⟩ => rfl | ⟨1, _⟩ => rfl
  · rw [Shape.rowMajor_val_two, Shape.rowMajor_val_three]
    show (256 * g.val + r.val) * 512 + c.val = (g.val * 256 + r.val) * 512 + c.val
    ring

end Cert.KernelIdeal.Attn

end
-- ==== Proof.Attn.Point.lean ====
/- One grid point carries the rows of sixteen heads' states over its block of keys. -/
module

public import proofs.«01_k».proof.Proof.Attn.Paths
public import proofs.«01_k».proof.Proof.Attn.Elements
public import Idealize.ShloMosaic.Lib.VecWindow

@[expose] public section

set_option maxRecDepth 16384
set_option Elab.async false

noncomputable section

namespace Cert.KernelIdeal.Attn

open Cert.KernelIdeal Cert.KernelIdeal.Gen
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic

variable (c : Dev nD) (i : grid0.Coords) (arg5 : Memref sig .tc .vmem S16x256x576 .bf16) (h5 : arg5.IsWhole)
    (arg6 : Memref sig .tc .vmem S512x576 .bf16) (h6 : arg6.IsWhole) (arg7 : Memref sig .tc .vmem S16x256x512 .bf16) (h7 : arg7.IsWhole)
    (x0 : FVec Ideal S16x256x576 .bf16) (x1 : FVec Ideal S512x576 .bf16) (a0 : B0 Ideal c) (a1 : B1 Ideal c) (a2 : B2 Ideal c)

/-! ## The loads -/

theorem ldQ_apply (g : Fin 16) (r : Fin 256) (d : Fin 576) : ldQ (F := Ideal) arg5 x0 g (ix3 0 r d) = x0 (ix3 g r d) := by
  show View.readAt (Elt Ideal) arg5.view (rQ g).toLoadRect (arg5.view.rep x0) (ix3 0 r d) = _
  rw [View.readAt_rep]
  exact congrArg x0 (funext fun a => match a with
    | ⟨0, _⟩ => Fin.ext (show g.val + 1 * 0 = g.val by omega)
    | ⟨1, _⟩ => Fin.ext (show 0 + 1 * r.val = r.val by omega)
    | ⟨2, _⟩ => Fin.ext (show 0 + 1 * d.val = d.val by omega))

theorem ldK256_apply (k : Fin 256) (d : Fin 576) : ldK256 (F := Ideal) arg6 x1 (ix2 k d) = x1 (ix2 ⟨k.val, by omega⟩ d) := by
  show View.readAt (Elt Ideal) arg6.view (Rect.unit (s := S512x576) ![0, 0] S256x576.size inb_S512x576_S256x576_0_0).toLoadRect (arg6.view.rep x1) (ix2 k d) = _
  rw [View.readAt_rep]
  exact congrArg x1 (funext fun a => match a with
    | ⟨0, _⟩ => Fin.ext (show 0 + 1 * k.val = k.val by omega)
    | ⟨1, _⟩ => Fin.ext (show 0 + 1 * d.val = d.val by omega))

theorem ldK512_apply (k : Fin 512) (d : Fin 576) : ldK512 (F := Ideal) arg6 x1 (ix2 k d) = x1 (ix2 k d) := by
  show View.readAt (Elt Ideal) arg6.view (Rect.unit (s := S512x576) ![0, 0] S512x576.size inb_S512x576_S512x576_0_0).toLoadRect (arg6.view.rep x1) (ix2 k d) = _
  rw [View.readAt_rep]
  exact congrArg x1 (funext fun a => match a with
    | ⟨0, _⟩ => Fin.ext (show 0 + 1 * k.val = k.val by omega)
    | ⟨1, _⟩ => Fin.ext (show 0 + 1 * d.val = d.val by omega))

/-- A row of the head's span of a scratch, in the scratch. -/
theorem emb1 {N : ℕ} (g : Fin 16) (r : Fin 256) (j : Fin N) (inb) :
    (Rect.unit (s := (⟨2, ![4096, N]⟩ : Shape)) ![256 * g.val, 0] ![256, N] inb).emb (ix2 r j) = ix2 ⟨256 * g.val + r.val, by omega⟩ j :=
  funext fun a => match a with
    | ⟨0, _⟩ => Fin.ext (show 256 * g.val + 1 * r.val = 256 * g.val + r.val by omega)
    | ⟨1, _⟩ => Fin.ext (show 0 + 1 * j.val = j.val by omega)

/-! ## The scores of a point -/

section
variable {R : Fin 16 → Fin 256 → ℕ → ℝ} {v : ℕ → Fin 512 → ℝ} {I J : ℕ}

variable (R J) in
/-- The block's products are the scores of its keys. -/
def Scores : Prop := ∀ (g : Fin 16) (r : Fin 256) (k : Fin 512), (∑ d : Fin 576, x0 (ix3 g r d) * x1 (ix2 k d)) = ((R g r (512 * J + k.val) : ℝ) : EReal)
variable (v J) in
/-- The block's latent part is the values of its keys. -/
def Values : Prop := ∀ (k : Fin 512) (c : Fin 512), x1 (ix2 k ⟨c.val, by omega⟩) = ((v (512 * J + k.val) c : ℝ) : EReal)

variable {x0 x1}

theorem blk1 (hS : Scores x0 x1 R J) (hI : I < 16) (hJ : J < 8) (hq : lit0 (i 1) = BitVec.ofNat 32 I) (hk : lit1 (i 1) = BitVec.ofNat 32 J) (g : Fin 16) (r : Fin 256) :
    blk (R g r) (256 * I + r.val) (512 * J) (fun k : Fin 256 => sc1m (F := Ideal) i arg5 arg6 x0 x1 g (ix2 r k)) := fun k => by
  dsimp only
  unfold sc1m
  rw [qW_eq, kW_eq, hq, hk, masked256 _ _ I J hI hJ]
  split
  · rw [← hS g r ⟨k.val, by omega⟩]
    exact Finset.sum_congr rfl fun d _ => by rw [ldQ_apply, ldK256_apply]
  · rfl

theorem blk2 (hS : Scores x0 x1 R J) (hI : I < 16) (hJ : J < 8) (hq : lit0 (i 1) = BitVec.ofNat 32 I) (hk : lit1 (i 1) = BitVec.ofNat 32 J) (g : Fin 16) (r : Fin 256) :
    blk (R g r) (256 * I + r.val) (512 * J) (fun k : Fin 512 => sc2m (F := Ideal) i arg5 arg6 x0 x1 g (ix2 r k)) := fun k => by
  dsimp only
  unfold sc2m
  rw [qW_eq, kW_eq, hq, hk, masked512 _ _ I J hI hJ]
  split
  · rw [← hS g r k]
    exact Finset.sum_congr rfl fun d _ => by rw [ldQ_apply, ldK512_apply]
  · rfl

theorem blk0 (hS : Scores x0 x1 R J) (hv : 512 * J + 511 ≤ 256 * I) (g : Fin 16) (r : Fin 256) :
    blk (R g r) (256 * I + r.val) (512 * J) (fun k : Fin 512 => sc0m (F := Ideal) arg5 arg6 x0 x1 g (ix2 r k)) := fun k => by
  dsimp only
  unfold sc0m
  rw [plain512, if_pos (by omega), ← hS g r k]
  exact Finset.sum_congr rfl fun d _ => by rw [ldQ_apply, ldK512_apply]

theorem vl1_apply (hV : Values x1 v J) (k : Fin 256) (c : Fin 512) : vl1 (F := Ideal) arg6 x1 (ix2 k c) = ((v (512 * J + k.val) c : ℝ) : EReal) := by
  unfold vl1
  rw [vals256, ldK256_apply]
  exact hV ⟨k.val, by omega⟩ c

theorem vl2_apply (hV : Values x1 v J) (k : Fin 512) (c : Fin 512) : vl2 (F := Ideal) arg6 x1 (ix2 k c) = ((v (512 * J + k.val) c : ℝ) : EReal) := by
  unfold vl2
  rw [vals512, ldK512_apply]
  exact hV k c

/-! ## The state of all rows -/

variable (R v I) in
/-- Every row of every head after `n` keys. -/
def Rows {c : Dev nD} (n : ℕ) (b : B0 Ideal c × B1 Ideal c × B2 Ideal c) : Prop :=
  ∀ (g : Fin 16) (r : Fin 256), St (R g r) v (256 * I + r.val) n (hd0 b.1 g (ix2 r 0)) (fun j => hd1 b.2.1 g (ix2 r j)) (fun c => hd2 b.2.2 g (ix2 r c))

/-- What the first point sets is the state after no keys. -/
theorem start_state {n : ℕ} (hn : n = 0) (g : Fin 16) (r : Fin 256) :
    St (R g r) v (256 * I + r.val) n (z0 (F := Ideal) g (ix2 r 0)) (fun j => z1 (F := Ideal) g (ix2 r j)) (fun c => z2 (F := Ideal) g (ix2 r c)) :=
  Or.inl ⟨hn, start0 _, fun j => start1 _, fun c => start2 _⟩

variable {M : S256x1.Idx → EReal} {L : S256x128.Idx → EReal} {A : S256x512.Idx → EReal}

theorem step256 {q n : ℕ} {ρ : ℕ → ℝ} {r : Fin 256} (h : St ρ v q n (M (ix2 r 0)) (fun j => L (ix2 r j)) (fun c => A (ix2 r c))) (hn : 128 ∣ n)
    (s : FVec Ideal S256x256 .f32) (hs : blk ρ q n (fun k : Fin 256 => s (ix2 r k))) (w : FVec Ideal S256x512 .bf16)
    (hw : ∀ (k : Fin 256) (c : Fin 512), w (ix2 k c) = ((v (n + k.val) c : ℝ) : EReal)) :
    St ρ v q (n + 256) (k0_pay157 (F := Ideal) s M (ix2 r 0)) (fun j => k0_pay158 (F := Ideal) s M L (ix2 r j)) (fun c => k0_pay159 (F := Ideal) w s M A (ix2 r c)) :=
  h.step hn (by norm_num) _ hs (fun k c => w (ix2 k c)) hw _ (new256 s M r) _ (lane256 s M L r) _ (out256 w s M A r)

theorem step512 {q n : ℕ} {ρ : ℕ → ℝ} {r : Fin 256} (h : St ρ v q n (M (ix2 r 0)) (fun j => L (ix2 r j)) (fun c => A (ix2 r c))) (hn : 128 ∣ n)
    (s : FVec Ideal S256x512 .f32) (hs : blk ρ q n (fun k : Fin 512 => s (ix2 r k))) (w : FVec Ideal S512x512 .bf16)
    (hw : ∀ (k : Fin 512) (c : Fin 512), w (ix2 k c) = ((v (n + k.val) c : ℝ) : EReal)) :
    St ρ v q (n + 512) (k0_pay271 (F := Ideal) s M (ix2 r 0)) (fun j => k0_pay272 (F := Ideal) s M L (ix2 r j)) (fun c => k0_pay273 (F := Ideal) w s M A (ix2 r c)) :=
  h.step hn (by norm_num) _ hs (fun k c => w (ix2 k c)) hw _ (new512 s M r) _ (lane512 s M L r) _ (out512 w s M A r)

variable (hS : Scores x0 x1 R J) (hV : Values x1 v J) (hI : I < 16) (hJ : J < 8) (hq : lit0 (i 1) = BitVec.ofNat 32 I) (hk : lit1 (i 1) = BitVec.ofNat 32 J)

include hS hV in
/-- A point over a whole unmasked block. -/
theorem point0 (q1 : isVar 0#32 (lit2 (i 1))) (hv : 512 * J + 511 ≤ 256 * I) (hf : isFirst (lit2 (i 1)) → J = 0)
    (hp : ¬isFirst (lit2 (i 1)) → Rows R v I (512 * J) (a0, a1, a2)) :
    Rows R v I (512 * J + 512) (res c i arg5 h5 arg6 h6 arg7 h7 x0 x1 a0 a1 a2).2 := fun g r => by
  have hn : 128 ∣ 512 * J := ⟨4 * J, by ring⟩
  by_cases q0 : isFirst (lit2 (i 1))
  · rw [res_C c i arg5 h5 arg6 h6 arg7 h7 x0 x1 a0 a1 a2 q0 q1, hd0_C, hd1_C, hd2_C]
    have h0 := start_state (R := R) (v := v) (I := I) (n := 512 * J) (by rw [hf q0]) g r
    exact step512 h0 hn _ (blk0 arg5 arg6 hS hv g r) _ (vl2_apply arg6 hV)
  · rw [res_F c i arg5 h5 arg6 h6 arg7 h7 x0 x1 a0 a1 a2 q0 q1, hd0_F, hd1_F, hd2_F]
    exact step512 (hp q0 g r) hn _ (blk0 arg5 arg6 hS hv g r) _ (vl2_apply arg6 hV)

include hS hV hI hJ hq hk in
/-- A point over the first half of a block, masked. -/
theorem point1 (q1 : ¬isVar 0#32 (lit2 (i 1))) (q2 : isVar 1#32 (lit2 (i 1))) (hf : isFirst (lit2 (i 1)) → J = 0)
    (hp : ¬isFirst (lit2 (i 1)) → Rows R v I (512 * J) (a0, a1, a2)) :
    Rows R v I (512 * J + 256) (res c i arg5 h5 arg6 h6 arg7 h7 x0 x1 a0 a1 a2).2 := fun g r => by
  have hn : 128 ∣ 512 * J := ⟨4 * J, by ring⟩
  by_cases q0 : isFirst (lit2 (i 1))
  · rw [res_A c i arg5 h5 arg6 h6 arg7 h7 x0 x1 a0 a1 a2 q0 q1 q2, hd0_A, hd1_A, hd2_A]
    have h0 := start_state (R := R) (v := v) (I := I) (n := 512 * J) (by rw [hf q0]) g r
    exact step256 h0 hn _ (blk1 i arg5 arg6 hS hI hJ hq hk g r) _ (vl1_apply arg6 hV)
  · rw [res_D c i arg5 h5 arg6 h6 arg7 h7 x0 x1 a0 a1 a2 q0 q1 q2, hd0_D, hd1_D, hd2_D]
    exact step256 (hp q0 g r) hn _ (blk1 i arg5 arg6 hS hI hJ hq hk g r) _ (vl1_apply arg6 hV)

include hS hV hI hJ hq hk in
/-- A point over a whole block, masked. -/
theorem point2 (q1 : ¬isVar 0#32 (lit2 (i 1))) (q2 : ¬isVar 1#32 (lit2 (i 1))) (hf : isFirst (lit2 (i 1)) → J = 0)
    (hp : ¬isFirst (lit2 (i 1)) → Rows R v I (512 * J) (a0, a1, a2)) :
    Rows R v I (512 * J + 512) (res c i arg5 h5 arg6 h6 arg7 h7 x0 x1 a0 a1 a2).2 := fun g r => by
  have hn : 128 ∣ 512 * J := ⟨4 * J, by ring⟩
  by_cases q0 : isFirst (lit2 (i 1))
  · rw [res_B c i arg5 h5 arg6 h6 arg7 h7 x0 x1 a0 a1 a2 q0 q1 q2, hd0_B, hd1_B, hd2_B]
    have h0 := start_state (R := R) (v := v) (I := I) (n := 512 * J) (by rw [hf q0]) g r
    exact step512 h0 hn _ (blk2 i arg5 arg6 hS hI hJ hq hk g r) _ (vl2_apply arg6 hV)
  · rw [res_E c i arg5 h5 arg6 h6 arg7 h7 x0 x1 a0 a1 a2 q0 q1 q2, hd0_E, hd1_E, hd2_E]
    exact step512 (hp q0 g r) hn _ (blk2 i arg5 arg6 hS hI hJ hq hk g r) _ (vl2_apply arg6 hV)

end

/-! ## The output's block -/

theorem oB_apply (s1 : B1 Ideal c) (s2 : B2 Ideal c) (g : Fin 16) (r : Fin 256) (k : Fin 512) :
    oB (F := Ideal) c s1 s2 (ix3 g r k) = Ideal.div (hd2 s2 g (ix2 r k)) (∑ j : Fin 128, hd1 s1 g (ix2 r j)) := by
  unfold oB
  rw [fin11]
  have e2 : View.readAt (Elt Ideal) sc2.view rW512.toLoadRect s2 (ix2 ⟨256 * g.val + r.val, by omega⟩ k) = hd2 s2 g (ix2 r k) := by
    unfold hd2
    rw [View.readAt_apply, View.readAt_apply]
    exact congrArg _ (funext fun a => match a with
      | ⟨0, _⟩ => Fin.ext (show 0 + 1 * (256 * g.val + r.val) = 256 * g.val + 1 * r.val by omega)
      | ⟨1, _⟩ => rfl)
  have e1 (j : Fin 128) : View.readAt (Elt Ideal) sc1.view rW128.toLoadRect s1 (ix2 ⟨256 * g.val + r.val, by omega⟩ j) = hd1 s1 g (ix2 r j) := by
    unfold hd1
    rw [View.readAt_apply, View.readAt_apply]
    exact congrArg _ (funext fun a => match a with
      | ⟨0, _⟩ => Fin.ext (show 0 + 1 * (256 * g.val + r.val) = 256 * g.val + 1 * r.val by omega)
      | ⟨1, _⟩ => rfl)
  rw [e2]
  exact congrArg _ (Finset.sum_congr rfl fun j _ => e1 j)

attribute [local irreducible] outA outB outD outE oB in
/-- A last point's block of the output is made of the sums it leaves. -/
theorem out_last (q1 : ¬isVar 0#32 (lit2 (i 1))) : (res c i arg5 h5 arg6 h6 arg7 h7 x0 x1 a0 a1 a2).1
    = oB c (res c i arg5 h5 arg6 h6 arg7 h7 x0 x1 a0 a1 a2).2.2.1 (res c i arg5 h5 arg6 h6 arg7 h7 x0 x1 a0 a1 a2).2.2.2 := by
  by_cases q0 : isFirst (lit2 (i 1)) <;> by_cases q2 : isVar 1#32 (lit2 (i 1))
  · rw [res_A c i arg5 h5 arg6 h6 arg7 h7 x0 x1 a0 a1 a2 q0 q1 q2]; exact out_A (F := Ideal) c i arg5 h5 arg6 h6 arg7 h7 x0 x1 q0 q1 q2
  · rw [res_B c i arg5 h5 arg6 h6 arg7 h7 x0 x1 a0 a1 a2 q0 q1 q2]; exact out_B (F := Ideal) c i arg5 h5 arg6 h6 arg7 h7 x0 x1 q0 q1 q2
  · rw [res_D c i arg5 h5 arg6 h6 arg7 h7 x0 x1 a0 a1 a2 q0 q1 q2]; exact out_D (F := Ideal) c i arg5 h5 arg6 h6 arg7 h7 x0 x1 a0 a1 a2 q0 q1 q2
  · rw [res_E c i arg5 h5 arg6 h6 arg7 h7 x0 x1 a0 a1 a2 q0 q1 q2]; exact out_E (F := Ideal) c i arg5 h5 arg6 h6 arg7 h7 x0 x1 a0 a1 a2 q0 q1 q2

end Cert.KernelIdeal.Attn

end
-- ==== Proof.Attn.Result.lean ====
/- The states of all points in their order, and the output's array after the last of them. -/
module

public import proofs.«01_k».proof.Proof.Attn.Point
public import proofs.«01_k».proof.Proof.Attn.Launch
public import Idealize.ShloMosaic.Lib.Pipeline.ValueKit.Geometry

@[expose] public section

set_option maxRecDepth 16384
set_option Elab.async false

noncomputable section

namespace Cert.KernelIdeal.Attn

open Cert.KernelIdeal Cert.KernelIdeal.Gen
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window BodyObligation BodyObligationLoose cellOf)

/-! ## The tables, as numbers -/

/-- A point's sequence, block of queries and block of keys. -/
def bT (i : grid0.Coords) : ℕ := (i 0).val
def qT (i : grid0.Coords) : ℕ := (lit0 (i 1)).toNat
def kT (i : grid0.Coords) : ℕ := (lit1 (i 1)).toNat
/-- How many keys of its block a point goes over. -/
def nT (i : grid0.Coords) : ℕ := if isVar 0#32 (lit2 (i 1)) then 512 else if isVar 1#32 (lit2 (i 1)) then 256 else 512

theorem q_lt : ∀ n : Fin 72, (lit0 n).toNat < 16 := by decide +kernel
theorem k_lt : ∀ n : Fin 72, (lit1 n).toNat < 8 := by decide +kernel
theorem full_below : ∀ n : Fin 72, isVar 0#32 (lit2 n) → 512 * (lit1 n).toNat + 511 ≤ 256 * (lit0 n).toNat := by decide +kernel
theorem half_covers : ∀ n : Fin 72, ¬isVar 0#32 (lit2 n) → isVar 1#32 (lit2 n) → 256 * (lit0 n).toNat + 256 ≤ 512 * (lit1 n).toNat + 256 := by decide +kernel
theorem whole_covers : ∀ n : Fin 72, ¬isVar 0#32 (lit2 n) → ¬isVar 1#32 (lit2 n) → 256 * (lit0 n).toNat + 256 ≤ 512 * (lit1 n).toNat + 512 := by decide +kernel
theorem first_key : ∀ n : Fin 72, isFirst (lit2 n) → (lit1 n).toNat = 0 := by decide +kernel
theorem last_var : ∀ n : Fin 72, (k0_cond5 (lit2 n) == 1#1) = true → ¬isVar 0#32 (lit2 n) := by decide +kernel

/-- A point that is not the first of its row follows a point over the whole block of keys before. -/
theorem follows : ∀ t : Fin grid0.N, ¬isFirst (lit2 (grid0.coords t 1)) → t.val ≠ 0 ∧
    (let s : Fin grid0.N := ⟨t.val - 1, by omega⟩
     (grid0.coords s 0).val = (grid0.coords t 0).val ∧ (lit0 (grid0.coords s 1)).toNat = (lit0 (grid0.coords t 1)).toNat
     ∧ (lit1 (grid0.coords s 1)).toNat + 1 = (lit1 (grid0.coords t 1)).toNat ∧ isVar 0#32 (lit2 (grid0.coords s 1))) := by decide +kernel

theorem ixQ_val : ∀ i : grid0.Coords, ixQ i = ![0, (i 0).val * 16 + (lit0 (i 1)).toNat, 0] := by decide +kernel
theorem ixK_val : ∀ i : grid0.Coords, ixK i = ![(i 0).val * 8 + (lit1 (i 1)).toNat, 0] := by decide +kernel

/-- Every block of queries has its last point. -/
theorem has_last : ∀ n : Fin 64, ∃ t : Fin grid0.N, (k0_cond5 (lit2 (grid0.coords t 1)) == 1#1) = true
    ∧ (grid0.coords t 0).val * 16 + (lit0 (grid0.coords t 1)).toNat = n.val := by decide +kernel

/-! ## The blocks -/

variable (m : (ℓ : Loc nD τ sig) → Buf (Elt Ideal) ℓ) (c : Dev nD)

theorem iblkQ (t : Fin (cfgA Ideal).N) (g : Fin 16) (r : Fin 256) (d : Fin 576) (h : (bT (crd t) * 16 + qT (crd t)) * 256 + r.val < 16384) :
    iblk m c (0 : Fin 3) t (ix3 g r d : S16x256x576.Idx)
      = (V m c main_arg0 : S16x16384x576.Idx → EReal) (ix3 g ⟨(bT (crd t) * 16 + qT (crd t)) * 256 + r.val, h⟩ d) := by
  show (V m c main_arg0 : S16x16384x576.Idx → EReal) ((((cfgA Ideal).win (0 : Fin 3)).blk t).view.emb (ix3 g r d : S16x256x576.Idx)) = _
  have e (a : Fin 3) : (((((cfgA Ideal).win (0 : Fin 3)).blk t).view.emb (ix3 g r d : S16x256x576.Idx) a : Fin _) : ℕ)
      = cc0_transform_0 k0_off1_inb numel1_S1 (pfN (F := Ideal)) (crd t) a * S16x256x576.size a + ((ix3 g r d : S16x256x576.Idx) a).val :=
    ValueKit.view_emb_slice_whole_unit_val main_arg0 _ _ _ _ a
  rw [tr0_eq, ixQ_val] at e
  exact congrArg _ (funext fun a => Fin.ext (match a with
    | ⟨0, _⟩ => (e 0).trans (show 0 * 16 + g.val = g.val by omega)
    | ⟨1, _⟩ => e 1
    | ⟨2, _⟩ => (e 2).trans (show 0 * 576 + d.val = d.val by omega)))

theorem iblkK (t : Fin (cfgA Ideal).N) (k : Fin 512) (d : Fin 576) (h : (bT (crd t) * 8 + kT (crd t)) * 512 + k.val < 16384) :
    iblk m c (1 : Fin 3) t (ix2 k d : S512x576.Idx)
      = (V m c main_arg1 : S16384x576.Idx → EReal) (ix2 ⟨(bT (crd t) * 8 + kT (crd t)) * 512 + k.val, h⟩ d) := by
  show (V m c main_arg1 : S16384x576.Idx → EReal) ((((cfgA Ideal).win (1 : Fin 3)).blk t).view.emb (ix2 k d : S512x576.Idx)) = _
  have e (a : Fin 2) : (((((cfgA Ideal).win (1 : Fin 3)).blk t).view.emb (ix2 k d : S512x576.Idx) a : Fin _) : ℕ)
      = cc0_transform_1 k0_off1_inb numel1_S1 (pfN (F := Ideal)) (crd t) a * S512x576.size a + ((ix2 k d : S512x576.Idx) a).val :=
    ValueKit.view_emb_slice_whole_unit_val main_arg1 _ _ _ _ a
  rw [tr1_eq, ixK_val] at e
  exact congrArg _ (funext fun a => Fin.ext (match a with
    | ⟨0, _⟩ => e 0
    | ⟨1, _⟩ => (e 1).trans (show 0 * 576 + d.val = d.val by omega)))

/-- An index of the output's block at a point, in the output's array. -/
theorem emb_out (t : Fin (cfgA Ideal).N) (g : Fin 16) (r : Fin 256) (k : Fin 512) (h : (bT (crd t) * 16 + qT (crd t)) * 256 + r.val < 16384) :
    ((((cfgA Ideal).win (2 : Fin 3)).blk t).view.emb (ix3 g r k : S16x256x512.Idx))
      = (ix3 g ⟨(bT (crd t) * 16 + qT (crd t)) * 256 + r.val, h⟩ k : S16x16384x512.Idx) := by
  have e (a : Fin 3) : (((((cfgA Ideal).win (2 : Fin 3)).blk t).view.emb (ix3 g r k : S16x256x512.Idx) a : Fin _) : ℕ)
      = cc0_transform_2 k0_off1_inb numel1_S1 (pfN (F := Ideal)) (crd t) a * S16x256x512.size a + ((ix3 g r k : S16x256x512.Idx) a).val :=
    ValueKit.view_emb_slice_whole_unit_val main_v0 _ _ _ _ a
  rw [tr2_eq, ixQ_val] at e
  exact funext fun a => Fin.ext (match a with
    | ⟨0, _⟩ => (e 0).trans (show 0 * 16 + g.val = g.val by omega)
    | ⟨1, _⟩ => e 1
    | ⟨2, _⟩ => (e 2).trans (show 0 * 512 + k.val = k.val by omega))

theorem b_lt (i : grid0.Coords) : bT i < 4 := (i 0).isLt

/-! ## The states -/

/-- The score of a key for a query, and a key's values, from real queries and rows of the cache. -/
def score (Q : Fin 16 → ℕ → Fin 576 → ℝ) (K : ℕ → Fin 576 → ℝ) (b : ℕ) (g : Fin 16) (q k : ℕ) : ℝ := ∑ d : Fin 576, Q g (4096 * b + q) d * K (4096 * b + k) d
def value (K : ℕ → Fin 576 → ℝ) (b : ℕ) (k : ℕ) (c : Fin 512) : ℝ := K (4096 * b + k) ⟨c.val, by omega⟩

variable {m c} {Q : Fin 16 → ℕ → Fin 576 → ℝ} {K : ℕ → Fin 576 → ℝ}
variable (hQ : ∀ (g : Fin 16) (s : Fin 16384) (d : Fin 576), (V m c main_arg0 : S16x16384x576.Idx → EReal) (ix3 g s d) = ((Q g s.val d : ℝ) : EReal))
variable (hK : ∀ (s : Fin 16384) (d : Fin 576), (V m c main_arg1 : S16384x576.Idx → EReal) (ix2 s d) = ((K s.val d : ℝ) : EReal))

include hQ hK in
theorem scores_at (t : Fin (cfgA Ideal).N) :
    Scores (iblk m c (0 : Fin 3) t) (iblk m c (1 : Fin 3) t) (fun g r => score Q K (bT (crd t)) g (256 * qT (crd t) + r.val)) (kT (crd t)) := fun g r k => by
  have hb := b_lt (crd t)
  have hq : qT (crd t) < 16 := q_lt _
  have hk : kT (crd t) < 8 := k_lt _
  unfold score
  rw [coeSum]
  refine Finset.sum_congr rfl fun d _ => ?_
  rw [iblkQ m c t g r d (by omega), iblkK m c t k d (by omega), hQ, hK, EReal.coe_mul]
  congr 3 <;> congr 1 <;> dsimp only <;> omega

include hK in
theorem values_at (t : Fin (cfgA Ideal).N) : Values (iblk m c (1 : Fin 3) t) (value K (bT (crd t))) (kT (crd t)) := fun k d => by
  have hb := b_lt (crd t)
  have hk : kT (crd t) < 8 := k_lt _
  rw [iblkK m c t k _ (by omega), hK]
  unfold value
  congr 2; dsimp only; omega

theorem word_ofNat (w : BitVec 32) : w = BitVec.ofNat 32 w.toNat := (BitVec.ofNat_toNat 32 w).symm ▸ (BitVec.setWidth_eq w).symm

include hQ hK in
/-- One point, from the scratches before it. -/
theorem step_at (t : Fin (cfgA Ideal).N) (a : B0 Ideal c × B1 Ideal c × B2 Ideal c)
    (hp : ¬isFirst (lit2 (crd t 1)) → Rows (fun g r => score Q K (bT (crd t)) g (256 * qT (crd t) + r.val)) (value K (bT (crd t))) (qT (crd t)) (512 * kT (crd t)) a) :
    Rows (fun g r => score Q K (bT (crd t)) g (256 * qT (crd t) + r.val)) (value K (bT (crd t))) (qT (crd t)) (512 * kT (crd t) + nT (crd t)) (stepT m c t a).2 := by
  unfold nT stepT
  by_cases q1 : isVar 0#32 (lit2 (crd t 1))
  · rw [if_pos q1]
    exact point0 c (crd t) _ _ _ _ _ _ a.1 a.2.1 a.2.2 (scores_at hQ hK t) (values_at hK t) q1 (full_below _ q1) (first_key _) hp
  · rw [if_neg q1]
    by_cases q2 : isVar 1#32 (lit2 (crd t 1))
    · rw [if_pos q2]
      exact point1 c (crd t) _ _ _ _ _ _ a.1 a.2.1 a.2.2 (scores_at hQ hK t) (values_at hK t) (q_lt _) (k_lt _) (word_ofNat _) (word_ofNat _) q1 q2 (first_key _) hp
    · rw [if_neg q2]
      exact point2 c (crd t) _ _ _ _ _ _ a.1 a.2.1 a.2.2 (scores_at hQ hK t) (values_at hK t) (q_lt _) (k_lt _) (word_ofNat _) (word_ofNat _) q1 q2 (first_key _) hp

include hQ hK in
/-- Every point leaves the states of its rows. -/
theorem states (n : ℕ) (h : n < (cfgA Ideal).N) :
    Rows (fun g r => score Q K (bT (crd ⟨n, h⟩)) g (256 * qT (crd ⟨n, h⟩) + r.val)) (value K (bT (crd ⟨n, h⟩))) (qT (crd ⟨n, h⟩))
      (512 * kT (crd ⟨n, h⟩) + nT (crd ⟨n, h⟩)) (traj m c n h).2 := by
  induction n with
  | zero => exact step_at hQ hK ⟨0, h⟩ _ (fun hf => absurd (first0 (F := Ideal) ⟨0, h⟩ rfl) hf)
  | succ n ih =>
    refine step_at hQ hK ⟨n + 1, h⟩ _ fun hf => ?_
    obtain ⟨-, e0, e1, e2, e3⟩ := follows ⟨n + 1, h⟩ hf
    have hs := ih (Nat.lt_of_succ_lt h)
    have b0 : bT (crd (F := Ideal) ⟨n, Nat.lt_of_succ_lt h⟩) = bT (crd (F := Ideal) ⟨n + 1, h⟩) := e0
    have b1 : qT (crd (F := Ideal) ⟨n, Nat.lt_of_succ_lt h⟩) = qT (crd (F := Ideal) ⟨n + 1, h⟩) := e1
    have b2 : kT (crd (F := Ideal) ⟨n, Nat.lt_of_succ_lt h⟩) + 1 = kT (crd (F := Ideal) ⟨n + 1, h⟩) := e2
    have b3 : nT (crd (F := Ideal) ⟨n, Nat.lt_of_succ_lt h⟩) = 512 := if_pos e3
    rw [b0, b1, b3] at hs
    rw [show 512 * kT (crd (F := Ideal) ⟨n + 1, h⟩) = 512 * kT (crd (F := Ideal) ⟨n, Nat.lt_of_succ_lt h⟩) + 512 by rw [← b2]; ring]
    exact hs

include hQ hK in
/-- A last point's block of the output. -/
theorem out_block (t : Fin (cfgA Ideal).N) (hl : (k0_cond5 (lit2 (crd t 1)) == 1#1) = true) (g : Fin 16) (r : Fin 256) (k : Fin 512) :
    (traj m c t.val t.isLt).1 (ix3 g r k)
      = ((attn (score Q K (bT (crd t)) g (256 * qT (crd t) + r.val)) (value K (bT (crd t))) (256 * qT (crd t) + r.val) k : ℝ) : EReal) := by
  have q1 := last_var _ hl
  have hs := states hQ hK t.val t.isLt g r
  have hn : 256 * qT (crd t) + r.val < 512 * kT (crd t) + nT (crd t) := by
    unfold nT qT kT
    rw [if_neg q1]
    split
    · have := half_covers _ q1 ‹_›; omega
    · have := whole_covers _ q1 ‹_›; omega
  have e : (traj m c t.val t.isLt).1 = oB c (traj m c t.val t.isLt).2.2.1 (traj m c t.val t.isLt).2.2.2 := by
    rw [traj_eq]; unfold stepT; exact out_last _ _ _ _ _ _ _ _ _ _ _ _ _ q1
  rw [e, oB_apply]
  exact hs.final hn k

/-- The whole output. -/
def result (Q : Fin 16 → ℕ → Fin 576 → ℝ) (K : ℕ → Fin 576 → ℝ) : S16x16384x512.Idx → EReal := fun y =>
  ((attn (score Q K ((y 1).val / 4096) (y 0) ((y 1).val % 4096)) (value K ((y 1).val / 4096)) ((y 1).val % 4096) (y 2) : ℝ) : EReal)

include hQ hK in
theorem outArr_eq : outArr m c = result Q K := by
  refine (dats m 0 c).arrAt_eq_of_emb (2 : Fin 3) (result Q K) (fun t hf y => ?_) fun i => ?_
  · have hl : (k0_cond5 (lit2 (crd t 1)) == 1#1) = true := (flush2_eq (F := Ideal) t).symm.trans hf
    obtain ⟨g, r, k, rfl⟩ : ∃ (g : Fin 16) (r : Fin 256) (k : Fin 512), y = (ix3 g r k : S16x256x512.Idx) := ⟨y 0, y 1, y 2, eq_ix3 (n0 := 16) (n1 := 256) (n2 := 512) y⟩
    have hb := b_lt (crd t)
    have hq : qT (crd t) < 16 := q_lt _
    refine (out_block hQ hK t hl g r k).trans ?_
    rw [emb_out t g r k (by omega)]
    unfold result
    have e1 : ((bT (crd t) * 16 + qT (crd t)) * 256 + r.val) / 4096 = bT (crd t) := by omega
    have e2 : ((bT (crd t) * 16 + qT (crd t)) * 256 + r.val) % 4096 = 256 * qT (crd t) + r.val := by omega
    show _ = ((attn (score Q K (((bT (crd t) * 16 + qT (crd t)) * 256 + r.val) / 4096) g (((bT (crd t) * 16 + qT (crd t)) * 256 + r.val) % 4096))
      (value K (((bT (crd t) * 16 + qT (crd t)) * 256 + r.val) / 4096)) (((bT (crd t) * 16 + qT (crd t)) * 256 + r.val) % 4096) k : ℝ) : EReal)
    rw [e1, e2]
  · obtain ⟨g, s, k, rfl⟩ : ∃ (g : Fin 16) (s : Fin 16384) (k : Fin 512), i = (ix3 g s k : S16x16384x512.Idx) := ⟨i 0, i 1, i 2, eq_ix3 (n0 := 16) (n1 := 16384) (n2 := 512) i⟩
    obtain ⟨t, hl, ht⟩ := has_last ⟨s.val / 256, by omega⟩
    refine ⟨t, (flush2_eq (F := Ideal) t).trans hl, ?_⟩
    have ht' : bT (crd (F := Ideal) t) * 16 + qT (crd (F := Ideal) t) = s.val / 256 := ht
    have e := emb_out t g ⟨s.val % 256, by omega⟩ k (by rw [ht']; dsimp only; omega)
    have es : (ix3 g s k : S16x16384x512.Idx) = ix3 g ⟨(bT (crd (F := Ideal) t) * 16 + qT (crd (F := Ideal) t)) * 256 + s.val % 256, by rw [ht']; omega⟩ k := by
      congr 1; apply Fin.ext; dsimp only; rw [ht']; omega
    rw [es, ← e]
    exact View.emb_mem_set _ _

end Cert.KernelIdeal.Attn

end
-- ==== Proof.Attn.RefValue.lean ====
/- What the reference computes, over the reals: the result the kernel's output array was shown to hold. -/
module

public import proofs.«01_k».proof.Proof.Attn.Result
public import proofs.«01_k».proof.Proof.Gen.ReferenceIdeal.Read
public import proofs.«01_k».proof.Proof.Gen.Pre_finite
public import Idealize.ShloMosaic.Lib.ReduceAll
public import Idealize.ShloMosaic.Lib.IdealHost

@[expose] public section

set_option maxRecDepth 16384
set_option Elab.async false

noncomputable section

namespace Cert.ReferenceIdeal.Attn

open Cert.ReferenceIdeal Cert.ReferenceIdeal.Gen Cert.ReferenceIdeal.Read
open Cert.KernelIdeal.Attn (attn score value result sle_small neg_inf softmax_at_once coeSum)
open Idealize.ShloMosaic hiding ix1 ix2 ix3 ix4 eq_ix2 eq_ix3 eq_ix4 mulf_apply addf_apply subf_apply divf_apply truncf_apply constant_apply sum_idx2
open Idealize.ShloMosaic.ValueIdx
open Finset

variable {x0 : S16x16384x576.Idx → EReal} {x1 : S16384x576.Idx → EReal} {Q : Fin 16 → ℕ → Fin 576 → ℝ} {K : ℕ → Fin 576 → ℝ}
  (hQ : ∀ (g : Fin 16) (s : Fin 16384) (d : Fin 576), x0 (ix3 g s d) = ((Q g s.val d : ℝ) : EReal))
  (hK : ∀ (s : Fin 16384) (d : Fin 576), x1 (ix2 s d) = ((K s.val d : ℝ) : EReal))

/-! ## The arguments, split by sequence -/

include hQ in
theorem v0_at (g : Fin 16) (b : Fin 4) (t : Fin 4096) (d : Fin 576) :
    (val_main_v0 (F := Ideal) x0 (ix4 g b t d) : EReal) = ((Q g (4096 * b.val + t.val) d : ℝ) : EReal) := by
  have e : idx_main_v0 (ix4 g b t d) = ix3 g (⟨4096 * b.val + t.val, by omega⟩ : Fin 16384) d := funext fun a => Fin.ext (match a with
    | ⟨0, _⟩ => by show (((g.val * 4 + b.val) * 4096 + t.val) * 576 + d.val) / 9437184 = g.val; omega
    | ⟨1, _⟩ => by show (((g.val * 4 + b.val) * 4096 + t.val) * 576 + d.val) / 576 % 16384 = 4096 * b.val + t.val; omega
    | ⟨2, _⟩ => by show (((g.val * 4 + b.val) * 4096 + t.val) * 576 + d.val) % 576 = d.val; omega)
  rw [val_main_v0_apply, e]
  exact hQ _ _ _

include hK in
theorem v1_at (b : Fin 4) (t : Fin 4096) (d : Fin 576) :
    (val_main_v1 (F := Ideal) x1 (ix3 b t d) : EReal) = ((K (4096 * b.val + t.val) d : ℝ) : EReal) := by
  have e : idx_main_v1 (ix3 b t d) = ix2 (⟨4096 * b.val + t.val, by omega⟩ : Fin 16384) d := funext fun a => Fin.ext (match a with
    | ⟨0, _⟩ => by show ((b.val * 4096 + t.val) * 576 + d.val) / 576 = 4096 * b.val + t.val; omega
    | ⟨1, _⟩ => by show ((b.val * 4096 + t.val) * 576 + d.val) % 576 = d.val; omega)
  rw [val_main_v1_apply, e]
  exact hK _ _

include hQ in
theorem v3_at (g : Fin 16) (b : Fin 4) (t : Fin 4096) (d : Fin 512) :
    (val_main_v3 (F := Ideal) x0 (ix4 g b t d) : EReal) = ((Q g (4096 * b.val + t.val) ⟨d.val, by omega⟩ : ℝ) : EReal) := by
  have e : idx_main_v2 (ix4 g b t d) = ix4 g b t (⟨d.val, by omega⟩ : Fin 576) := funext fun a => match a with
    | ⟨0, _⟩ => rfl
    | ⟨1, _⟩ => rfl
    | ⟨2, _⟩ => rfl
    | ⟨3, _⟩ => rfl
  refine Eq.trans (b := val_main_v2 (F := Ideal) x0 (ix4 g b t d)) rfl ?_
  rw [val_main_v2_apply, e]
  exact v0_at hQ _ _ _ _

include hQ in
theorem v5_at (g : Fin 16) (b : Fin 4) (t : Fin 4096) (d : Fin 64) :
    (val_main_v5 (F := Ideal) x0 (ix4 g b t d) : EReal) = ((Q g (4096 * b.val + t.val) ⟨512 + d.val, by omega⟩ : ℝ) : EReal) := by
  have e : idx_main_v4 (ix4 g b t d) = ix4 g b t (⟨512 + d.val, by omega⟩ : Fin 576) := funext fun a => match a with
    | ⟨0, _⟩ => rfl
    | ⟨1, _⟩ => rfl
    | ⟨2, _⟩ => rfl
    | ⟨3, _⟩ => rfl
  refine Eq.trans (b := val_main_v4 (F := Ideal) x0 (ix4 g b t d)) rfl ?_
  rw [val_main_v4_apply, e]
  exact v0_at hQ _ _ _ _

include hK in
theorem v7_at (b : Fin 4) (t : Fin 4096) (d : Fin 512) :
    (val_main_v7 (F := Ideal) x1 (ix3 b t d) : EReal) = ((K (4096 * b.val + t.val) ⟨d.val, by omega⟩ : ℝ) : EReal) := by
  have e : idx_main_v6 (ix3 b t d) = ix3 b t (⟨d.val, by omega⟩ : Fin 576) := funext fun a => match a with
    | ⟨0, _⟩ => rfl
    | ⟨1, _⟩ => rfl
    | ⟨2, _⟩ => rfl
  refine Eq.trans (b := val_main_v6 (F := Ideal) x1 (ix3 b t d)) rfl ?_
  rw [val_main_v6_apply, e]
  exact v1_at hK _ _ _

include hK in
theorem v9_at (b : Fin 4) (t : Fin 4096) (d : Fin 64) :
    (val_main_v9 (F := Ideal) x1 (ix3 b t d) : EReal) = ((K (4096 * b.val + t.val) ⟨512 + d.val, by omega⟩ : ℝ) : EReal) := by
  have e : idx_main_v8 (ix3 b t d) = ix3 b t (⟨512 + d.val, by omega⟩ : Fin 576) := funext fun a => match a with
    | ⟨0, _⟩ => rfl
    | ⟨1, _⟩ => rfl
    | ⟨2, _⟩ => rfl
  refine Eq.trans (b := val_main_v8 (F := Ideal) x1 (ix3 b t d)) rfl ?_
  rw [val_main_v8_apply, e]
  exact v1_at hK _ _ _

/-! ## The scores -/

include hQ hK in
theorem v12_at (b : Fin 4) (g : Fin 16) (t k : Fin 4096) :
    (val_main_v12 (F := Ideal) x0 x1 (ix4 b g t k) : EReal) = ((score Q K b.val g t.val k.val : ℝ) : EReal) := by
  refine Eq.trans (b := (val_main_v10 (F := Ideal) x0 x1 (ix4 b g t k) + val_main_v11 (F := Ideal) x0 x1 (ix4 b g t k) : EReal)) rfl ?_
  rw [val_main_v10_apply, val_main_v11_apply]
  have h1 : ∀ d : Fin 512, (val_main_v3 (F := Ideal) x0 (lidx_main_v10 (ix4 b g t k) d) * val_main_v7 (F := Ideal) x1 (ridx_main_v10 (ix4 b g t k) d) : EReal)
      = ((Q g (4096 * b.val + t.val) (Fin.castAdd 64 d) * K (4096 * b.val + k.val) (Fin.castAdd 64 d) : ℝ) : EReal) := fun d => by
    have e1 : lidx_main_v10 (ix4 b g t k) d = ix4 g b t d := funext fun a => match a with
      | ⟨0, _⟩ => rfl
      | ⟨1, _⟩ => rfl
      | ⟨2, _⟩ => rfl
      | ⟨3, _⟩ => rfl
    have e2 : ridx_main_v10 (ix4 b g t k) d = ix3 b k d := funext fun a => match a with
      | ⟨0, _⟩ => rfl
      | ⟨1, _⟩ => rfl
      | ⟨2, _⟩ => rfl
    rw [e1, e2, v3_at hQ, v7_at hK, EReal.coe_mul]
    rfl
  have h2 : ∀ d : Fin 64, (val_main_v5 (F := Ideal) x0 (lidx_main_v11 (ix4 b g t k) d) * val_main_v9 (F := Ideal) x1 (ridx_main_v11 (ix4 b g t k) d) : EReal)
      = ((Q g (4096 * b.val + t.val) (Fin.natAdd 512 d) * K (4096 * b.val + k.val) (Fin.natAdd 512 d) : ℝ) : EReal) := fun d => by
    have e1 : lidx_main_v11 (ix4 b g t k) d = ix4 g b t d := funext fun a => match a with
      | ⟨0, _⟩ => rfl
      | ⟨1, _⟩ => rfl
      | ⟨2, _⟩ => rfl
      | ⟨3, _⟩ => rfl
    have e2 : ridx_main_v11 (ix4 b g t k) d = ix3 b k d := funext fun a => match a with
      | ⟨0, _⟩ => rfl
      | ⟨1, _⟩ => rfl
      | ⟨2, _⟩ => rfl
    rw [e1, e2, v5_at hQ, v9_at hK, EReal.coe_mul]
    rfl
  have e : score Q K b.val g t.val k.val
      = (∑ d : Fin 512, Q g (4096 * b.val + t.val) (Fin.castAdd 64 d) * K (4096 * b.val + k.val) (Fin.castAdd 64 d))
        + ∑ d : Fin 64, Q g (4096 * b.val + t.val) (Fin.natAdd 512 d) * K (4096 * b.val + k.val) (Fin.natAdd 512 d) :=
    Fin.sum_univ_add (a := 512) (b := 64) (fun d : Fin (512 + 64) => Q g (4096 * b.val + t.val) d * K (4096 * b.val + k.val) d)
  rw [e, EReal.coe_add, coeSum, coeSum]
  exact congrArg₂ (· + ·) (Finset.sum_congr rfl fun d _ => h1 d) (Finset.sum_congr rfl fun d _ => h2 d)

theorem log_two (i : S4x16x4096x4096.Idx) : (val_main_v14 (F := Ideal) i : EReal) = ((Real.log 2 : ℝ) : EReal) := by
  have h2 : Ideal.ofBits .f32 0x40000000#32 = ((2 : ℝ) : EReal) := by
    simp [Ideal.ofBits, Ideal.ieee]
    rw [← EReal.coe_mul]
    norm_num
  rw [val_main_v14_apply]
  refine Eq.trans (b := Ideal.log (Ideal.ofBits .f32 0x40000000#32)) rfl ?_
  rw [h2, Ideal.log_coe]
  all_goals first | norm_num | skip

theorem mask_at (b : Fin 4) (g : Fin 16) (t k : Fin 4096) :
    val_main_call0_v1 (F := Ideal) (ix4 b g t k) = if k.val ≤ t.val then 1#1 else 0#1 := by
  rw [val_main_call0_v1_apply, val_main_v21_apply, val_main_v19_apply, val_main_v20_apply, val_main_v17_apply, val_main_v18_apply]
  exact sle_small k.val t.val (by omega) (by omega)

include hQ hK in
theorem v22_at (b : Fin 4) (g : Fin 16) (t k : Fin 4096) :
    (val_main_v22 (F := Ideal) x0 x1 (ix4 b g t k) : EReal)
      = if k.val ≤ t.val then ((score Q K b.val g t.val k.val * Real.log 2 : ℝ) : EReal) else ⊥ := by
  rw [val_main_v22_apply, mask_at]
  by_cases h : k.val ≤ t.val
  · rw [if_pos h, if_pos h, EReal.coe_mul, ← v12_at hQ hK, ← log_two (ix4 b g t k)]
    rfl
  · rw [if_neg h, if_neg h]
    refine Eq.trans (b := (val_main_call0_v2 (F := Ideal) (ix4 b g t k) : EReal)) rfl ?_
    rw [val_main_call0_v2_apply]
    exact neg_inf

/-! ## The softmax -/

theorem fold_sup {n : ℕ} (f : Fin n → EReal) : (univ : Finset (Fin n)).fold (FloatOps.maximumf (F := Ideal) (φ := .f32)) (⊥ : EReal) f = univ.sup f := rfl

theorem v23_at (b : Fin 4) (g : Fin 16) (t : Fin 4096) :
    (val_main_v23 (F := Ideal) x0 x1 (ix3 b g t) : EReal) = univ.sup fun k : Fin 4096 => (val_main_v22 (F := Ideal) x0 x1 (ix4 b g t k) : EReal) := by
  unfold val_main_v23
  generalize val_main_v22 (F := Ideal) x0 x1 = y
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  refine (Host.reduce_eq_fold_single (FloatOps.maximumf (F := Ideal) (φ := .f32)) y _ reducesTo_S4x16x4096x4096_S4x16x4096_d3 (by decide) h_S_ _).trans ?_
  refine Eq.trans (congrArg (fun z => (univ : Finset (Fin 4096)).fold (FloatOps.maximumf (F := Ideal) (φ := .f32)) z _) neg_inf) ?_
  refine (fold_sup _).trans (congrArg _ (funext fun k => congrArg y (funext fun a => Fin.ext ?_)))
  rw [Shape.Reduces.lift_val]
  match a with
  | ⟨0, _⟩ => rfl
  | ⟨1, _⟩ => rfl
  | ⟨2, _⟩ => rfl
  | ⟨3, _⟩ => rfl

theorem v27_at (b : Fin 4) (g : Fin 16) (t k : Fin 4096) :
    (val_main_v27 (F := Ideal) x0 x1 (ix4 b g t k) : EReal) = max ⊥ (univ.sup fun k : Fin 4096 => (val_main_v22 (F := Ideal) x0 x1 (ix4 b g t k) : EReal)) := by
  have e : idx_main_v26 (idx_main_v27 (ix4 b g t k)) = ix3 b g t := funext fun a => match a with
    | ⟨0, _⟩ => rfl
    | ⟨1, _⟩ => rfl
    | ⟨2, _⟩ => rfl
  have h24 : (val_main_v24 (F := Ideal) (ix3 b g t) : EReal) = ⊥ := (val_main_v24_apply _).trans neg_inf
  have h23 := v23_at (x0 := x0) (x1 := x1) b g t
  have h25 := val_main_v25_apply (F := Ideal) x0 x1 (ix3 b g t)
  rw [val_main_v27_apply, val_main_v26_apply, e, h25, ← h23]
  generalize val_main_v23 (F := Ideal) x0 x1 (ix3 b g t) = z
  rw [h24]
  rfl

theorem v32_at (b : Fin 4) (g : Fin 16) (t k : Fin 4096) :
    (val_main_v32 (F := Ideal) x0 x1 (ix4 b g t k) : EReal) = 0 + ∑ k : Fin 4096, (val_main_v29 (F := Ideal) x0 x1 (ix4 b g t k) : EReal) := by
  have e : idx_main_v31 (idx_main_v32 (ix4 b g t k)) = ix3 b g t := funext fun a => match a with
    | ⟨0, _⟩ => rfl
    | ⟨1, _⟩ => rfl
    | ⟨2, _⟩ => rfl
  have e' : ∀ j : Fin 4096, idx_main_v30 (ix3 b g t) j = ix4 b g t j := fun j => funext fun a => match a with
    | ⟨0, _⟩ => rfl
    | ⟨1, _⟩ => rfl
    | ⟨2, _⟩ => rfl
    | ⟨3, _⟩ => rfl
  rw [val_main_v32_apply, val_main_v31_apply, e, val_main_v30_apply]
  exact congrArg₂ (· + ·) Ideal.ofBits_zero_f32 (Finset.sum_congr rfl fun j _ => congrArg _ (e' j))

include hQ hK in
theorem v36_at (b : Fin 4) (c : Fin 512) (g : Fin 16) (t : Fin 4096) :
    (val_main_v36 (F := Ideal) x0 x1 (ix4 b c g t) : EReal) = ((attn (score Q K b.val g t.val) (value K b.val) t.val c : ℝ) : EReal) := by
  rw [val_main_v36_apply]
  have h := softmax_at_once (score Q K b.val g t.val) (value K b.val) t.val t.isLt
    (fun k : Fin 4096 => (val_main_v22 (F := Ideal) x0 x1 (ix4 b g t k) : EReal))
    (fun k : Fin 4096 => (val_main_v29 (F := Ideal) x0 x1 (ix4 b g t k) : EReal))
    (fun k => v22_at hQ hK b g t k) _ rfl
    (fun k => by
      refine Eq.trans (b := Ideal.exp ((val_main_v22 (F := Ideal) x0 x1 (ix4 b g t k) : EReal) - val_main_v27 (F := Ideal) x0 x1 (ix4 b g t k))) rfl ?_
      rw [v27_at])
    _ rfl (fun k c => ((value K b.val k.val c : ℝ) : EReal)) (fun _ _ => rfl) c
  refine Eq.trans ?_ h
  refine Finset.sum_congr rfl fun k _ => ?_
  have e1 : lidx_main_v36 (ix4 b c g t) k = ix3 b k c := funext fun a => match a with
    | ⟨0, _⟩ => rfl
    | ⟨1, _⟩ => rfl
    | ⟨2, _⟩ => rfl
  have e2 : ridx_main_v36 (ix4 b c g t) k = ix4 b g t k := funext fun a => match a with
    | ⟨0, _⟩ => rfl
    | ⟨1, _⟩ => rfl
    | ⟨2, _⟩ => rfl
    | ⟨3, _⟩ => rfl
  rw [e1, e2, v7_at hK]
  refine (mul_comm _ _).trans (congrArg (· * _) ?_)
  refine Eq.trans (b := Ideal.div (val_main_v29 (F := Ideal) x0 x1 (ix4 b g t k)) (val_main_v32 (F := Ideal) x0 x1 (ix4 b g t k))) rfl ?_
  rw [v32_at]

include hQ hK in
/-- The reference's result. -/
theorem value_eq : (val_main_v39 (F := Ideal) x0 x1 : S16x16384x512.Idx → EReal) = result Q K := funext fun y => by
  obtain ⟨g, s, c, rfl⟩ : ∃ (g : Fin 16) (s : Fin 16384) (c : Fin 512), y = ix3 g s c := ⟨y 0, y 1, y 2, ValueIdx.eq_ix3 y⟩
  refine Eq.trans (b := (val_main_v38 (F := Ideal) x0 x1 (ix3 g s c) : EReal)) rfl ?_
  have e : idx_main_v37 (idx_main_v38 (ix3 g s c)) = ix4 (⟨s.val / 4096, by omega⟩ : Fin 4) c g (⟨s.val % 4096, by omega⟩ : Fin 4096) :=
    funext fun a => Fin.ext (match a with
    | ⟨0, _⟩ => by show ((g.val * 16384 + s.val) * 512 + c.val) / 2097152 % 4 = s.val / 4096; omega
    | ⟨1, _⟩ => by show ((g.val * 16384 + s.val) * 512 + c.val) % 512 = c.val; omega
    | ⟨2, _⟩ => by show ((g.val * 16384 + s.val) * 512 + c.val) / 8388608 = g.val; omega
    | ⟨3, _⟩ => by show ((g.val * 16384 + s.val) * 512 + c.val) / 512 % 4096 = s.val % 4096; omega)
  rw [val_main_v38_apply, val_main_v37_apply, e, v36_at hQ hK]
  rfl

/-! ## Finite arguments are real numbers -/

/-- A value whose size is under infinity is the coercion of its real part. -/
theorem real_of_small (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have h' : max x (-x) < ⊤ := by
    by_contra hn
    simp [Ideal.cmp, hn] at h
  refine (EReal.coe_toReal ?_ ?_).symm
  · rintro rfl
    simp at h'
  · rintro rfl
    simp at h'

instance : Subsingleton Cert.Pre_finite.S_.Idx := ⟨fun a b => funext fun k => k.elim0⟩

theorem pre_real (y0 : FVec Ideal Cert.Pre_finite.S16x16384x576 .bf16) (y1 : FVec Ideal Cert.Pre_finite.S16384x576 .bf16)
    (h : @Cert.Pre_finite.fn Cert.Pre_finite.Gen.facts Ideal _ y0 y1 = fun _ => 1#1) :
    (∀ i, (y0 i : EReal) = (((y0 i : EReal).toReal : ℝ) : EReal)) ∧ ∀ i, (y1 i : EReal) = (((y1 i : EReal).toReal : ℝ) : EReal) := by
  have h0 := congrFun h (Shape.Idx.first Cert.Pre_finite.Gen.h_S_)
  unfold Cert.Pre_finite.fn at h0
  have h1 := IntOp.andi_eq_one.1 h0
  exact ⟨fun i => real_of_small _ (Host.reduce_andi_all _ _ _ _ _ h1.1 i), fun i => real_of_small _ (Host.reduce_andi_all _ _ _ _ _ h1.2 i)⟩

end Cert.ReferenceIdeal.Attn

end
-- ==== Proof.Ffn.Elements.lean ====
/- One grid point of the feed-forward part, element by element over the extended reals. -/
module

public import proofs.«01_k».proof.Proof.Gen.Kernel2Ideal.Skeleton
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel2Ideal.Ffn

open Cert.Kernel2Ideal Cert.Kernel2Ideal.Gen
open Idealize.ShloMosaic hiding ix1 ix2 ix3 ix4 eq_ix2 eq_ix3 eq_ix4 mulf_apply addf_apply subf_apply divf_apply truncf_apply constant_apply sum_idx2
open Idealize.ShloMosaic.ValueIdx

/-! ## The gate -/

theorem half_lit : (FloatOps.ofBits (F := Ideal) .f32 0x3F000000#32 : EReal) = ((1 / 2 : ℝ) : EReal) := by
  show Ideal.ofBits .f32 0x3F000000#32 = _
  simp [Ideal.ofBits, Ideal.ieee]
  rw [← EReal.coe_mul]; norm_num

theorem one_lit : (FloatOps.ofBits (F := Ideal) .f32 0x3F800000#32 : EReal) = 1 := by
  show Ideal.ofBits .f32 0x3F800000#32 = _
  simp [Ideal.ofBits, Ideal.ieee]
  rw [← EReal.coe_mul]; norm_num

theorem real_gate (x : ℝ) : 1 / 2 * Real.tanh (1 / 2 * x) + 1 / 2 = (1 + Real.exp (-x))⁻¹ := by
  have e1 : Real.exp (-x) = Real.exp (-(1 / 2 * x)) * Real.exp (-(1 / 2 * x)) := by rw [← Real.exp_add]; congr 1; ring
  have e2 : Real.exp (1 / 2 * x) * Real.exp (-(1 / 2 * x)) = 1 := by rw [← Real.exp_add, add_neg_cancel, Real.exp_zero]
  rw [Real.tanh_eq_sinh_div_cosh, Real.sinh_eq, Real.cosh_eq, e1]
  have p1 := Real.exp_pos (1 / 2 * x)
  have p2 := Real.exp_pos (-(1 / 2 * x))
  generalize Real.exp (1 / 2 * x) = a at *
  generalize Real.exp (-(1 / 2 * x)) = b at *
  have h1 : a + b ≠ 0 := by positivity
  have h2 : 1 + b * b ≠ 0 := by positivity
  field_simp
  linear_combination (2 * b) * e2

/-- The gate's factor by a hyperbolic tangent is the logistic function, at the infinities too. -/
theorem gate (x : EReal) : ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (show (0 : ℝ) < 1 / 2 by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (show (0 : ℝ) < 1 / 2 by norm_num), Ideal.tanh_top, Ideal.logistic_top, mul_one, ← EReal.coe_add]
    norm_num
  | coe r => rw [← EReal.coe_mul, Ideal.tanh_coe, Ideal.logistic_coe, ← EReal.coe_mul, ← EReal.coe_add, real_gate]

/-! ## A point -/

/-- A row of the first two products, and the gated activations. -/
def pre {n : ℕ} (f : Fin 2048 → EReal) (w : (⟨2, ![2048, n]⟩ : Shape).Idx → EReal) (j : Fin n) : EReal := ∑ d : Fin 2048, f d * w (ix2 d j)
def gated (g u : EReal) : EReal := g * Ideal.logistic g * u

theorem proj_at (f : FVec Ideal S512x2048 .bf16) (w : FVec Ideal S2048x512 .bf16) (r j : Fin 512) :
    matmul (F := Ideal) dot_S512x2048_S2048x512_S512x512_1_0_0_1_n_n none f w (constant S512x512 .f32 0x00000000#32) (ix2 r j)
      = pre (fun d => f (ix2 r d)) w j := by
  show FloatOps.matmul (F := Ideal) (DotDims.plain 512 2048 512) none f w (constant S512x512 .f32 0x00000000#32) (ix2 r j) = _
  rw [Ideal.matmul_plain_apply, constant_apply, Ideal.ofBits_zero_f32, zero_add]
  rfl

theorem gated_at (g u : FVec Ideal S512x512 .f32) (r j : Fin 512) :
    (truncf .bf16 (mulf (mulf g (addf (mulf (broadcast S512x512 (Scalar.ofBits (F := Ideal) .f32 0x3F000000#32 : Ideal .f32)) (tanh (mulf (broadcast S512x512 (Scalar.ofBits (F := Ideal) .f32 0x3F000000#32 : Ideal .f32)) g)))
      (broadcast S512x512 (Scalar.ofBits (F := Ideal) .f32 0x3F000000#32 : Ideal .f32)))) u) bitsLt_bf16_f32 : FVec Ideal S512x512 .bf16) (ix2 r j)
      = gated (g (ix2 r j)) (u (ix2 r j)) := by
  show g (ix2 r j) * ((FloatOps.ofBits (F := Ideal) .f32 0x3F000000#32 : EReal) * Ideal.tanh ((FloatOps.ofBits (F := Ideal) .f32 0x3F000000#32 : EReal) * g (ix2 r j))
    + (FloatOps.ofBits (F := Ideal) .f32 0x3F000000#32 : EReal)) * u (ix2 r j) = _
  rw [half_lit, gate]
  rfl

theorem zeros_at (i : S512x2048.Idx) : k0_pay1 (F := Ideal) i = (0 : EReal) := Ideal.ofBits_zero_f32

theorem point_at (f : FVec Ideal S512x2048 .bf16) (wg wu : FVec Ideal S2048x512 .bf16) (acc : FVec Ideal S512x2048 .f32) (wd : FVec Ideal S512x2048 .bf16)
    (r : Fin 512) (c : Fin 2048) :
    k0_pay2 (F := Ideal) f wg wu acc wd (ix2 r c) = acc (ix2 r c)
      + ∑ j : Fin 512, gated (pre (fun d => f (ix2 r d)) wg j) (pre (fun d => f (ix2 r d)) wu j) * wd (ix2 j c) := by
  unfold k0_pay2
  simp only [shapeCast_self]
  rw [addf_apply]
  congr 1
  simp only [← proj_at, ← gated_at]
  generalize matmul (F := Ideal) dot_S512x2048_S2048x512_S512x512_1_0_0_1_n_n none f wg (constant S512x512 .f32 0x00000000#32) = g
  generalize matmul (F := Ideal) dot_S512x2048_S2048x512_S512x512_1_0_0_1_n_n none f wu (constant S512x512 .f32 0x00000000#32) = u
  refine Eq.trans (b := FloatOps.matmul (F := Ideal) (DotDims.plain 512 512 2048) none _ wd (constant S512x2048 .f32 0x00000000#32) (ix2 r c)) rfl ?_
  rw [Ideal.matmul_plain_apply, constant_apply, Ideal.ofBits_zero_f32, zero_add]

/-- The norm's factor of a row. -/
def factor (y : Fin 2048 → EReal) : EReal :=
  Ideal.rsqrt (Ideal.div (∑ k : Fin 2048, y k * y k) (FloatOps.ofBits (F := Ideal) .f32 0x45000000#32) + FloatOps.ofBits (F := Ideal) .f32 0x358637BD#32)

theorem norm_at (y : FVec Ideal S512x2048 .f32) (p : FVec Ideal S1x2048 .f32) (x : FVec Ideal S512x2048 .f32) (r : Fin 512) (c : Fin 2048) :
    k0_pay3 (F := Ideal) y p x (ix2 r c) = x (ix2 r c) + y (ix2 r c) * factor (fun k => y (ix2 r k)) * p (ix2 0 c) := by
  unfold k0_pay3
  simp only [shapeCast_self]
  rw [addf_apply, mulf_apply, mulf_apply, broadcastTo_1b_ab_apply]
  congr 3
  rw [broadcastTo_apply (k := (ix2 r 0 : S512x1.Idx))]
  · refine Eq.trans (b := Ideal.rsqrt (Ideal.div (shapeCast S512x1 (multiReduction .add [1] S512 (mulf y y) 0x00000000#32 reduces_S512x2048_S512 (.inl rfl) rfl) shapeCasts_S512_S512x1 (ix2 r 0)) (FloatOps.ofBits (F := Ideal) .f32 0x45000000#32) + FloatOps.ofBits (F := Ideal) .f32 0x358637BD#32)) rfl ?_
    unfold factor
    congr 3
    rw [shapeCast_a_a1_apply]
    refine (Ideal.multiReduction_add_single (mulf y y) 0x00000000#32 reduces_S512x2048_S512 (.inl rfl) rfl _).trans ?_
    refine Finset.sum_congr rfl fun j _ => ?_
    exact congrArg (fun i => y i * y i) (funext fun a => match a with | ⟨0, _⟩ => rfl | ⟨1, _⟩ => rfl)
  · exact fun a => match a with | ⟨0, _⟩ => rfl | ⟨1, _⟩ => rfl

/-! ## A sum in pieces -/

theorem sum_pieces (T : ℕ → EReal) (n : ℕ) : ∑ s ∈ Finset.range n, ∑ j : Fin 512, T (512 * s + j.val) = ∑ h ∈ Finset.range (512 * n), T h := by
  induction n with
  | zero => simp
  | succ n ih =>
    rw [Finset.sum_range_succ, ih, show 512 * (n + 1) = 512 * n + 512 by ring, Finset.sum_range_add]
    congr 1

end Cert.Kernel2Ideal.Ffn

end
-- ==== Proof.Ffn.Result.lean ====
/- The feed-forward part's output array after the run, as one function of the arguments. -/
module

public import proofs.«01_k».proof.Proof.Ffn.Elements
public import proofs.«01_k».proof.Proof.Gen.Kernel2Ideal.Value

@[expose] public section

set_option maxRecDepth 16384
set_option Elab.async false

noncomputable section

namespace Cert.Kernel2Ideal.Ffn

open Cert.Kernel2Ideal Cert.Kernel2Ideal.Gen Cert.Kernel2Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

/-! ## The result -/

section Spec
variable (f : S16384x2048.Idx → EReal) (wg wu : S2048x5632.Idx → EReal) (wd : S5632x2048.Idx → EReal)

/-- The gated activation of a row at a hidden unit, and the down projection's element. -/
def act (s : Fin 16384) (h : Fin 5632) : EReal := gated (pre (fun d => f (ix2 s d)) wg h) (pre (fun d => f (ix2 s d)) wu h)
def down (s : Fin 16384) (c : Fin 2048) : EReal := ∑ h : Fin 5632, act f wg wu s h * wd (ix2 h c)
/-- The result: the residual row plus the normed down projection. -/
def result (x : S16384x2048.Idx → EReal) (p : Fin 2048 → EReal) (s : Fin 16384) (c : Fin 2048) : EReal :=
  x (ix2 s c) + down f wg wu wd s c * factor (fun k => down f wg wu wd s k) * p c

/-- A term of the down projection's sum, by a natural number. -/
def term (s c h : ℕ) : EReal :=
  if q : s < 16384 ∧ h < 5632 ∧ c < 2048 then act f wg wu ⟨s, q.1⟩ ⟨h, q.2.1⟩ * wd (ix2 ⟨h, q.2.1⟩ ⟨c, q.2.2⟩) else 0

theorem down_eq (s : Fin 16384) (c : Fin 2048) : ∑ k ∈ Finset.range 11, ∑ j : Fin 512, term f wg wu wd s.val c.val (512 * k + j.val) = down f wg wu wd s c := by
  rw [sum_pieces (term f wg wu wd s.val c.val) 11]
  refine (Fin.sum_univ_eq_sum_range (term f wg wu wd s.val c.val) 5632).symm.trans ?_
  exact Finset.sum_congr rfl fun h _ => dif_pos ⟨s.isLt, h.isLt, c.isLt⟩
end Spec

/-! ## The blocks -/

variable (m : (ℓ : Loc nD τ sig) → Buf (Elt Ideal) ℓ) (c : Dev nD)

theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 11 :=
  (by decide +kernel : ∀ t : Fin grid0.N, _)
theorem index2 : ∀ t : Fin cfg0.N, win0_2.index t (0 : Fin 2) = 0 ∧ win0_2.index t (1 : Fin 2) = t.val % 11 :=
  (by decide +kernel : ∀ t : Fin grid0.N, _)
theorem index3 : ∀ t : Fin cfg0.N, win0_3.index t (0 : Fin 2) = t.val % 11 ∧ win0_3.index t (1 : Fin 2) = 0 :=
  (by decide +kernel : ∀ t : Fin grid0.N, _)
theorem index4 : ∀ t : Fin cfg0.N, win0_4.index t (0 : Fin 2) = t.val / 11 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

theorem blk0 (t : Fin cfg0.N) (r : Fin 512) (d : Fin 2048) (h : 512 * (t.val / 11) + r.val < 16384) :
    (iblk m c 0 t : S512x2048.Idx → EReal) (ix2 r d) = (V m c main_arg0 : S16384x2048.Idx → EReal) (ix2 ⟨512 * (t.val / 11) + r.val, h⟩ d) := by
  show (V m c main_arg0 : S16384x2048.Idx → EReal) (((cfg0.win 0).blk t).view.emb (ix2 r d : S512x2048.Idx)) = _
  have e0 : (((cfg0.win 0).blk t).view.emb (ix2 r d : S512x2048.Idx) 0).val = win0_0.index t (0 : Fin 2) * 512 + 1 * r.val := rfl
  have e1 : (((cfg0.win 0).blk t).view.emb (ix2 r d : S512x2048.Idx) 1).val = win0_0.index t (1 : Fin 2) * 2048 + 1 * d.val := rfl
  obtain ⟨i0, i1⟩ := index0 t
  rw [i0] at e0; rw [i1] at e1
  exact congrArg _ (funext fun a => Fin.ext (match a with
    | ⟨0, _⟩ => e0.trans (show _ = 512 * (t.val / 11) + r.val by omega)
    | ⟨1, _⟩ => e1.trans (show _ = d.val by omega)))

theorem blk1 (t : Fin cfg0.N) (d : Fin 2048) (j : Fin 512) (h : 512 * (t.val % 11) + j.val < 5632) :
    (iblk m c 1 t : S2048x512.Idx → EReal) (ix2 d j) = (V m c main_v0 : S2048x5632.Idx → EReal) (ix2 d ⟨512 * (t.val % 11) + j.val, h⟩) := by
  show (V m c main_v0 : S2048x5632.Idx → EReal) (((cfg0.win 1).blk t).view.emb (ix2 d j : S2048x512.Idx)) = _
  have e0 : (((cfg0.win 1).blk t).view.emb (ix2 d j : S2048x512.Idx) 0).val = win0_1.index t (0 : Fin 2) * 2048 + 1 * d.val := rfl
  have e1 : (((cfg0.win 1).blk t).view.emb (ix2 d j : S2048x512.Idx) 1).val = win0_1.index t (1 : Fin 2) * 512 + 1 * j.val := rfl
  obtain ⟨i0, i1⟩ := index1 t
  rw [i0] at e0; rw [i1] at e1
  exact congrArg _ (funext fun a => Fin.ext (match a with
    | ⟨0, _⟩ => e0.trans (show _ = d.val by omega)
    | ⟨1, _⟩ => e1.trans (show _ = 512 * (t.val % 11) + j.val by omega)))

theorem blk2 (t : Fin cfg0.N) (d : Fin 2048) (j : Fin 512) (h : 512 * (t.val % 11) + j.val < 5632) :
    (iblk m c 2 t : S2048x512.Idx → EReal) (ix2 d j) = (V m c main_v1 : S2048x5632.Idx → EReal) (ix2 d ⟨512 * (t.val % 11) + j.val, h⟩) := by
  show (V m c main_v1 : S2048x5632.Idx → EReal) (((cfg0.win 2).blk t).view.emb (ix2 d j : S2048x512.Idx)) = _
  have e0 : (((cfg0.win 2).blk t).view.emb (ix2 d j : S2048x512.Idx) 0).val = win0_2.index t (0 : Fin 2) * 2048 + 1 * d.val := rfl
  have e1 : (((cfg0.win 2).blk t).view.emb (ix2 d j : S2048x512.Idx) 1).val = win0_2.index t (1 : Fin 2) * 512 + 1 * j.val := rfl
  obtain ⟨i0, i1⟩ := index2 t
  rw [i0] at e0; rw [i1] at e1
  exact congrArg _ (funext fun a => Fin.ext (match a with
    | ⟨0, _⟩ => e0.trans (show _ = d.val by omega)
    | ⟨1, _⟩ => e1.trans (show _ = 512 * (t.val % 11) + j.val by omega)))

theorem blk3 (t : Fin cfg0.N) (j : Fin 512) (k : Fin 2048) (h : 512 * (t.val % 11) + j.val < 5632) :
    (iblk m c 3 t : S512x2048.Idx → EReal) (ix2 j k) = (V m c main_v2 : S5632x2048.Idx → EReal) (ix2 ⟨512 * (t.val % 11) + j.val, h⟩ k) := by
  show (V m c main_v2 : S5632x2048.Idx → EReal) (((cfg0.win 3).blk t).view.emb (ix2 j k : S512x2048.Idx)) = _
  have e0 : (((cfg0.win 3).blk t).view.emb (ix2 j k : S512x2048.Idx) 0).val = win0_3.index t (0 : Fin 2) * 512 + 1 * j.val := rfl
  have e1 : (((cfg0.win 3).blk t).view.emb (ix2 j k : S512x2048.Idx) 1).val = win0_3.index t (1 : Fin 2) * 2048 + 1 * k.val := rfl
  obtain ⟨i0, i1⟩ := index3 t
  rw [i0] at e0; rw [i1] at e1
  exact congrArg _ (funext fun a => Fin.ext (match a with
    | ⟨0, _⟩ => e0.trans (show _ = 512 * (t.val % 11) + j.val by omega)
    | ⟨1, _⟩ => e1.trans (show _ = k.val by omega)))

theorem blk4 (t : Fin cfg0.N) (r : Fin 512) (k : Fin 2048) (h : 512 * (t.val / 11) + r.val < 16384) :
    (iblk m c 4 t : S512x2048.Idx → EReal) (ix2 r k) = (V m c main_arg4 : S16384x2048.Idx → EReal) (ix2 ⟨512 * (t.val / 11) + r.val, h⟩ k) := by
  show (V m c main_arg4 : S16384x2048.Idx → EReal) (((cfg0.win 4).blk t).view.emb (ix2 r k : S512x2048.Idx)) = _
  have e0 : (((cfg0.win 4).blk t).view.emb (ix2 r k : S512x2048.Idx) 0).val = win0_4.index t (0 : Fin 2) * 512 + 1 * r.val := rfl
  have e1 : (((cfg0.win 4).blk t).view.emb (ix2 r k : S512x2048.Idx) 1).val = win0_4.index t (1 : Fin 2) * 2048 + 1 * k.val := rfl
  obtain ⟨i0, i1⟩ := index4 t
  rw [i0] at e0; rw [i1] at e1
  exact congrArg _ (funext fun a => Fin.ext (match a with
    | ⟨0, _⟩ => e0.trans (show _ = 512 * (t.val / 11) + r.val by omega)
    | ⟨1, _⟩ => e1.trans (show _ = k.val by omega)))

theorem blk5 (t : Fin cfg0.N) (k : Fin 2048) :
    (iblk m c 5 t : S1x2048.Idx → EReal) (ix2 0 k) = (V m c main_v3 : S1x2048.Idx → EReal) (ix2 0 k) := by
  show (V m c main_v3 : S1x2048.Idx → EReal) (((cfg0.win 5).blk t).view.emb (ix2 0 k : S1x2048.Idx)) = _
  have e0 : (((cfg0.win 5).blk t).view.emb (ix2 0 k : S1x2048.Idx) 0).val = win0_5.index t (0 : Fin 2) * 1 + 1 * 0 := rfl
  have e1 : (((cfg0.win 5).blk t).view.emb (ix2 0 k : S1x2048.Idx) 1).val = win0_5.index t (1 : Fin 2) * 2048 + 1 * k.val := rfl
  obtain ⟨i0, i1⟩ := index5 t
  rw [i0] at e0; rw [i1] at e1
  exact congrArg _ (funext fun a => Fin.ext (match a with
    | ⟨0, _⟩ => e0.trans (show _ = 0 by omega)
    | ⟨1, _⟩ => e1.trans (show _ = k.val by omega)))

/-! ## What the host leaves for the kernel -/

theorem V_v0 : (V m c main_v0 : S2048x5632.Idx → EReal) = (m ((c : Thread nD τ).loc main_arg1) : S2048x5632.Idx → EReal) := by
  unfold_abbrev_sides
  after_results
  rfl
theorem V_v1 : (V m c main_v1 : S2048x5632.Idx → EReal) = (m ((c : Thread nD τ).loc main_arg2) : S2048x5632.Idx → EReal) := by
  unfold_abbrev_sides
  after_results
  rfl
theorem V_v2 : (V m c main_v2 : S5632x2048.Idx → EReal) = (m ((c : Thread nD τ).loc main_arg3) : S5632x2048.Idx → EReal) := by
  unfold_abbrev_sides
  after_results
  rfl
theorem V_v3 (k : Fin 2048) : (V m c main_v3 : S1x2048.Idx → EReal) (ix2 0 k) = (m ((c : Thread nD τ).loc main_arg5) : S2048.Idx → EReal) (ix1 k) := by
  have e : (V m c main_v3 : S1x2048.Idx → EReal) = shapeCast S1x2048 (m ((c : Thread nD τ).loc main_arg5) : S2048.Idx → EReal) shapeCasts_S2048_S1x2048 := by
    unfold_abbrev_sides
    after_results
    rfl
  rw [e, shapeCast_a_1a_apply]

/-! ## The fold -/

abbrev tf : S16384x2048.Idx → EReal := V m c main_arg0
abbrev tg : S2048x5632.Idx → EReal := V m c main_v0
abbrev tu : S2048x5632.Idx → EReal := V m c main_v1
abbrev td : S5632x2048.Idx → EReal := V m c main_v2

theorem pre_f (t : Fin cfg0.N) (r : Fin 512) (h : 512 * (t.val / 11) + r.val < 16384) (w : S2048x512.Idx → EReal) (W : S2048x5632.Idx → EReal) (j : Fin 512)
    (hj : 512 * (t.val % 11) + j.val < 5632) (hw : ∀ d : Fin 2048, w (ix2 d j) = W (ix2 d ⟨512 * (t.val % 11) + j.val, hj⟩)) :
    pre (fun d => (iblk m c 0 t : S512x2048.Idx → EReal) (ix2 r d)) w j = pre (fun d => tf m c (ix2 ⟨512 * (t.val / 11) + r.val, h⟩ d)) W ⟨512 * (t.val % 11) + j.val, hj⟩ := by
  unfold pre
  refine Finset.sum_congr rfl fun d _ => ?_
  exact congrArg₂ (· * ·) (blk0 m c t r d h) (hw d)

/-- What one point adds. -/
theorem point_adds (t : Fin cfg0.N) (acc : S512x2048.Idx → EReal) (r : Fin 512) (k : Fin 2048) :
    k0_pay2 (F := Ideal) (iblk m c 0 t) (iblk m c 1 t) (iblk m c 2 t) acc (iblk m c 3 t) (ix2 r k)
      = acc (ix2 r k) + ∑ j : Fin 512, term (tf m c) (tg m c) (tu m c) (td m c) (512 * (t.val / 11) + r.val) k.val (512 * (t.val % 11) + j.val) := by
  have hN := lt_of_lt_of_eq t.isLt (show cfg0.N = 352 from N_0)
  have hs : 512 * (t.val / 11) + r.val < 16384 := by omega
  refine (point_at (iblk m c 0 t) (iblk m c 1 t) (iblk m c 2 t) acc (iblk m c 3 t) r k).trans ?_
  congr 1
  refine Finset.sum_congr rfl fun j _ => ?_
  have hj : 512 * (t.val % 11) + j.val < 5632 := by omega
  unfold term
  rw [dif_pos ⟨hs, hj, k.isLt⟩]
  unfold act
  rw [pre_f m c t r hs (iblk m c 1 t) (tg m c) j hj (fun d => blk1 m c t d j hj), pre_f m c t r hs (iblk m c 2 t) (tu m c) j hj (fun d => blk2 m c t d j hj),
    blk3 m c t j k hj]

/-- A run's fold before its last point. -/
theorem fold_at (q : ℕ) (hq : 11 * q + 10 < cfg0.N) (r : Fin 512) (k : Fin 2048) :
    Pipeline.accAt (reset6 m c) (step6 m c) (11 * q) 9 (Nat.lt_of_succ_lt hq) (ix2 r k)
      = ∑ s ∈ Finset.range 10, ∑ j : Fin 512, term (tf m c) (tg m c) (tu m c) (td m c) (512 * q + r.val) k.val (512 * s + j.val) := by
  have key := Pipeline.accAt_add_apply (N := cfg0.N) (ι := S512x2048.Idx) (β := EReal) (reset6 m c) (step6 m c) (fun _ => 0)
    (fun n i => ∑ j : Fin 512, term (tf m c) (tg m c) (tu m c) (td m c) (512 * (n / 11) + (i 0).val) (i 1).val (512 * (n % 11) + j.val)) (11 * q) 9
    (fun h i => by
      obtain ⟨r, k, rfl⟩ : ∃ (r : Fin 512) (k : Fin 2048), i = ix2 r k := ⟨i 0, i 1, ValueIdx.eq_ix2 i⟩
      refine (point_adds m c ⟨11 * q, h⟩ (k0_pay1 (F := Ideal)) r k).trans ?_
      rw [zeros_at])
    (fun n h acc i h1 h2 => by
      obtain ⟨r, k, rfl⟩ : ∃ (r : Fin 512) (k : Fin 2048), i = ix2 r k := ⟨i 0, i 1, ValueIdx.eq_ix2 i⟩
      unfold step6
      rw [if_pos (by omega)]
      exact point_adds m c ⟨n, h⟩ acc r k)
    9 le_rfl (Nat.lt_of_succ_lt hq) (ix2 r k)
  refine key.trans ?_
  rw [zero_add]
  refine Finset.sum_congr rfl fun s hs => Finset.sum_congr rfl fun j _ => ?_
  have := Finset.mem_range.mp hs
  show term _ _ _ _ (512 * ((11 * q + s) / 11) + r.val) k.val (512 * ((11 * q + s) % 11) + j.val) = _
  rw [show (11 * q + s) / 11 = q by omega, show (11 * q + s) % 11 = s by omega]

/-- The down projection a run's last point norms. -/
theorem fold_last (q : ℕ) (hq : 11 * q + 10 < cfg0.N) (r : Fin 512) (k : Fin 2048) (h : 512 * q + r.val < 16384) :
    k0_pay2 (F := Ideal) (iblk m c 0 ⟨11 * q + 10, hq⟩) (iblk m c 1 ⟨11 * q + 10, hq⟩) (iblk m c 2 ⟨11 * q + 10, hq⟩)
      (Pipeline.accAt (reset6 m c) (step6 m c) (11 * q) 9 (Nat.lt_of_succ_lt hq)) (iblk m c 3 ⟨11 * q + 10, hq⟩) (ix2 r k)
      = down (tf m c) (tg m c) (tu m c) (td m c) ⟨512 * q + r.val, h⟩ k := by
  rw [point_adds, fold_at m c q hq, ← down_eq, Finset.sum_range_succ _ 10]
  dsimp only
  rw [show (11 * q + 10) / 11 = q by omega, show (11 * q + 10) % 11 = 10 by omega]

/-- The last point of a run, at an element: the norm of the run's down projection. -/
theorem last_at (q : ℕ) (hq : 11 * q + 10 < cfg0.N) (r : Fin 512) (k : Fin 2048) (h : 512 * q + r.val < 16384) :
    Pipeline.accAt (reset6 m c) (step6 m c) (11 * q) 10 hq (ix2 r k)
      = result (tf m c) (tg m c) (tu m c) (td m c) (V m c main_arg4) (fun k => (m ((c : Thread nD τ).loc main_arg5) : S2048.Idx → EReal) (ix1 k)) ⟨512 * q + r.val, h⟩ k := by
  have hd := funext fun k => fold_last m c q hq r k h
  have h4 := blk4 m c ⟨11 * q + 10, hq⟩ r k (by dsimp only; omega)
  have h5 := (blk5 m c ⟨11 * q + 10, hq⟩ k).trans (V_v3 m c k)
  have e4 : (⟨512 * ((11 * q + 10) / 11) + r.val, by omega⟩ : Fin 16384) = ⟨512 * q + r.val, h⟩ := Fin.ext (by dsimp only; omega)
  have h4 := h4.trans (congrArg (fun s => (V m c main_arg4 : S16384x2048.Idx → EReal) (ix2 s k)) e4)
  have hs : Pipeline.accAt (reset6 m c) (step6 m c) (11 * q) 10 hq = step6 m c (11 * q + 10) hq (Pipeline.accAt (reset6 m c) (step6 m c) (11 * q) 9 (Nat.lt_of_succ_lt hq)) :=
    Pipeline.accAt_succ _ _ _ _ _
  rw [hs]
  generalize Pipeline.accAt (reset6 m c) (step6 m c) (11 * q) 9 (Nat.lt_of_succ_lt hq) = acc at *
  unfold step6
  rw [if_neg (by omega), if_pos (by omega)]
  generalize k0_pay2 (F := Ideal) (iblk m c 0 ⟨11 * q + 10, hq⟩) (iblk m c 1 ⟨11 * q + 10, hq⟩) (iblk m c 2 ⟨11 * q + 10, hq⟩) acc (iblk m c 3 ⟨11 * q + 10, hq⟩) = y at *
  refine (norm_at y (iblk m c 5 ⟨11 * q + 10, hq⟩) (iblk m c 4 ⟨11 * q + 10, hq⟩) r k).trans ?_
  unfold result
  exact congrArg₂ (· + ·) h4 (congrArg₂ (· * ·) (congrArg₂ (· * ·) (congrFun hd k) (congrArg factor hd)) h5)

theorem G6_run (s : Fin 16384) (k : Fin 2048) (hq : 11 * (s.val / 512) + 10 < cfg0.N) :
    (G6 m c : S16384x2048.Idx → EReal) (ix2 s k)
      = Pipeline.accAt (reset6 m c) (step6 m c) (11 * (s.val / 512)) 10 hq (ix2 (⟨s.val % 512, Nat.mod_lt _ (by norm_num)⟩ : Fin 512) k) := by
  have hr : run6Of (ix2 s k : S16384x2048.Idx) = s.val / 512 := by
    show 1 * (s.val / 512 - 0) + 1 * (k.val / 2048 - 0) = _
    omega
  have hl : loc6Of (ix2 s k : S16384x2048.Idx) = (ix2 ⟨s.val % 512, Nat.mod_lt _ (by norm_num)⟩ k : S512x2048.Idx) :=
    funext fun a => Fin.ext (match a with | ⟨0, _⟩ => rfl | ⟨1, _⟩ => (show k.val % 2048 = k.val by omega))
  have e : ∀ (b b' : ℕ) (h : b + 10 < cfg0.N) (h' : b' + 10 < cfg0.N), b = b' →
      Pipeline.accAt (reset6 m c) (step6 m c) b 10 h = Pipeline.accAt (reset6 m c) (step6 m c) b' 10 h' := by
    intro b b' h h' hb; subst hb; rfl
  unfold G6
  rw [dif_pos (by rw [hr]; exact hq), hl]
  exact congrFun (e _ _ _ _ (by rw [hr])) _

theorem G6_eq (s : Fin 16384) (k : Fin 2048) :
    (G6 m c : S16384x2048.Idx → EReal) (ix2 s k)
      = result (tf m c) (tg m c) (tu m c) (td m c) (V m c main_arg4) (fun k => (m ((c : Thread nD τ).loc main_arg5) : S2048.Idx → EReal) (ix1 k)) s k := by
  have hq : 11 * (s.val / 512) + 10 < cfg0.N := lt_of_lt_of_eq (by omega) (show cfg0.N = 352 from N_0).symm
  refine (G6_run m c s k hq).trans ((last_at m c (s.val / 512) hq _ k (by dsimp only; omega)).trans ?_)
  exact congrArg (fun s => result _ _ _ _ _ _ s k) (Fin.ext (by dsimp only; omega))

end Cert.Kernel2Ideal.Ffn

end
-- ==== Proof.Ffn.RefValue.lean ====
/- The feed-forward reference's result, element by element. -/
module

public import proofs.«01_k».proof.Proof.Ffn.Result
public import proofs.«01_k».proof.Proof.Gen.Reference2Ideal.Read

@[expose] public section

set_option maxRecDepth 16384
set_option Elab.async false

noncomputable section

namespace Cert.Reference2Ideal.Ffn

open Cert.Reference2Ideal Cert.Reference2Ideal.Read
open Cert.Kernel2Ideal.Ffn (pre gated act down factor result one_lit)
open Idealize.ShloMosaic hiding ix1 ix2 ix3 ix4 eq_ix2 eq_ix3 eq_ix4 mulf_apply addf_apply subf_apply divf_apply truncf_apply constant_apply sum_idx2
open Idealize.ShloMosaic.ValueIdx

variable (x0 : S16384x2048.Idx → EReal) (x1 x2 : S2048x5632.Idx → EReal) (x3 : S5632x2048.Idx → EReal) (x4 : S16384x2048.Idx → EReal) (x5 : S2048.Idx → EReal)

theorem gate_pre (s : Fin 16384) (h : Fin 5632) : val_main_v1 (F := Ideal) x0 x1 (ix2 s h) = pre (fun d => x0 (ix2 s d)) x1 h := by
  rw [val_main_v1_apply]
  refine Finset.sum_congr rfl fun d _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem up_pre (s : Fin 16384) (h : Fin 5632) : val_main_v3 (F := Ideal) x0 x2 (ix2 s h) = pre (fun d => x0 (ix2 s d)) x2 h := by
  rw [val_main_v3_apply]
  refine Finset.sum_congr rfl fun d _ => ?_
  exact congrArg₂ (· * ·) (congrArg x0 (funext fun a => match a with | ⟨0, _⟩ => rfl | ⟨1, _⟩ => rfl))
    (congrArg x2 (funext fun a => match a with | ⟨0, _⟩ => rfl | ⟨1, _⟩ => rfl))

theorem logistic_at (i : S16384x5632.Idx) : val_main_call0_v5 (F := Ideal) x0 x1 i = Ideal.logistic (val_main_v1 (F := Ideal) x0 x1 i) := by
  rw [val_main_call0_v5_apply, val_main_call0_v4_apply, val_main_call0_cst_0_apply, val_main_call0_v3_apply, val_main_call0_v2_apply, val_main_call0_cst_apply,
    val_main_call0_v1_apply, val_main_call0_v0_apply]
  generalize val_main_v1 (F := Ideal) x0 x1 i = g
  rw [one_lit]
  rfl

theorem act_at (s : Fin 16384) (h : Fin 5632) : val_main_v4 (F := Ideal) x0 x1 x2 (ix2 s h) = act x0 x1 x2 s h := by
  rw [val_main_v4_apply, val_main_v2_apply, logistic_at, gate_pre, up_pre]
  rfl

theorem down_at (s : Fin 16384) (c : Fin 2048) : val_main_v5 (F := Ideal) x0 x1 x2 x3 (ix2 s c) = down x0 x1 x2 x3 s c := by
  rw [val_main_v5_apply]
  refine Finset.sum_congr rfl fun h _ => ?_
  refine congrArg₂ (· * ·) (Eq.trans ?_ (act_at x0 x1 x2 s h)) (congrArg x3 (funext fun a => match a with | ⟨0, _⟩ => rfl | ⟨1, _⟩ => rfl))
  exact congrArg (val_main_v4 (F := Ideal) x0 x1 x2) (funext fun a => match a with | ⟨0, _⟩ => rfl | ⟨1, _⟩ => rfl)

theorem factor_at (s : Fin 16384) : val_main_v13 (F := Ideal) x0 x1 x2 x3 (ix2 s (0 : Fin 1) : S16384x1.Idx) = factor (fun k => down x0 x1 x2 x3 s k) := by
  rw [val_main_v13_apply, val_main_v12_apply, val_main_v10_apply, val_main_v9_apply, val_main_v11_apply, val_main_cst_0_apply, val_main_cst_1_apply,
    val_main_v8_apply, val_main_v7_apply, val_main_cst_apply]
  have e : ∑ k : Fin 2048, val_main_v6 (F := Ideal) x0 x1 x2 x3 (idx_main_v7 (idx_main_v8 (ix2 s (0 : Fin 1) : S16384x1.Idx)) k)
      = ∑ k : Fin 2048, down x0 x1 x2 x3 s k * down x0 x1 x2 x3 s k := by
    refine Finset.sum_congr rfl fun k _ => ?_
    rw [val_main_v6_apply, ← down_at]
    exact congrArg (fun i => val_main_v5 (F := Ideal) x0 x1 x2 x3 i * val_main_v5 (F := Ideal) x0 x1 x2 x3 i)
      (funext fun a => match a with | ⟨0, _⟩ => rfl | ⟨1, _⟩ => rfl)
  rw [e, show (FloatOps.ofBits (F := Ideal) .f32 0x00000000#32 : EReal) = 0 from Ideal.ofBits_zero_f32, zero_add]
  rfl

theorem value_at (s : Fin 16384) (c : Fin 2048) :
    val_main_v19 (F := Ideal) x0 x1 x2 x3 x4 x5 (ix2 s c) = result x0 x1 x2 x3 x4 (fun k => x5 (ix1 k)) s c := by
  rw [val_main_v19_apply, val_main_v18_apply, val_main_v15_apply, val_main_v14_apply, val_main_v17_apply, val_main_v16_apply, down_at]
  unfold result
  refine congrArg₂ (· + ·) rfl (congrArg₂ (· * ·) (congrArg₂ (· * ·) rfl ?_) ?_)
  · rw [← factor_at]
    exact congrArg (val_main_v13 (F := Ideal) x0 x1 x2 x3) (funext fun a => match a with | ⟨0, _⟩ => rfl | ⟨1, _⟩ => rfl)
  · exact congrArg x5 (funext fun a => match a with | ⟨0, _⟩ => rfl)

end Cert.Reference2Ideal.Ffn

end
-- ==== Proof.Proj.Gates.lean ====
/- The projection that gives the gates: the output array and the reference's result are one sum of products. -/
module

public import proofs.«01_k».proof.Proof.Gen.Kernel3Ideal.Value
public import proofs.«01_k».proof.Proof.Gen.Reference3Ideal.Read
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel3Ideal.Proj

open Cert.Kernel3Ideal Cert.Kernel3Ideal.Gen Cert.Kernel3Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ) (c : Dev nD)

/-- A block's product, at an element. -/
theorem product_at (a : FVec Ideal S1024x2048 .bf16) (w : FVec Ideal S2048x512 .bf16) (r : Fin 1024) (j : Fin 512) :
    k0_pay1 (F := Ideal) a w (ix2 r j) = ∑ d : Fin 2048, a (ix2 r d) * w (ix2 d j) := by
  unfold k0_pay1
  simp only [shapeCast_self]
  refine Eq.trans (b := FloatOps.matmul (F := Ideal) (DotDims.plain 1024 2048 512) none a w (constant S1024x512 .f32 0x00000000#32) (ix2 r j)) rfl ?_
  rw [Ideal.matmul_plain_apply, constant_apply, Ideal.ofBits_zero_f32, zero_add]

theorem index0 : ∀ t : Fin cfg0.N, win0_0.index t (0 : Fin 2) = t.val / 12 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 12 :=
  (by decide +kernel : ∀ t : Fin grid0.N, _)
theorem index2 : ∀ t : Fin cfg0.N, win0_2.index t (0 : Fin 2) = t.val / 12 ∧ win0_2.index t (1 : Fin 2) = t.val % 12 :=
  (by decide +kernel : ∀ t : Fin grid0.N, _)

theorem blk0 (t : Fin cfg0.N) (r : Fin 1024) (d : Fin 2048) (h : 1024 * (t.val / 12) + r.val < 16384) :
    (iblk m c 0 t : S1024x2048.Idx → EReal) (ix2 r d) = (V m c main_arg0 : S16384x2048.Idx → EReal) (ix2 ⟨1024 * (t.val / 12) + r.val, h⟩ d) := by
  show (V m c main_arg0 : S16384x2048.Idx → EReal) (((cfg0.win 0).blk t).view.emb (ix2 r d : S1024x2048.Idx)) = _
  have e0 : (((cfg0.win 0).blk t).view.emb (ix2 r d : S1024x2048.Idx) 0).val = win0_0.index t (0 : Fin 2) * 1024 + 1 * r.val := rfl
  have e1 : (((cfg0.win 0).blk t).view.emb (ix2 r d : S1024x2048.Idx) 1).val = win0_0.index t (1 : Fin 2) * 2048 + 1 * d.val := rfl
  obtain ⟨i0, i1⟩ := index0 t
  rw [i0] at e0; rw [i1] at e1
  exact congrArg _ (funext fun a => Fin.ext (match a with
    | ⟨0, _⟩ => e0.trans (show _ = 1024 * (t.val / 12) + r.val by omega)
    | ⟨1, _⟩ => e1.trans (show _ = d.val by omega)))

theorem blk1 (t : Fin cfg0.N) (d : Fin 2048) (j : Fin 512) (h : 512 * (t.val % 12) + j.val < 6144) :
    (iblk m c 1 t : S2048x512.Idx → EReal) (ix2 d j) = (V m c main_v1 : S2048x6144.Idx → EReal) (ix2 d ⟨512 * (t.val % 12) + j.val, h⟩) := by
  show (V m c main_v1 : S2048x6144.Idx → EReal) (((cfg0.win 1).blk t).view.emb (ix2 d j : S2048x512.Idx)) = _
  have e0 : (((cfg0.win 1).blk t).view.emb (ix2 d j : S2048x512.Idx) 0).val = win0_1.index t (0 : Fin 2) * 2048 + 1 * d.val := rfl
  have e1 : (((cfg0.win 1).blk t).view.emb (ix2 d j : S2048x512.Idx) 1).val = win0_1.index t (1 : Fin 2) * 512 + 1 * j.val := rfl
  obtain ⟨i0, i1⟩ := index1 t
  rw [i0] at e0; rw [i1] at e1
  exact congrArg _ (funext fun a => Fin.ext (match a with
    | ⟨0, _⟩ => e0.trans (show _ = d.val by omega)
    | ⟨1, _⟩ => e1.trans (show _ = 512 * (t.val % 12) + j.val by omega)))

/-- The kernel's weight is the slice of the projection's. -/
theorem weight_at (d : Fin 2048) (k : Fin 6144) (h : 7232 + k.val < 13376) :
    (V m c main_v1 : S2048x6144.Idx → EReal) (ix2 d k) = (m ((c : Thread nD τ).loc main_arg1) : S2048x13376.Idx → EReal) (ix2 d ⟨7232 + k.val, h⟩) := by
  have e : (V m c main_v1 : S2048x6144.Idx → EReal)
      = extractStridedSlice S2048x6144 ![0, 7232] (m ((c : Thread nD τ).loc main_arg1) : S2048x13376.Idx → EReal) slices_S2048x13376_S2048x6144_0_7232 := by
    unfold_abbrev_sides
    after_results
    rfl
  rw [e]
  exact extractStridedSlice_apply ![0, 7232] (m ((c : Thread nD τ).loc main_arg1) : S2048x13376.Idx → EReal) slices_S2048x13376_S2048x6144_0_7232 (ix2 d k : S2048x6144.Idx)
    (ix2 d ⟨7232 + k.val, h⟩ : S2048x13376.Idx) (fun a => match a with
      | ⟨0, _⟩ => by show d.val = 0 + d.val; omega
      | ⟨1, _⟩ => rfl)

/-- The result, of the arguments. -/
def proj (x : S16384x2048.Idx → EReal) (w : S2048x13376.Idx → EReal) (s : Fin 16384) (k : Fin 13376) : EReal := ∑ d : Fin 2048, x (ix2 s d) * w (ix2 d k)

theorem hz2 : (![0, 0] : Fin 2 → Nat) = fun _ => 0 := funext fun a => match a with | ⟨0, _⟩ => rfl | ⟨1, _⟩ => rfl

/-- What a grid point writes is the product of its blocks. -/
theorem written (x : Vec Ideal S1024x2048 .bf16) (w : Vec Ideal S2048x512 .bf16) : out0_2 (F := Ideal) x w = k0_pay1 (F := Ideal) x w := by
  unfold out0_2
  refine (View.canon_unit_zero (S := S1024x512) hz2 _ _).trans ?_
  exact congrArg₂ (k0_pay1 (F := Ideal)) (View.ld_unit_zero (S := S1024x2048) hz2 _ x) (View.ld_unit_zero (S := S2048x512) hz2 _ w)

abbrev out : S16384x6144.Idx → EReal := (dats m 0 c).arrAt 2 cfg0.N

theorem out_block (t : Fin cfg0.N) (r : Fin 1024) (j : Fin 512) (hs : 1024 * (t.val / 12) + r.val < 16384) (hj : 512 * (t.val % 12) + j.val < 6144) :
    out m c (ix2 ⟨1024 * (t.val / 12) + r.val, hs⟩ ⟨512 * (t.val % 12) + j.val, hj⟩) = out0_2 (F := Ideal) (iblk m c 0 t) (iblk m c 1 t) (ix2 r j) := by
  have h := congrFun ((blocks2 m c t (flush0_2 t)).trans (flushed2 m c t)) (ix2 r j : S1024x512.Idx)
  refine Eq.trans ?_ h
  show out m c _ = out m c (((cfg0.win 2).blk t).view.emb (ix2 r j : S1024x512.Idx))
  have e0 : (((cfg0.win 2).blk t).view.emb (ix2 r j : S1024x512.Idx) 0).val = win0_2.index t (0 : Fin 2) * 1024 + 1 * r.val := rfl
  have e1 : (((cfg0.win 2).blk t).view.emb (ix2 r j : S1024x512.Idx) 1).val = win0_2.index t (1 : Fin 2) * 512 + 1 * j.val := rfl
  obtain ⟨i0, i1⟩ := index2 t
  rw [i0] at e0; rw [i1] at e1
  exact (congrArg (out m c) (funext fun a => Fin.ext (match a with
    | ⟨0, _⟩ => e0.trans (show _ = 1024 * (t.val / 12) + r.val by omega)
    | ⟨1, _⟩ => e1.trans (show _ = 512 * (t.val % 12) + j.val by omega)))).symm

theorem out_point (t : Fin cfg0.N) (r : Fin 1024) (j : Fin 512) (hs : 1024 * (t.val / 12) + r.val < 16384) (hj : 512 * (t.val % 12) + j.val < 6144) :
    out m c (ix2 ⟨1024 * (t.val / 12) + r.val, hs⟩ ⟨512 * (t.val % 12) + j.val, hj⟩)
      = proj (m ((c : Thread nD τ).loc main_arg0)) (m ((c : Thread nD τ).loc main_arg1)) ⟨1024 * (t.val / 12) + r.val, hs⟩ ⟨7232 + (512 * (t.val % 12) + j.val), by omega⟩ := by
  rw [out_block, written]
  refine (product_at (iblk m c 0 t) (iblk m c 1 t) r j).trans ?_
  unfold proj
  refine Finset.sum_congr rfl fun d _ => ?_
  refine congrArg₂ (· * ·) ((blk0 m c t r d hs).trans ?_) ((blk1 m c t d j hj).trans (weight_at m c d _ _))
  exact congrFun (V_main_arg0 m c) _

theorem out_eq (s : Fin 16384) (k : Fin 6144) :
    out m c (ix2 s k) = proj (m ((c : Thread nD τ).loc main_arg0)) (m ((c : Thread nD τ).loc main_arg1)) s ⟨7232 + k.val, by omega⟩ := by
  have hN : cfg0.N = 192 := N_0
  have ht : 12 * (s.val / 1024) + k.val / 512 < cfg0.N := by omega
  have h := out_point m c ⟨12 * (s.val / 1024) + k.val / 512, ht⟩ ⟨s.val % 1024, Nat.mod_lt _ (by norm_num)⟩ ⟨k.val % 512, Nat.mod_lt _ (by norm_num)⟩
    (by dsimp only; omega) (by dsimp only; omega)
  have es : (⟨1024 * ((12 * (s.val / 1024) + k.val / 512) / 12) + s.val % 1024, by omega⟩ : Fin 16384) = s := Fin.ext (by dsimp only; omega)
  have ek : (⟨512 * ((12 * (s.val / 1024) + k.val / 512) % 12) + k.val % 512, by omega⟩ : Fin 6144) = k := Fin.ext (by dsimp only; omega)
  have ek' : (⟨7232 + (512 * ((12 * (s.val / 1024) + k.val / 512) % 12) + k.val % 512), by omega⟩ : Fin 13376) = ⟨7232 + k.val, by omega⟩ := Fin.ext (by dsimp only; omega)
  exact (congrArg₂ (fun s k => out m c (ix2 s k)) es ek).symm.trans (h.trans (congrArg₂ (proj _ _) es ek'))

/-- The reference's element is the same sum. -/
theorem reference_at (x0 : S16384x2048.Idx → EReal) (x1 : S2048x13376.Idx → EReal) (s : Fin 16384) (k : Fin 6144) :
    Cert.Reference3Ideal.Read.val_main_v3 (F := Ideal) x0 x1 (ix2 s k) = proj x0 x1 s ⟨7232 + k.val, by omega⟩ := by
  refine Eq.trans (b := Cert.Reference3Ideal.Read.val_main_v2 (F := Ideal) x0 x1 (ix2 s k)) rfl ?_
  rw [Cert.Reference3Ideal.Read.val_main_v2_apply, Cert.Reference3Ideal.Read.val_main_v1_apply]
  unfold proj
  refine Finset.sum_congr rfl fun d _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

end Cert.Kernel3Ideal.Proj

end
-- ==== Proof.Proj.Values.lean ====
/- The projection that gives the retention's values: the output array and the reference's result are one sum of products. -/
module

public import proofs.«01_k».proof.Proof.Gen.Kernel4Ideal.Value
public import proofs.«01_k».proof.Proof.Gen.Reference4Ideal.Read
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel4Ideal.Proj

open Cert.Kernel4Ideal Cert.Kernel4Ideal.Gen Cert.Kernel4Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ) (c : Dev nD)

/-- A block's product, at an element. -/
theorem product_at (a : FVec Ideal S1024x2048 .bf16) (w : FVec Ideal S2048x512 .bf16) (r : Fin 1024) (j : Fin 512) :
    k0_pay1 (F := Ideal) a w (ix2 r j) = ∑ d : Fin 2048, a (ix2 r d) * w (ix2 d j) := by
  unfold k0_pay1
  simp only [shapeCast_self]
  refine Eq.trans (b := FloatOps.matmul (F := Ideal) (DotDims.plain 1024 2048 512) none a w (constant S1024x512 .f32 0x00000000#32) (ix2 r j)) rfl ?_
  rw [Ideal.matmul_plain_apply, constant_apply, Ideal.ofBits_zero_f32, zero_add]

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 4 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)

theorem blk0 (t : Fin cfg0.N) (r : Fin 1024) (d : Fin 2048) (h : 1024 * (t.val / 4) + r.val < 16384) :
    (iblk m c 0 t : S1024x2048.Idx → EReal) (ix2 r d) = (V m c main_arg0 : S16384x2048.Idx → EReal) (ix2 ⟨1024 * (t.val / 4) + r.val, h⟩ d) := by
  show (V m c main_arg0 : S16384x2048.Idx → EReal) (((cfg0.win 0).blk t).view.emb (ix2 r d : S1024x2048.Idx)) = _
  have e0 : (((cfg0.win 0).blk t).view.emb (ix2 r d : S1024x2048.Idx) 0).val = win0_0.index t (0 : Fin 2) * 1024 + 1 * r.val := rfl
  have e1 : (((cfg0.win 0).blk t).view.emb (ix2 r d : S1024x2048.Idx) 1).val = win0_0.index t (1 : Fin 2) * 2048 + 1 * d.val := rfl
  obtain ⟨i0, i1⟩ := index0 t
  rw [i0] at e0; rw [i1] at e1
  exact congrArg _ (funext fun a => Fin.ext (match a with
    | ⟨0, _⟩ => e0.trans (show _ = 1024 * (t.val / 4) + r.val by omega)
    | ⟨1, _⟩ => e1.trans (show _ = d.val by omega)))

theorem blk1 (t : Fin cfg0.N) (d : Fin 2048) (j : Fin 512) (h : 512 * (t.val % 4) + j.val < 2048) :
    (iblk m c 1 t : S2048x512.Idx → EReal) (ix2 d j) = (V m c main_v1 : S2048x2048.Idx → EReal) (ix2 d ⟨512 * (t.val % 4) + j.val, h⟩) := by
  show (V m c main_v1 : S2048x2048.Idx → EReal) (((cfg0.win 1).blk t).view.emb (ix2 d j : S2048x512.Idx)) = _
  have e0 : (((cfg0.win 1).blk t).view.emb (ix2 d j : S2048x512.Idx) 0).val = win0_1.index t (0 : Fin 2) * 2048 + 1 * d.val := rfl
  have e1 : (((cfg0.win 1).blk t).view.emb (ix2 d j : S2048x512.Idx) 1).val = win0_1.index t (1 : Fin 2) * 512 + 1 * j.val := rfl
  obtain ⟨i0, i1⟩ := index1 t
  rw [i0] at e0; rw [i1] at e1
  exact congrArg _ (funext fun a => Fin.ext (match a with
    | ⟨0, _⟩ => e0.trans (show _ = d.val by omega)
    | ⟨1, _⟩ => e1.trans (show _ = 512 * (t.val % 4) + j.val by omega)))

/-- The kernel's weight is the slice of the projection's. -/
theorem weight_at (d : Fin 2048) (k : Fin 2048) (h : 5184 + k.val < 13376) :
    (V m c main_v1 : S2048x2048.Idx → EReal) (ix2 d k) = (m ((c : Thread nD τ).loc main_arg1) : S2048x13376.Idx → EReal) (ix2 d ⟨5184 + k.val, h⟩) := by
  have e : (V m c main_v1 : S2048x2048.Idx → EReal)
      = extractStridedSlice S2048x2048 ![0, 5184] (m ((c : Thread nD τ).loc main_arg1) : S2048x13376.Idx → EReal) slices_S2048x13376_S2048x2048_0_5184 := by
    unfold_abbrev_sides
    after_results
    rfl
  rw [e]
  exact extractStridedSlice_apply ![0, 5184] (m ((c : Thread nD τ).loc main_arg1) : S2048x13376.Idx → EReal) slices_S2048x13376_S2048x2048_0_5184 (ix2 d k : S2048x2048.Idx)
    (ix2 d ⟨5184 + k.val, h⟩ : S2048x13376.Idx) (fun a => match a with
      | ⟨0, _⟩ => by show d.val = 0 + d.val; omega
      | ⟨1, _⟩ => rfl)

/-- The result, of the arguments. -/
def proj (x : S16384x2048.Idx → EReal) (w : S2048x13376.Idx → EReal) (s : Fin 16384) (k : Fin 13376) : EReal := ∑ d : Fin 2048, x (ix2 s d) * w (ix2 d k)

theorem hz2 : (![0, 0] : Fin 2 → Nat) = fun _ => 0 := funext fun a => match a with | ⟨0, _⟩ => rfl | ⟨1, _⟩ => rfl

/-- What a grid point writes is the product of its blocks. -/
theorem written (x : Vec Ideal S1024x2048 .bf16) (w : Vec Ideal S2048x512 .bf16) : out0_2 (F := Ideal) x w = k0_pay1 (F := Ideal) x w := by
  unfold out0_2
  refine (View.canon_unit_zero (S := S1024x512) hz2 _ _).trans ?_
  exact congrArg₂ (k0_pay1 (F := Ideal)) (View.ld_unit_zero (S := S1024x2048) hz2 _ x) (View.ld_unit_zero (S := S2048x512) hz2 _ w)

abbrev out : S16384x2048.Idx → EReal := (dats m 0 c).arrAt 2 cfg0.N

theorem out_block (t : Fin cfg0.N) (r : Fin 1024) (j : Fin 512) (hs : 1024 * (t.val / 4) + r.val < 16384) (hj : 512 * (t.val % 4) + j.val < 2048) :
    out m c (ix2 ⟨1024 * (t.val / 4) + r.val, hs⟩ ⟨512 * (t.val % 4) + j.val, hj⟩) = out0_2 (F := Ideal) (iblk m c 0 t) (iblk m c 1 t) (ix2 r j) := by
  have h := congrFun ((blocks2 m c t (flush0_2 t)).trans (flushed2 m c t)) (ix2 r j : S1024x512.Idx)
  refine Eq.trans ?_ h
  show out m c _ = out m c (((cfg0.win 2).blk t).view.emb (ix2 r j : S1024x512.Idx))
  have e0 : (((cfg0.win 2).blk t).view.emb (ix2 r j : S1024x512.Idx) 0).val = win0_2.index t (0 : Fin 2) * 1024 + 1 * r.val := rfl
  have e1 : (((cfg0.win 2).blk t).view.emb (ix2 r j : S1024x512.Idx) 1).val = win0_2.index t (1 : Fin 2) * 512 + 1 * j.val := rfl
  obtain ⟨i0, i1⟩ := index2 t
  rw [i0] at e0; rw [i1] at e1
  exact (congrArg (out m c) (funext fun a => Fin.ext (match a with
    | ⟨0, _⟩ => e0.trans (show _ = 1024 * (t.val / 4) + r.val by omega)
    | ⟨1, _⟩ => e1.trans (show _ = 512 * (t.val % 4) + j.val by omega)))).symm

theorem out_point (t : Fin cfg0.N) (r : Fin 1024) (j : Fin 512) (hs : 1024 * (t.val / 4) + r.val < 16384) (hj : 512 * (t.val % 4) + j.val < 2048) :
    out m c (ix2 ⟨1024 * (t.val / 4) + r.val, hs⟩ ⟨512 * (t.val % 4) + j.val, hj⟩)
      = proj (m ((c : Thread nD τ).loc main_arg0)) (m ((c : Thread nD τ).loc main_arg1)) ⟨1024 * (t.val / 4) + r.val, hs⟩ ⟨5184 + (512 * (t.val % 4) + j.val), by omega⟩ := by
  rw [out_block, written]
  refine (product_at (iblk m c 0 t) (iblk m c 1 t) r j).trans ?_
  unfold proj
  refine Finset.sum_congr rfl fun d _ => ?_
  refine congrArg₂ (· * ·) ((blk0 m c t r d hs).trans ?_) ((blk1 m c t d j hj).trans (weight_at m c d _ _))
  exact congrFun (V_main_arg0 m c) _

theorem out_eq (s : Fin 16384) (k : Fin 2048) :
    out m c (ix2 s k) = proj (m ((c : Thread nD τ).loc main_arg0)) (m ((c : Thread nD τ).loc main_arg1)) s ⟨5184 + k.val, by omega⟩ := by
  have hN : cfg0.N = 64 := N_0
  have ht : 4 * (s.val / 1024) + k.val / 512 < cfg0.N := by omega
  have h := out_point m c ⟨4 * (s.val / 1024) + k.val / 512, ht⟩ ⟨s.val % 1024, Nat.mod_lt _ (by norm_num)⟩ ⟨k.val % 512, Nat.mod_lt _ (by norm_num)⟩
    (by dsimp only; omega) (by dsimp only; omega)
  have es : (⟨1024 * ((4 * (s.val / 1024) + k.val / 512) / 4) + s.val % 1024, by omega⟩ : Fin 16384) = s := Fin.ext (by dsimp only; omega)
  have ek : (⟨512 * ((4 * (s.val / 1024) + k.val / 512) % 4) + k.val % 512, by omega⟩ : Fin 2048) = k := Fin.ext (by dsimp only; omega)
  have ek' : (⟨5184 + (512 * ((4 * (s.val / 1024) + k.val / 512) % 4) + k.val % 512), by omega⟩ : Fin 13376) = ⟨5184 + k.val, by omega⟩ := Fin.ext (by dsimp only; omega)
  exact (congrArg₂ (fun s k => out m c (ix2 s k)) es ek).symm.trans (h.trans (congrArg₂ (proj _ _) es ek'))

/-- The reference's element is the same sum. -/
theorem reference_at (x0 : S16384x2048.Idx → EReal) (x1 : S2048x13376.Idx → EReal) (s : Fin 16384) (k : Fin 2048) :
    Cert.Reference4Ideal.Read.val_main_v3 (F := Ideal) x0 x1 (ix2 s k) = proj x0 x1 s ⟨5184 + k.val, by omega⟩ := by
  refine Eq.trans (b := Cert.Reference4Ideal.Read.val_main_v2 (F := Ideal) x0 x1 (ix2 s k)) rfl ?_
  rw [Cert.Reference4Ideal.Read.val_main_v2_apply, Cert.Reference4Ideal.Read.val_main_v1_apply]
  unfold proj
  refine Finset.sum_congr rfl fun d _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

end Cert.Kernel4Ideal.Proj

end
-- ==== Proof.Out.Result.lean ====
/- The output projection: its two output arrays and the reference's results, element by element. -/
module

public import proofs.«01_k».proof.Proof.Ffn.Elements
public import proofs.«01_k».proof.Proof.Gen.Kernel5Ideal.Value
public import proofs.«01_k».proof.Proof.Gen.Reference5Ideal.Read
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel5Ideal.Out

open Cert.Kernel5Ideal Cert.Kernel5Ideal.Gen Cert.Kernel5Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

open Cert.Kernel2Ideal.Ffn (factor)

/-! ## The results, of the arguments -/

section Spec
variable (a : S16384x2048.Idx → EReal) (w : S2048x2048.Idx → EReal) (x : S16384x2048.Idx → EReal) (p q : Fin 2048 → EReal)

/-- The product, the rows with the normed product added, and their norm. -/
def prod (s : Fin 16384) (k : Fin 2048) : EReal := ∑ d : Fin 2048, a (ix2 s d) * w (ix2 d k)
def rows (s : Fin 16384) (k : Fin 2048) : EReal := x (ix2 s k) + prod a w s k * factor (prod a w s) * p k
def normed (s : Fin 16384) (k : Fin 2048) : EReal := rows a w x p s k * factor (rows a w x p s) * q k
end Spec

/-! ## A grid point -/

theorem factor_at (y : FVec Ideal S512x2048 .f32) (r : Fin 512) (k : Fin 2048) :
    broadcastTo S512x2048 (rsqrt (addf (divf (shapeCast S512x1 (multiReduction .add [1] S512 (mulf y y) 0x00000000#32 reduces_S512x2048_S512 (.inl rfl) rfl) shapeCasts_S512_S512x1)
      (broadcast S512x1 (Scalar.ofBits (F := Ideal) .f32 0x45000000#32 : Ideal .f32))) (broadcast S512x1 (Scalar.ofBits (F := Ideal) .f32 0x358637BD#32 : Ideal .f32))))
      broadcasts_S512x1_S512x2048 (ix2 r k) = factor (fun k => y (ix2 r k)) := by
  rw [broadcastTo_apply (k := (ix2 r 0 : S512x1.Idx))]
  · refine Eq.trans (b := Ideal.rsqrt (Ideal.div (shapeCast S512x1 (multiReduction .add [1] S512 (mulf y y) 0x00000000#32 reduces_S512x2048_S512 (.inl rfl) rfl) shapeCasts_S512_S512x1 (ix2 r 0)) (FloatOps.ofBits (F := Ideal) .f32 0x45000000#32) + FloatOps.ofBits (F := Ideal) .f32 0x358637BD#32)) rfl ?_
    unfold factor
    congr 3
    rw [shapeCast_a_a1_apply]
    refine (Ideal.multiReduction_add_single (mulf y y) 0x00000000#32 reduces_S512x2048_S512 (.inl rfl) rfl _).trans ?_
    refine Finset.sum_congr rfl fun j _ => ?_
    exact congrArg (fun i => y i * y i) (funext fun a => match a with | ⟨0, _⟩ => rfl | ⟨1, _⟩ => rfl)
  · exact fun a => match a with | ⟨0, _⟩ => rfl | ⟨1, _⟩ => rfl

/-- A block's product, at an element. -/
theorem product_at (a : FVec Ideal S512x2048 .bf16) (w : FVec Ideal S2048x2048 .bf16) (r : Fin 512) (j : Fin 2048) :
    matmul (F := Ideal) dot_S512x2048_S2048x2048_S512x2048_1_0_0_1_n_n none a w (constant S512x2048 .f32 0x00000000#32) (ix2 r j) = ∑ d : Fin 2048, a (ix2 r d) * w (ix2 d j) := by
  refine Eq.trans (b := FloatOps.matmul (F := Ideal) (DotDims.plain 512 2048 2048) none a w (constant S512x2048 .f32 0x00000000#32) (ix2 r j)) rfl ?_
  rw [Ideal.matmul_plain_apply, constant_apply, Ideal.ofBits_zero_f32, zero_add]

theorem pay1_at (a : FVec Ideal S512x2048 .bf16) (w : FVec Ideal S2048x2048 .bf16) (p : FVec Ideal S1x2048 .f32) (x : FVec Ideal S512x2048 .f32) (r : Fin 512) (k : Fin 2048) :
    k0_pay1 (F := Ideal) a w p x (ix2 r k) = x (ix2 r k) + (∑ d : Fin 2048, a (ix2 r d) * w (ix2 d k)) * factor (fun k => ∑ d : Fin 2048, a (ix2 r d) * w (ix2 d k)) * p (ix2 0 k) := by
  have hy := fun k => product_at a w r k
  unfold k0_pay1
  simp only [shapeCast_self]
  generalize matmul (F := Ideal) dot_S512x2048_S2048x2048_S512x2048_1_0_0_1_n_n none a w (constant S512x2048 .f32 0x00000000#32) = y at *
  rw [addf_apply, mulf_apply, mulf_apply, broadcastTo_1b_ab_apply, factor_at, hy k, funext hy]

theorem pay2_at (a : FVec Ideal S512x2048 .bf16) (w : FVec Ideal S2048x2048 .bf16) (p : FVec Ideal S1x2048 .f32) (x : FVec Ideal S512x2048 .f32) (q : FVec Ideal S1x2048 .f32) (r : Fin 512) (k : Fin 2048) :
    k0_pay2 (F := Ideal) a w p x q (ix2 r k) = k0_pay1 (F := Ideal) a w p x (ix2 r k) * factor (fun k => k0_pay1 (F := Ideal) a w p x (ix2 r k)) * q (ix2 0 k) := by
  unfold k0_pay2
  simp only [shapeCast_self]
  generalize k0_pay1 (F := Ideal) a w p x = y
  refine Eq.trans (b := mulf (mulf y (broadcastTo S512x2048 (rsqrt (addf (divf (shapeCast S512x1 (multiReduction .add [1] S512 (mulf y y) 0x00000000#32 reduces_S512x2048_S512 (.inl rfl) rfl) shapeCasts_S512_S512x1)
      (broadcast S512x1 (Scalar.ofBits (F := Ideal) .f32 0x45000000#32 : Ideal .f32))) (broadcast S512x1 (Scalar.ofBits (F := Ideal) .f32 0x358637BD#32 : Ideal .f32))))
      broadcasts_S512x1_S512x2048)) (broadcastTo S512x2048 q broadcasts_S1x2048_S512x2048) (ix2 r k)) rfl ?_
  rw [mulf_apply, mulf_apply, broadcastTo_1b_ab_apply, factor_at]

theorem hz2 : (![0, 0] : Fin 2 → Nat) = fun _ => 0 := funext fun a => match a with | ⟨0, _⟩ => rfl | ⟨1, _⟩ => rfl

theorem written5 (x0 : Vec Ideal S512x2048 .bf16) (x1 : Vec Ideal S2048x2048 .bf16) (x2 : Vec Ideal S512x2048 .f32) (x3 x4 : Vec Ideal S1x2048 .f32) :
    out0_5 (F := Ideal) x0 x1 x2 x3 x4 = k0_pay1 (F := Ideal) x0 x1 x3 x2 := by
  unfold out0_5
  refine (View.canon_unit_zero (S := S512x2048) hz2 _ _).trans ?_
  rw [View.ld_unit_zero (S := S512x2048) hz2 _ x0, View.ld_unit_zero (S := S2048x2048) hz2 _ x1, View.ld_unit_zero (S := S1x2048) hz2 _ x3, View.ld_unit_zero (S := S512x2048) hz2 _ x2]
theorem written6 (x0 : Vec Ideal S512x2048 .bf16) (x1 : Vec Ideal S2048x2048 .bf16) (x2 : Vec Ideal S512x2048 .f32) (x3 x4 : Vec Ideal S1x2048 .f32) :
    out0_6 (F := Ideal) x0 x1 x2 x3 x4 = k0_pay2 (F := Ideal) x0 x1 x3 x2 x4 := by
  unfold out0_6
  refine (View.canon_unit_zero (S := S512x2048) hz2 _ _).trans ?_
  rw [View.ld_unit_zero (S := S512x2048) hz2 _ x0, View.ld_unit_zero (S := S2048x2048) hz2 _ x1, View.ld_unit_zero (S := S1x2048) hz2 _ x3, View.ld_unit_zero (S := S512x2048) hz2 _ x2, View.ld_unit_zero (S := S1x2048) hz2 _ x4]

/-! ## The blocks -/

variable (m : (ℓ : Loc nD τ sig) → Buf (Elt Ideal) ℓ) (c : Dev nD)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

theorem blk0 (t : Fin cfg0.N) (r : Fin 512) (d : Fin 2048) (hr : 512 * (t.val) + r.val < 16384) :
    (iblk m c 0 t : S512x2048.Idx → EReal) (ix2 r d) = (V m c main_arg0 : S16384x2048.Idx → EReal) (ix2 ⟨512 * (t.val) + r.val, hr⟩ d) := by
  show (V m c main_arg0 : S16384x2048.Idx → EReal) (((cfg0.win 0).blk t).view.emb (ix2 r d : S512x2048.Idx)) = _
  have e0 : (((cfg0.win 0).blk t).view.emb (ix2 r d : S512x2048.Idx) 0).val = win0_0.index t (0 : Fin 2) * 512 + 1 * r.val := rfl
  have e1 : (((cfg0.win 0).blk t).view.emb (ix2 r d : S512x2048.Idx) 1).val = win0_0.index t (1 : Fin 2) * 2048 + 1 * d.val := rfl
  obtain ⟨i0, i1⟩ := index0 t
  rw [i0] at e0; rw [i1] at e1
  exact congrArg _ (funext fun a => Fin.ext (match a with
    | ⟨0, _⟩ => e0.trans (show _ = 512 * (t.val) + r.val by omega)
    | ⟨1, _⟩ => e1.trans (show _ = d.val by omega)))

theorem blk1 (t : Fin cfg0.N) (r : Fin 2048) (d : Fin 2048) :
    (iblk m c 1 t : S2048x2048.Idx → EReal) (ix2 r d) = (V m c main_v0 : S2048x2048.Idx → EReal) (ix2 r d) := by
  show (V m c main_v0 : S2048x2048.Idx → EReal) (((cfg0.win 1).blk t).view.emb (ix2 r d : S2048x2048.Idx)) = _
  have e0 : (((cfg0.win 1).blk t).view.emb (ix2 r d : S2048x2048.Idx) 0).val = win0_1.index t (0 : Fin 2) * 2048 + 1 * r.val := rfl
  have e1 : (((cfg0.win 1).blk t).view.emb (ix2 r d : S2048x2048.Idx) 1).val = win0_1.index t (1 : Fin 2) * 2048 + 1 * d.val := rfl
  obtain ⟨i0, i1⟩ := index1 t
  rw [i0] at e0; rw [i1] at e1
  exact congrArg _ (funext fun a => Fin.ext (match a with
    | ⟨0, _⟩ => e0.trans (show _ = r.val by omega)
    | ⟨1, _⟩ => e1.trans (show _ = d.val by omega)))

theorem blk2 (t : Fin cfg0.N) (r : Fin 512) (d : Fin 2048) (hr : 512 * (t.val) + r.val < 16384) :
    (iblk m c 2 t : S512x2048.Idx → EReal) (ix2 r d) = (V m c main_arg2 : S16384x2048.Idx → EReal) (ix2 ⟨512 * (t.val) + r.val, hr⟩ d) := by
  show (V m c main_arg2 : S16384x2048.Idx → EReal) (((cfg0.win 2).blk t).view.emb (ix2 r d : S512x2048.Idx)) = _
  have e0 : (((cfg0.win 2).blk t).view.emb (ix2 r d : S512x2048.Idx) 0).val = win0_2.index t (0 : Fin 2) * 512 + 1 * r.val := rfl
  have e1 : (((cfg0.win 2).blk t).view.emb (ix2 r d : S512x2048.Idx) 1).val = win0_2.index t (1 : Fin 2) * 2048 + 1 * d.val := rfl
  obtain ⟨i0, i1⟩ := index2 t
  rw [i0] at e0; rw [i1] at e1
  exact congrArg _ (funext fun a => Fin.ext (match a with
    | ⟨0, _⟩ => e0.trans (show _ = 512 * (t.val) + r.val by omega)
    | ⟨1, _⟩ => e1.trans (show _ = d.val by omega)))

theorem blk3 (t : Fin cfg0.N) (r : Fin 1) (d : Fin 2048) :
    (iblk m c 3 t : S1x2048.Idx → EReal) (ix2 r d) = (V m c main_v1 : S1x2048.Idx → EReal) (ix2 r d) := by
  show (V m c main_v1 : S1x2048.Idx → EReal) (((cfg0.win 3).blk t).view.emb (ix2 r d : S1x2048.Idx)) = _
  have e0 : (((cfg0.win 3).blk t).view.emb (ix2 r d : S1x2048.Idx) 0).val = win0_3.index t (0 : Fin 2) * 1 + 1 * r.val := rfl
  have e1 : (((cfg0.win 3).blk t).view.emb (ix2 r d : S1x2048.Idx) 1).val = win0_3.index t (1 : Fin 2) * 2048 + 1 * d.val := rfl
  obtain ⟨i0, i1⟩ := index3 t
  rw [i0] at e0; rw [i1] at e1
  exact congrArg _ (funext fun a => Fin.ext (match a with
    | ⟨0, _⟩ => e0.trans (show _ = r.val by omega)
    | ⟨1, _⟩ => e1.trans (show _ = d.val by omega)))

theorem blk4 (t : Fin cfg0.N) (r : Fin 1) (d : Fin 2048) :
    (iblk m c 4 t : S1x2048.Idx → EReal) (ix2 r d) = (V m c main_v2 : S1x2048.Idx → EReal) (ix2 r d) := by
  show (V m c main_v2 : S1x2048.Idx → EReal) (((cfg0.win 4).blk t).view.emb (ix2 r d : S1x2048.Idx)) = _
  have e0 : (((cfg0.win 4).blk t).view.emb (ix2 r d : S1x2048.Idx) 0).val = win0_4.index t (0 : Fin 2) * 1 + 1 * r.val := rfl
  have e1 : (((cfg0.win 4).blk t).view.emb (ix2 r d : S1x2048.Idx) 1).val = win0_4.index t (1 : Fin 2) * 2048 + 1 * d.val := rfl
  obtain ⟨i0, i1⟩ := index4 t
  rw [i0] at e0; rw [i1] at e1
  exact congrArg _ (funext fun a => Fin.ext (match a with
    | ⟨0, _⟩ => e0.trans (show _ = r.val by omega)
    | ⟨1, _⟩ => e1.trans (show _ = d.val by omega)))

abbrev out5 : S16384x2048.Idx → EReal := (dats m 0 c).arrAt 5 cfg0.N

theorem out5_block (t : Fin cfg0.N) (r : Fin 512) (d : Fin 2048) (hr : 512 * (t.val) + r.val < 16384) :
    out5 m c (ix2 ⟨512 * (t.val) + r.val, hr⟩ d) = out0_5 (F := Ideal) (iblk m c 0 t) (iblk m c 1 t) (iblk m c 2 t) (iblk m c 3 t) (iblk m c 4 t) (ix2 r d) := by
  have h := congrFun ((blocks5 m c t (flush0_5 t)).trans (flushed5 m c t)) (ix2 r d : S512x2048.Idx)
  refine Eq.trans ?_ h
  show out5 m c _ = out5 m c (((cfg0.win 5).blk t).view.emb (ix2 r d : S512x2048.Idx))
  have e0 : (((cfg0.win 5).blk t).view.emb (ix2 r d : S512x2048.Idx) 0).val = win0_5.index t (0 : Fin 2) * 512 + 1 * r.val := rfl
  have e1 : (((cfg0.win 5).blk t).view.emb (ix2 r d : S512x2048.Idx) 1).val = win0_5.index t (1 : Fin 2) * 2048 + 1 * d.val := rfl
  obtain ⟨i0, i1⟩ := index5 t
  rw [i0] at e0; rw [i1] at e1
  exact (congrArg (out5 m c) (funext fun a => Fin.ext (match a with
    | ⟨0, _⟩ => e0.trans (show _ = 512 * (t.val) + r.val by omega)
    | ⟨1, _⟩ => e1.trans (show _ = d.val by omega)))).symm

abbrev out6 : S16384x2048.Idx → EReal := (dats m 0 c).arrAt 6 cfg0.N

theorem out6_block (t : Fin cfg0.N) (r : Fin 512) (d : Fin 2048) (hr : 512 * (t.val) + r.val < 16384) :
    out6 m c (ix2 ⟨512 * (t.val) + r.val, hr⟩ d) = out0_6 (F := Ideal) (iblk m c 0 t) (iblk m c 1 t) (iblk m c 2 t) (iblk m c 3 t) (iblk m c 4 t) (ix2 r d) := by
  have h := congrFun ((blocks6 m c t (flush0_6 t)).trans (flushed6 m c t)) (ix2 r d : S512x2048.Idx)
  refine Eq.trans ?_ h
  show out6 m c _ = out6 m c (((cfg0.win 6).blk t).view.emb (ix2 r d : S512x2048.Idx))
  have e0 : (((cfg0.win 6).blk t).view.emb (ix2 r d : S512x2048.Idx) 0).val = win0_6.index t (0 : Fin 2) * 512 + 1 * r.val := rfl
  have e1 : (((cfg0.win 6).blk t).view.emb (ix2 r d : S512x2048.Idx) 1).val = win0_6.index t (1 : Fin 2) * 2048 + 1 * d.val := rfl
  obtain ⟨i0, i1⟩ := index6 t
  rw [i0] at e0; rw [i1] at e1
  exact (congrArg (out6 m c) (funext fun a => Fin.ext (match a with
    | ⟨0, _⟩ => e0.trans (show _ = 512 * (t.val) + r.val by omega)
    | ⟨1, _⟩ => e1.trans (show _ = d.val by omega)))).symm

theorem V_v0 : (V m c main_v0 : S2048x2048.Idx → EReal) = (m ((c : Thread nD τ).loc main_arg1) : S2048x2048.Idx → EReal) := by
  unfold_abbrev_sides
  after_results
  rfl
theorem V_v1 (k : Fin 2048) : (V m c main_v1 : S1x2048.Idx → EReal) (ix2 0 k) = (m ((c : Thread nD τ).loc main_arg3) : S2048.Idx → EReal) (ix1 k) := by
  have e : (V m c main_v1 : S1x2048.Idx → EReal) = shapeCast S1x2048 (m ((c : Thread nD τ).loc main_arg3) : S2048.Idx → EReal) shapeCasts_S2048_S1x2048 := by
    unfold_abbrev_sides
    after_results
    rfl
  rw [e, shapeCast_a_1a_apply]
theorem V_v2 (k : Fin 2048) : (V m c main_v2 : S1x2048.Idx → EReal) (ix2 0 k) = (m ((c : Thread nD τ).loc main_arg4) : S2048.Idx → EReal) (ix1 k) := by
  have e : (V m c main_v2 : S1x2048.Idx → EReal) = shapeCast S1x2048 (m ((c : Thread nD τ).loc main_arg4) : S2048.Idx → EReal) shapeCasts_S2048_S1x2048 := by
    unfold_abbrev_sides
    after_results
    rfl
  rw [e, shapeCast_a_1a_apply]

abbrev ta : S16384x2048.Idx → EReal := m ((c : Thread nD τ).loc main_arg0)
abbrev tw : S2048x2048.Idx → EReal := m ((c : Thread nD τ).loc main_arg1)
abbrev tx : S16384x2048.Idx → EReal := m ((c : Thread nD τ).loc main_arg2)
abbrev tp : Fin 2048 → EReal := fun k => (m ((c : Thread nD τ).loc main_arg3) : S2048.Idx → EReal) (ix1 k)
abbrev tq : Fin 2048 → EReal := fun k => (m ((c : Thread nD τ).loc main_arg4) : S2048.Idx → EReal) (ix1 k)

abbrev left (t : Fin cfg0.N) : S512x2048.Idx → EReal := iblk m c 0 t
abbrev right (t : Fin cfg0.N) : S2048x2048.Idx → EReal := iblk m c 1 t

theorem prod_block (t : Fin cfg0.N) (r : Fin 512) (k : Fin 2048) (hr : 512 * t.val + r.val < 16384) :
    ∑ d : Fin 2048, left m c t (ix2 r d) * right m c t (ix2 d k) = prod (ta m c) (tw m c) ⟨512 * t.val + r.val, hr⟩ k := by
  unfold prod
  refine Finset.sum_congr rfl fun d _ => congrArg₂ (· * ·) ((blk0 m c t r d hr).trans ?_) ((blk1 m c t d k).trans ?_)
  · exact congrFun (V_main_arg0 m c) _
  · exact congrFun (V_v0 m c) _

theorem rows_block (t : Fin cfg0.N) (r : Fin 512) (k : Fin 2048) (hr : 512 * t.val + r.val < 16384) :
    k0_pay1 (F := Ideal) (iblk m c 0 t) (iblk m c 1 t) (iblk m c 3 t) (iblk m c 2 t) (ix2 r k) = rows (ta m c) (tw m c) (tx m c) (tp m c) ⟨512 * t.val + r.val, hr⟩ k := by
  refine (pay1_at (iblk m c 0 t) (iblk m c 1 t) (iblk m c 3 t) (iblk m c 2 t) r k).trans ?_
  have hp := fun k => prod_block m c t r k hr
  unfold rows
  refine congrArg₂ (· + ·) ((blk2 m c t r k hr).trans (congrFun (V_main_arg2 m c) _)) (congrArg₂ (· * ·) (congrArg₂ (· * ·) (hp k) (congrArg factor (funext hp))) ((blk3 m c t 0 k).trans (V_v1 m c k)))

theorem out5_eq (s : Fin 16384) (k : Fin 2048) : out5 m c (ix2 s k) = rows (ta m c) (tw m c) (tx m c) (tp m c) s k := by
  have hN : cfg0.N = 32 := N_0
  have h := (out5_block m c ⟨s.val / 512, by omega⟩ ⟨s.val % 512, Nat.mod_lt _ (by norm_num)⟩ k (by dsimp only; omega)).trans
    ((congrFun (written5 _ _ _ _ _) _).trans (rows_block m c ⟨s.val / 512, by omega⟩ ⟨s.val % 512, Nat.mod_lt _ (by norm_num)⟩ k (by dsimp only; omega)))
  have es : (⟨512 * (s.val / 512) + s.val % 512, by omega⟩ : Fin 16384) = s := Fin.ext (by dsimp only; omega)
  exact (congrArg (fun s => out5 m c (ix2 s k)) es).symm.trans (h.trans (congrArg (fun s => rows _ _ _ _ s k) es))

theorem out6_eq (s : Fin 16384) (k : Fin 2048) : out6 m c (ix2 s k) = normed (ta m c) (tw m c) (tx m c) (tp m c) (tq m c) s k := by
  have hN : cfg0.N = 32 := N_0
  have hs : 512 * (s.val / 512) + s.val % 512 < 16384 := by omega
  have hr := fun k => rows_block m c ⟨s.val / 512, by omega⟩ ⟨s.val % 512, Nat.mod_lt _ (by norm_num)⟩ k hs
  have h := (out6_block m c ⟨s.val / 512, by omega⟩ ⟨s.val % 512, Nat.mod_lt _ (by norm_num)⟩ k hs).trans
    ((congrFun (written6 _ _ _ _ _) _).trans (pay2_at _ _ _ _ _ _ k))
  have es : (⟨512 * (s.val / 512) + s.val % 512, hs⟩ : Fin 16384) = s := Fin.ext (by dsimp only; omega)
  refine (congrArg (fun s => out6 m c (ix2 s k)) es).symm.trans (h.trans (Eq.trans ?_ (congrArg (fun s => normed (ta m c) (tw m c) (tx m c) (tp m c) (tq m c) s k) es)))
  unfold normed
  exact congrArg₂ (· * ·) (congrArg₂ (· * ·) (hr k) (congrArg factor (funext hr))) ((blk4 m c _ 0 k).trans (V_v2 m c k))

end Cert.Kernel5Ideal.Out

/-! ## The reference -/

namespace Cert.Reference5Ideal.Out

open Cert.Reference5Ideal Cert.Reference5Ideal.Read
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic

open Cert.Kernel2Ideal.Ffn (factor)
open Cert.Kernel5Ideal.Out (prod rows normed)

variable (x0 : S16384x2048.Idx → EReal) (x1 : S2048x2048.Idx → EReal) (x2 : S16384x2048.Idx → EReal) (x3 x4 : S2048.Idx → EReal)

theorem prod_at (s : Fin 16384) (k : Fin 2048) : val_main_v1 (F := Ideal) x0 x1 (ix2 s k) = prod x0 x1 s k := by
  rw [val_main_v1_apply]
  refine Finset.sum_congr rfl fun d _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem factor_prod (s : Fin 16384) : val_main_v9 (F := Ideal) x0 x1 (ix2 s (0 : Fin 1) : S16384x1.Idx) = factor (prod x0 x1 s) := by
  rw [val_main_v9_apply, val_main_v8_apply, val_main_v6_apply, val_main_v5_apply, val_main_v7_apply, val_main_cst_0_apply, val_main_cst_1_apply,
    val_main_v4_apply, val_main_v3_apply, val_main_cst_apply]
  have e : ∑ k : Fin 2048, val_main_v2 (F := Ideal) x0 x1 (idx_main_v3 (idx_main_v4 (ix2 s (0 : Fin 1) : S16384x1.Idx)) k) = ∑ k : Fin 2048, prod x0 x1 s k * prod x0 x1 s k := by
    refine Finset.sum_congr rfl fun k _ => ?_
    rw [val_main_v2_apply, ← prod_at]
    exact congrArg (fun i => val_main_v1 (F := Ideal) x0 x1 i * val_main_v1 (F := Ideal) x0 x1 i) (funext fun a => match a with | ⟨0, _⟩ => rfl | ⟨1, _⟩ => rfl)
  rw [e, show (FloatOps.ofBits (F := Ideal) .f32 0x00000000#32 : EReal) = 0 from Ideal.ofBits_zero_f32, zero_add]
  rfl

theorem rows_at (s : Fin 16384) (k : Fin 2048) : val_main_v15 (F := Ideal) x0 x1 x2 x3 (ix2 s k) = rows x0 x1 x2 (fun k => x3 (ix1 k)) s k := by
  rw [val_main_v15_apply, val_main_v14_apply, val_main_v11_apply, val_main_v10_apply, val_main_v13_apply, val_main_v12_apply, prod_at]
  unfold rows
  refine congrArg₂ (· + ·) rfl (congrArg₂ (· * ·) (congrArg₂ (· * ·) rfl ?_) ?_)
  · rw [← factor_prod]
    exact congrArg (val_main_v9 (F := Ideal) x0 x1) (funext fun a => match a with | ⟨0, _⟩ => rfl | ⟨1, _⟩ => rfl)
  · exact congrArg x3 (funext fun a => match a with | ⟨0, _⟩ => rfl)

theorem factor_rows (s : Fin 16384) : val_main_v23 (F := Ideal) x0 x1 x2 x3 (ix2 s (0 : Fin 1) : S16384x1.Idx) = factor (rows x0 x1 x2 (fun k => x3 (ix1 k)) s) := by
  rw [val_main_v23_apply, val_main_v22_apply, val_main_v20_apply, val_main_v19_apply, val_main_v21_apply, val_main_cst_3_apply, val_main_cst_4_apply,
    val_main_v18_apply, val_main_v17_apply, val_main_cst_2_apply]
  have e : ∑ k : Fin 2048, val_main_v16 (F := Ideal) x0 x1 x2 x3 (idx_main_v17 (idx_main_v18 (ix2 s (0 : Fin 1) : S16384x1.Idx)) k)
      = ∑ k : Fin 2048, rows x0 x1 x2 (fun k => x3 (ix1 k)) s k * rows x0 x1 x2 (fun k => x3 (ix1 k)) s k := by
    refine Finset.sum_congr rfl fun k _ => ?_
    rw [val_main_v16_apply, ← rows_at]
    exact congrArg (fun i => val_main_v15 (F := Ideal) x0 x1 x2 x3 i * val_main_v15 (F := Ideal) x0 x1 x2 x3 i) (funext fun a => match a with | ⟨0, _⟩ => rfl | ⟨1, _⟩ => rfl)
  rw [e, show (FloatOps.ofBits (F := Ideal) .f32 0x00000000#32 : EReal) = 0 from Ideal.ofBits_zero_f32, zero_add]
  rfl

theorem normed_at (s : Fin 16384) (k : Fin 2048) : val_main_v29 (F := Ideal) x0 x1 x2 x3 x4 (ix2 s k) = normed x0 x1 x2 (fun k => x3 (ix1 k)) (fun k => x4 (ix1 k)) s k := by
  refine Eq.trans (b := val_main_v28 (F := Ideal) x0 x1 x2 x3 x4 (ix2 s k)) rfl ?_
  rw [val_main_v28_apply, val_main_v25_apply, val_main_v24_apply, val_main_v27_apply, val_main_v26_apply, rows_at]
  unfold normed
  refine congrArg₂ (· * ·) (congrArg₂ (· * ·) rfl ?_) ?_
  · rw [← factor_rows]
    exact congrArg (val_main_v23 (F := Ideal) x0 x1 x2 x3) (funext fun a => match a with | ⟨0, _⟩ => rfl | ⟨1, _⟩ => rfl)
  · exact congrArg x4 (funext fun a => match a with | ⟨0, _⟩ => rfl)

end Cert.Reference5Ideal.Out

end
-- ==== Proof.Latent.Spec.lean ====
/- The latents and the rotary keys, of the arguments. -/
module

public import proofs.«01_k».proof.Proof.Gen.Kernel6Ideal.Value
public import proofs.«01_k».proof.Proof.Gen.Reference6Ideal.Read
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel6Ideal.Latent

open Cert.Kernel6Ideal Cert.Kernel6Ideal.Gen Cert.Kernel6Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

/-- A norm's factor over a row of 512: the inverse root of the mean square, with the norm's small constant. -/
def factor (y : Fin 512 → EReal) : EReal :=
  Ideal.rsqrt (Ideal.div (∑ k : Fin 512, y k * y k) (FloatOps.ofBits (F := Ideal) .f32 0x44000000#32) + FloatOps.ofBits (F := Ideal) .f32 0x358637BD#32)

/-- The tables of cosines and sines, by position and angle. -/
abbrev cosTable : S4096x32.Idx → EReal := Cert.Reference6Ideal.Read.val_main_v44 (F := Ideal)
abbrev sinTable : S4096x32.Idx → EReal := Cert.Reference6Ideal.Read.val_main_v46 (F := Ideal)

section Spec
variable (h : S16384x2048.Idx → EReal) (w : S2048x13376.Idx → EReal) (q : Fin 512 → EReal)

def proj (s : Fin 16384) (k : Fin 13376) : EReal := ∑ d : Fin 2048, h (ix2 s d) * w (ix2 d k)
/-- The queries' latent and the keys' latent before their norms, and normed. -/
def queryRow (s : Fin 16384) (k : Fin 512) : EReal := proj h w s ⟨k.val, by omega⟩
def keyRow (s : Fin 16384) (k : Fin 512) : EReal := proj h w s ⟨512 + k.val, by omega⟩
def query (s : Fin 16384) (k : Fin 512) : EReal := queryRow h w s k * factor (queryRow h w s) * q k
def key (s : Fin 16384) (k : Fin 512) : EReal := keyRow h w s k * factor (keyRow h w s) * q k
/-- The position of a row in its sequence. -/
abbrev pos (s : Fin 16384) : Fin 4096 := ⟨s.val % 4096, Nat.mod_lt _ (by norm_num)⟩
/-- The rotary key's two halves. -/
def first (s : Fin 16384) (e : Fin 32) : EReal :=
  proj h w s ⟨1024 + e.val, by omega⟩ * cosTable (ix2 (pos s) e) - proj h w s ⟨1056 + e.val, by omega⟩ * sinTable (ix2 (pos s) e)
def second (s : Fin 16384) (e : Fin 32) : EReal :=
  proj h w s ⟨1024 + e.val, by omega⟩ * sinTable (ix2 (pos s) e) + proj h w s ⟨1056 + e.val, by omega⟩ * cosTable (ix2 (pos s) e)
def rotary (s : Fin 16384) (k : Fin 64) : EReal :=
  if hk : k.val < 32 then first h w s ⟨k.val, hk⟩ else second h w s ⟨k.val - 32, by omega⟩
end Spec

end Cert.Kernel6Ideal.Latent

end
-- ==== Proof.Latent.Point.lean ====
/- The latents' projection at a grid point: what is written to each output, element by element. -/
module

public import proofs.«01_k».proof.Proof.Latent.Spec
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel6Ideal.Latent

open Cert.Kernel6Ideal Cert.Kernel6Ideal.Gen Cert.Kernel6Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

theorem factor_at (y : FVec Ideal S512x512 .f32) (r : Fin 512) (k : Fin 512) :
    broadcastTo S512x512 (rsqrt (addf (divf (shapeCast S512x1 (multiReduction .add [1] S512 (mulf y y) 0x00000000#32 reduces_S512x512_S512 (.inl rfl) rfl) shapeCasts_S512_S512x1)
      (broadcast S512x1 (Scalar.ofBits (F := Ideal) .f32 0x44000000#32 : Ideal .f32))) (broadcast S512x1 (Scalar.ofBits (F := Ideal) .f32 0x358637BD#32 : Ideal .f32))))
      broadcasts_S512x1_S512x512 (ix2 r k) = factor (fun k => y (ix2 r k)) := by
  rw [broadcastTo_apply (k := (ix2 r 0 : S512x1.Idx))]
  · refine Eq.trans (b := Ideal.rsqrt (Ideal.div (shapeCast S512x1 (multiReduction .add [1] S512 (mulf y y) 0x00000000#32 reduces_S512x512_S512 (.inl rfl) rfl) shapeCasts_S512_S512x1 (ix2 r 0)) (FloatOps.ofBits (F := Ideal) .f32 0x44000000#32) + FloatOps.ofBits (F := Ideal) .f32 0x358637BD#32)) rfl ?_
    unfold factor
    congr 3
    rw [shapeCast_a_a1_apply]
    refine (Ideal.multiReduction_add_single (mulf y y) 0x00000000#32 reduces_S512x512_S512 (.inl rfl) rfl _).trans ?_
    refine Finset.sum_congr rfl fun j _ => ?_
    exact congrArg (fun i => y i * y i) (funext fun a => match a with | ⟨0, _⟩ => rfl | ⟨1, _⟩ => rfl)
  · exact fun a => match a with | ⟨0, _⟩ => rfl | ⟨1, _⟩ => rfl

variable (x : FVec Ideal S512x2048 .bf16) (w : FVec Ideal S2048x1280 .bf16)

/-- A block's product, at an element. -/
def acc (r : Fin 512) (j : Fin 1280) : EReal := ∑ d : Fin 2048, x (ix2 r d) * w (ix2 d j)

theorem pay4_at (r : Fin 512) (j : Fin 1280) : k0_pay4 (F := Ideal) x w (ix2 r j) = acc x w r j := by
  unfold k0_pay4 acc
  simp only [shapeCast_self]
  refine Eq.trans (b := FloatOps.matmul (F := Ideal) (DotDims.plain 512 2048 1280) none x w (constant S512x1280 .f32 0x00000000#32) (ix2 r j)) rfl ?_
  rw [Ideal.matmul_plain_apply, constant_apply, Ideal.ofBits_zero_f32, zero_add]

theorem slice0_at (r k : Fin 512) : extractStridedSlice S512x512 ![0, 0] (k0_pay4 (F := Ideal) x w) slices_S512x1280_o0_0_S512x512 (ix2 r k) = acc x w r ⟨k.val, by omega⟩ :=
  (extractStridedSlice_apply ![0, 0] (k0_pay4 (F := Ideal) x w) slices_S512x1280_o0_0_S512x512 (ix2 r k : S512x512.Idx) (ix2 r ⟨k.val, by omega⟩ : S512x1280.Idx) (fun a => match a with
    | ⟨0, _⟩ => by show r.val = 0 + r.val; omega
    | ⟨1, _⟩ => by show k.val = 0 + k.val; omega)).trans (pay4_at x w r _)

theorem slice512_at (r k : Fin 512) : extractStridedSlice S512x512 ![0, 512] (k0_pay4 (F := Ideal) x w) slices_S512x1280_o0_512_S512x512 (ix2 r k) = acc x w r ⟨512 + k.val, by omega⟩ :=
  (extractStridedSlice_apply ![0, 512] (k0_pay4 (F := Ideal) x w) slices_S512x1280_o0_512_S512x512 (ix2 r k : S512x512.Idx) (ix2 r ⟨512 + k.val, by omega⟩ : S512x1280.Idx) (fun a => match a with
    | ⟨0, _⟩ => by show r.val = 0 + r.val; omega
    | ⟨1, _⟩ => rfl)).trans (pay4_at x w r _)

theorem pay5_at (p : FVec Ideal S1x512 .f32) (r k : Fin 512) :
    k0_pay5 (F := Ideal) x w p (ix2 r k) = acc x w r ⟨k.val, by omega⟩ * factor (fun k => acc x w r ⟨k.val, by omega⟩) * p (ix2 0 k) := by
  have hy := fun k => slice0_at x w r k
  unfold k0_pay5
  simp only [shapeCast_self]
  generalize extractStridedSlice S512x512 ![0, 0] (k0_pay4 (F := Ideal) x w) slices_S512x1280_o0_0_S512x512 = y at *
  refine Eq.trans (b := mulf (mulf y (broadcastTo S512x512 (rsqrt (addf (divf (shapeCast S512x1 (multiReduction .add [1] S512 (mulf y y) 0x00000000#32 reduces_S512x512_S512 (.inl rfl) rfl) shapeCasts_S512_S512x1)
      (broadcast S512x1 (Scalar.ofBits (F := Ideal) .f32 0x44000000#32 : Ideal .f32))) (broadcast S512x1 (Scalar.ofBits (F := Ideal) .f32 0x358637BD#32 : Ideal .f32))))
      broadcasts_S512x1_S512x512)) (broadcastTo S512x512 p broadcasts_S1x512_S512x512) (ix2 r k)) rfl ?_
  rw [mulf_apply, mulf_apply, broadcastTo_1b_ab_apply, factor_at, hy k, funext hy]

theorem pay6_at (p : FVec Ideal S1x512 .f32) (r k : Fin 512) :
    k0_pay6 (F := Ideal) x w p (ix2 r k) = acc x w r ⟨512 + k.val, by omega⟩ * factor (fun k => acc x w r ⟨512 + k.val, by omega⟩) * p (ix2 0 k) := by
  have hy := fun k => slice512_at x w r k
  unfold k0_pay6
  simp only [shapeCast_self]
  generalize extractStridedSlice S512x512 ![0, 512] (k0_pay4 (F := Ideal) x w) slices_S512x1280_o0_512_S512x512 = y at *
  refine Eq.trans (b := mulf (mulf y (broadcastTo S512x512 (rsqrt (addf (divf (shapeCast S512x1 (multiReduction .add [1] S512 (mulf y y) 0x00000000#32 reduces_S512x512_S512 (.inl rfl) rfl) shapeCasts_S512_S512x1)
      (broadcast S512x1 (Scalar.ofBits (F := Ideal) .f32 0x44000000#32 : Ideal .f32))) (broadcast S512x1 (Scalar.ofBits (F := Ideal) .f32 0x358637BD#32 : Ideal .f32))))
      broadcasts_S512x1_S512x512)) (broadcastTo S512x512 p broadcasts_S1x512_S512x512) (ix2 r k)) rfl ?_
  rw [mulf_apply, mulf_apply, broadcastTo_1b_ab_apply, factor_at, hy k, funext hy]

theorem slice1024_at (r : Fin 512) (k : Fin 128) : k0_pay7 (F := Ideal) x w (ix2 r k) = acc x w r ⟨1024 + k.val, by omega⟩ :=
  (extractStridedSlice_apply ![0, 1024] (k0_pay4 (F := Ideal) x w) slices_S512x1280_o0_1024_S512x128 (ix2 r k : S512x128.Idx) (ix2 r ⟨1024 + k.val, by omega⟩ : S512x1280.Idx) (fun a => match a with
    | ⟨0, _⟩ => by show r.val = 0 + r.val; omega
    | ⟨1, _⟩ => rfl)).trans (pay4_at x w r _)
theorem slice1152_at (r : Fin 512) (k : Fin 128) : extractStridedSlice S512x128 ![0, 1152] (k0_pay4 (F := Ideal) x w) slices_S512x1280_o0_1152_S512x128 (ix2 r k) = acc x w r ⟨1152 + k.val, by omega⟩ :=
  (extractStridedSlice_apply ![0, 1152] (k0_pay4 (F := Ideal) x w) slices_S512x1280_o0_1152_S512x128 (ix2 r k : S512x128.Idx) (ix2 r ⟨1152 + k.val, by omega⟩ : S512x1280.Idx) (fun a => match a with
    | ⟨0, _⟩ => by show r.val = 0 + r.val; omega
    | ⟨1, _⟩ => rfl)).trans (pay4_at x w r _)

theorem pay1_at (p q : FVec Ideal S512x128 .f32) (r : Fin 512) (k : Fin 64) :
    k0_pay1 (F := Ideal) (k0_pay4 (F := Ideal) x w) (k0_pay7 (F := Ideal) x w) p q (ix2 r k)
      = acc x w r ⟨1024 + k.val, by omega⟩ * p (ix2 r ⟨k.val, by omega⟩) + acc x w r ⟨1152 + k.val, by omega⟩ * q (ix2 r ⟨k.val, by omega⟩) := by
  have e1 := slice1024_at x w r ⟨k.val, by omega⟩
  have e2 := slice1152_at x w r ⟨k.val, by omega⟩
  generalize k0_pay7 (F := Ideal) x w = u at *
  unfold k0_pay1
  simp only [shapeCast_self]
  generalize extractStridedSlice S512x128 ![0, 1152] (k0_pay4 (F := Ideal) x w) slices_S512x1280_o0_1152_S512x128 = v at *
  refine (extractStridedSlice_apply ![0, 0] (addf (mulf u p) (mulf v q)) slices_S512x128_o0_0_S512x64 (ix2 r k : S512x64.Idx) (ix2 r ⟨k.val, by omega⟩ : S512x128.Idx) (fun a => match a with
    | ⟨0, _⟩ => by show r.val = 0 + r.val; omega
    | ⟨1, _⟩ => by show k.val = 0 + k.val; omega)).trans ?_
  rw [addf_apply, mulf_apply, mulf_apply, e1, e2]

theorem hz2 : (![0, 0] : Fin 2 → Nat) = fun _ => 0 := funext fun a => match a with | ⟨0, _⟩ => rfl | ⟨1, _⟩ => rfl

section Opened
variable (c : Dev nD) (i : grid0.Coords) (arg1 : Memref sig .tc .vmem S512x2048 .bf16) (harg1 : arg1.IsWhole) (arg2 : Memref sig .tc .vmem S2048x1280 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S512x64 .f32) (harg9 : arg9.IsWhole) (arg10 : Memref sig .tc .vmem S512x576 .bf16) (harg10 : arg10.IsWhole)
  (x0 : Vec Ideal S512x2048 .bf16) (x1 : Vec Ideal S2048x1280 .bf16) (x2 : Vec Ideal S1x512 .f32) (x3 : Vec Ideal S1x512 .f32) (x4 : Vec Ideal S512x128 .f32) (x5 : Vec Ideal S512x128 .f32)

theorem written6 : out0_A_6 (F := Ideal) c i arg1 harg1 arg2 harg2 arg3 harg3 arg4 harg4 arg5 harg5 arg6 harg6 arg7 harg7 arg8 harg8 arg9 harg9 arg10 harg10 x0 x1 x2 x3 x4 x5
    = k0_pay5 (F := Ideal) x0 x1 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  unfold kernelRun0_A
  dsimp only
  try sl_unfold_words
  rw [View.canon_unit_zero (S := S512x512) hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x2048) hz2, View.ld_unit_zero (S := S2048x1280) hz2, View.ld_unit_zero (S := S1x512) hz2, View.ld_unit_zero (S := S512x128) hz2, shapeCast_self]

theorem written7 : out0_A_7 (F := Ideal) c i arg1 harg1 arg2 harg2 arg3 harg3 arg4 harg4 arg5 harg5 arg6 harg6 arg7 harg7 arg8 harg8 arg9 harg9 arg10 harg10 x0 x1 x2 x3 x4 x5
    = k0_pay6 (F := Ideal) x0 x1 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  unfold kernelRun0_A
  dsimp only
  try sl_unfold_words
  rw [View.canon_unit_zero (S := S512x512) hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x2048) hz2, View.ld_unit_zero (S := S2048x1280) hz2, View.ld_unit_zero (S := S1x512) hz2, View.ld_unit_zero (S := S512x128) hz2, shapeCast_self]

theorem written8 : out0_A_8 (F := Ideal) c i arg1 harg1 arg2 harg2 arg3 harg3 arg4 harg4 arg5 harg5 arg6 harg6 arg7 harg7 arg8 harg8 arg9 harg9 arg10 harg10 x0 x1 x2 x3 x4 x5
    = k0_pay1 (F := Ideal) (k0_pay4 (F := Ideal) x0 x1) (k0_pay7 (F := Ideal) x0 x1) x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5)]
  unfold kernelRun0_A
  dsimp only
  try sl_unfold_words
  rw [View.canon_unit_zero (S := S512x64) hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x2048) hz2, View.ld_unit_zero (S := S2048x1280) hz2, View.ld_unit_zero (S := S1x512) hz2, View.ld_unit_zero (S := S512x128) hz2, shapeCast_self]

theorem written9 : out0_A_9 (F := Ideal) c i arg1 harg1 arg2 harg2 arg3 harg3 arg4 harg4 arg5 harg5 arg6 harg6 arg7 harg7 arg8 harg8 arg9 harg9 arg10 harg10 x0 x1 x2 x3 x4 x5
    = View.canon [⟨Rect.unit (s := S512x576) ![0, 512] S512x64.size inb_S512x576_S512x64_0_512, k0_pay3 (F := Ideal) (k0_pay4 (F := Ideal) x0 x1) (k0_pay7 (F := Ideal) x0 x1) x4 x5⟩,
      ⟨Rect.unit (s := S512x576) ![0, 0] S512x512.size inb_S512x576_S512x512_0_0, k0_pay2 (F := Ideal) (k0_pay6 (F := Ideal) x0 x1 x3)⟩] := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x2048) hz2, View.ld_unit_zero (S := S2048x1280) hz2, View.ld_unit_zero (S := S1x512) hz2, View.ld_unit_zero (S := S512x128) hz2, shapeCast_self]
  try rfl

end Opened

theorem off (r : Fin 512) (j : Fin 576) (hj : j.val < 512) : (ix2 r j : S512x576.Idx) ∉ (Rect.unit (s := S512x576) ![0, 512] S512x64.size inb_S512x576_S512x64_0_512).set := by
  intro hm
  have h1 := (Rect.mem_set_unit.mp hm 1).1
  have h2 : 512 ≤ j.val := h1
  omega
theorem skip (o : Rect S512x576) (v : o.shape.Idx → Elt Ideal .bf16) (L : List (View.Piece (Elt Ideal) S512x576 .bf16)) (y : S512x576.Idx) (h : y ∉ o.set) :
    View.canon (⟨o, v⟩ :: L) y = View.canon L y := View.canon_cons_of_not_mem ⟨o, v⟩ L h

theorem joined_right (f : S512x64.Idx → Elt Ideal .bf16) (g : S512x512.Idx → Elt Ideal .bf16) (r : Fin 512) (k : Fin 64) :
    View.canon (Val := Elt Ideal) (e := .bf16) [⟨Rect.unit (s := S512x576) ![0, 512] S512x64.size inb_S512x576_S512x64_0_512, f⟩, ⟨Rect.unit (s := S512x576) ![0, 0] S512x512.size inb_S512x576_S512x512_0_0, g⟩]
      (ix2 r ⟨512 + k.val, by omega⟩ : S512x576.Idx) = f (ix2 r k) := by
  have e : (ix2 r ⟨512 + k.val, by omega⟩ : S512x576.Idx) = (Rect.unit (s := S512x576) ![0, 512] S512x64.size inb_S512x576_S512x64_0_512).emb (ix2 r k : S512x64.Idx) :=
    funext fun a => Fin.ext (match a with
      | ⟨0, _⟩ => (show r.val = 0 + 1 * r.val by omega)
      | ⟨1, _⟩ => (show 512 + k.val = 512 + 1 * k.val by omega))
  rw [e]
  exact View.canon_cons_emb (Rect.unit (s := S512x576) ![0, 512] S512x64.size inb_S512x576_S512x64_0_512) f _ _
theorem joined_left (f : S512x64.Idx → Elt Ideal .bf16) (g : S512x512.Idx → Elt Ideal .bf16) (r : Fin 512) (k : Fin 512) :
    View.canon (Val := Elt Ideal) (e := .bf16) [⟨Rect.unit (s := S512x576) ![0, 512] S512x64.size inb_S512x576_S512x64_0_512, f⟩, ⟨Rect.unit (s := S512x576) ![0, 0] S512x512.size inb_S512x576_S512x512_0_0, g⟩]
      (ix2 r ⟨k.val, by omega⟩ : S512x576.Idx) = g (ix2 r k) := by
  refine (skip (Rect.unit (s := S512x576) ![0, 512] S512x64.size inb_S512x576_S512x64_0_512) f _ _ (off r ⟨k.val, by omega⟩ k.isLt)).trans ?_
  have e : (ix2 r ⟨k.val, by omega⟩ : S512x576.Idx) = (Rect.unit (s := S512x576) ![0, 0] S512x512.size inb_S512x576_S512x512_0_0).emb (ix2 r k : S512x512.Idx) :=
    funext fun a => Fin.ext (match a with
      | ⟨0, _⟩ => (show r.val = 0 + 1 * r.val by omega)
      | ⟨1, _⟩ => (show k.val = 0 + 1 * k.val by omega))
  rw [e]
  exact View.canon_cons_emb (Rect.unit (s := S512x576) ![0, 0] S512x512.size inb_S512x576_S512x512_0_0) g _ _

end Cert.Kernel6Ideal.Latent

end
-- ==== Proof.Latent.Host.lean ====
/- The latents' projection: its arguments as the host prepares them. -/
module

public import proofs.«01_k».proof.Proof.Latent.Spec
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel6Ideal.Latent

open Cert.Kernel6Ideal Cert.Kernel6Ideal.Gen Cert.Kernel6Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ) (c : Dev nD)

theorem V_v37 (k : Fin 512) : (V m c main_v37 : S1x512.Idx → EReal) (ix2 0 k) = (m ((c : Thread nD τ).loc main_arg2) : S512.Idx → EReal) (ix1 k) := by
  have e : (V m c main_v37 : S1x512.Idx → EReal) = shapeCast S1x512 (m ((c : Thread nD τ).loc main_arg2) : S512.Idx → EReal) shapeCasts_S512_S1x512 := by
    unfold_abbrev_sides
    after_results
    rfl
  rw [e, shapeCast_a_1a_apply]
theorem V_v38 (k : Fin 512) : (V m c main_v38 : S1x512.Idx → EReal) (ix2 0 k) = (m ((c : Thread nD τ).loc main_arg3) : S512.Idx → EReal) (ix1 k) := by
  have e : (V m c main_v38 : S1x512.Idx → EReal) = shapeCast S1x512 (m ((c : Thread nD τ).loc main_arg3) : S512.Idx → EReal) shapeCasts_S512_S1x512 := by
    unfold_abbrev_sides
    after_results
    rfl
  rw [e, shapeCast_a_1a_apply]

/-! ## The rotary tables -/

/-- A table of 32 columns four times side by side. -/
def fourfold (y : S4096x32.Idx → EReal) : S4096x128.Idx → EReal :=
  shapeCast S4096x128 (broadcastInDim S1x4096x1x128 ![0, 1, 2, 3] bcast_S1x4096x1x128_S1x4096x1x128_0_1_2_3
    (shapeCast S1x4096x1x128 (shapeCast S4096x128 (broadcastInDim S1x4096x4x32 ![0, 1, 2, 3] bcast_S1x4096x1x32_S1x4096x4x32_0_1_2_3
      (shapeCast S1x4096x1x32 y shapeCasts_S4096x32_S1x4096x1x32)) shapeCasts_S1x4096x4x32_S4096x128) shapeCasts_S4096x128_S1x4096x1x128)) shapeCasts_S1x4096x1x128_S4096x128

theorem fourfold_at (y : S4096x32.Idx → EReal) (a : Fin 4096) (g : Fin 4) (e : Fin 32) (k : Fin 128) (hk : k.val = 32 * g.val + e.val) : fourfold y (ix2 a k) = y (ix2 a e) := by
  unfold fourfold
  refine (shapeCast_apply _ shapeCasts_S1x4096x1x128_S4096x128 (ix2 a k : S4096x128.Idx) (ix4 0 a 0 k : S1x4096x1x128.Idx)
    (by rewrite [Shape.rowMajor_val_four, Shape.rowMajor_val_two]; show ((0 * 4096 + a.val) * 1 + 0) * 128 + k.val = a.val * 128 + k.val; omega)).trans ?_
  refine (broadcastInDim_apply _ bcast_S1x4096x1x128_S1x4096x1x128_0_1_2_3 _ (ix4 0 a 0 k : S1x4096x1x128.Idx) (ix4 0 a 0 k : S1x4096x1x128.Idx) (fun b => match b with
    | ⟨0, _⟩ => rfl
    | ⟨1, _⟩ => rfl
    | ⟨2, _⟩ => rfl
    | ⟨3, _⟩ => rfl)).trans ?_
  refine (shapeCast_apply _ shapeCasts_S4096x128_S1x4096x1x128 (ix4 0 a 0 k : S1x4096x1x128.Idx) (ix2 a k : S4096x128.Idx)
    (by rewrite [Shape.rowMajor_val_four, Shape.rowMajor_val_two]; show a.val * 128 + k.val = ((0 * 4096 + a.val) * 1 + 0) * 128 + k.val; omega)).trans ?_
  refine (shapeCast_apply _ shapeCasts_S1x4096x4x32_S4096x128 (ix2 a k : S4096x128.Idx) (ix4 0 a g e : S1x4096x4x32.Idx)
    (by rewrite [Shape.rowMajor_val_four, Shape.rowMajor_val_two]; show ((0 * 4096 + a.val) * 4 + g.val) * 32 + e.val = a.val * 128 + k.val; omega)).trans ?_
  refine (broadcastInDim_apply _ bcast_S1x4096x1x32_S1x4096x4x32_0_1_2_3 _ (ix4 0 a g e : S1x4096x4x32.Idx) (ix4 0 a 0 e : S1x4096x1x32.Idx) (fun b => match b with
    | ⟨0, _⟩ => rfl
    | ⟨1, _⟩ => rfl
    | ⟨2, _⟩ => rfl
    | ⟨3, _⟩ => rfl)).trans ?_
  exact shapeCast_apply _ shapeCasts_S4096x32_S1x4096x1x32 (ix4 0 a 0 e : S1x4096x1x32.Idx) (ix2 a e : S4096x32.Idx)
    (by rewrite [Shape.rowMajor_val_four, Shape.rowMajor_val_two]; show a.val * 32 + e.val = ((0 * 4096 + a.val) * 1 + 0) * 32 + e.val; omega)

/-- A table of 64 columns twice side by side. -/
def twofold (y : S4096x64.Idx → EReal) : S4096x128.Idx → EReal :=
  shapeCast S4096x128 (broadcastInDim S1x4096x1x128 ![0, 1, 2, 3] bcast_S1x4096x1x128_S1x4096x1x128_0_1_2_3
    (shapeCast S1x4096x1x128 (shapeCast S4096x128 (broadcastInDim S1x4096x2x64 ![0, 1, 2, 3] bcast_S1x4096x1x64_S1x4096x2x64_0_1_2_3
      (shapeCast S1x4096x1x64 y shapeCasts_S4096x64_S1x4096x1x64)) shapeCasts_S1x4096x2x64_S4096x128) shapeCasts_S4096x128_S1x4096x1x128)) shapeCasts_S1x4096x1x128_S4096x128

theorem twofold_at (y : S4096x64.Idx → EReal) (a : Fin 4096) (g : Fin 2) (e : Fin 64) (k : Fin 128) (hk : k.val = 64 * g.val + e.val) : twofold y (ix2 a k) = y (ix2 a e) := by
  unfold twofold
  refine (shapeCast_apply _ shapeCasts_S1x4096x1x128_S4096x128 (ix2 a k : S4096x128.Idx) (ix4 0 a 0 k : S1x4096x1x128.Idx)
    (by rewrite [Shape.rowMajor_val_four, Shape.rowMajor_val_two]; show ((0 * 4096 + a.val) * 1 + 0) * 128 + k.val = a.val * 128 + k.val; omega)).trans ?_
  refine (broadcastInDim_apply _ bcast_S1x4096x1x128_S1x4096x1x128_0_1_2_3 _ (ix4 0 a 0 k : S1x4096x1x128.Idx) (ix4 0 a 0 k : S1x4096x1x128.Idx) (fun b => match b with
    | ⟨0, _⟩ => rfl
    | ⟨1, _⟩ => rfl
    | ⟨2, _⟩ => rfl
    | ⟨3, _⟩ => rfl)).trans ?_
  refine (shapeCast_apply _ shapeCasts_S4096x128_S1x4096x1x128 (ix4 0 a 0 k : S1x4096x1x128.Idx) (ix2 a k : S4096x128.Idx)
    (by rewrite [Shape.rowMajor_val_four, Shape.rowMajor_val_two]; show a.val * 128 + k.val = ((0 * 4096 + a.val) * 1 + 0) * 128 + k.val; omega)).trans ?_
  refine (shapeCast_apply _ shapeCasts_S1x4096x2x64_S4096x128 (ix2 a k : S4096x128.Idx) (ix4 0 a g e : S1x4096x2x64.Idx)
    (by rewrite [Shape.rowMajor_val_four, Shape.rowMajor_val_two]; show ((0 * 4096 + a.val) * 2 + g.val) * 64 + e.val = a.val * 128 + k.val; omega)).trans ?_
  refine (broadcastInDim_apply _ bcast_S1x4096x1x64_S1x4096x2x64_0_1_2_3 _ (ix4 0 a g e : S1x4096x2x64.Idx) (ix4 0 a 0 e : S1x4096x1x64.Idx) (fun b => match b with
    | ⟨0, _⟩ => rfl
    | ⟨1, _⟩ => rfl
    | ⟨2, _⟩ => rfl
    | ⟨3, _⟩ => rfl)).trans ?_
  exact shapeCast_apply _ shapeCasts_S4096x64_S1x4096x1x64 (ix4 0 a 0 e : S1x4096x1x64.Idx) (ix2 a e : S4096x64.Idx)
    (by rewrite [Shape.rowMajor_val_four, Shape.rowMajor_val_two]; show a.val * 64 + e.val = ((0 * 4096 + a.val) * 1 + 0) * 64 + e.val; omega)

theorem V_v27 : (V m c main_v27 : S4096x128.Idx → EReal) = fourfold cosTable := by
  unfold_abbrev_sides
  after_results
  rfl

/-- The sines with their sign: negative, then positive. -/
def signed : S4096x64.Idx → EReal :=
  concatenate S4096x64 1 [⟨S4096x32, (fun i => -sinTable i)⟩, ⟨S4096x32, sinTable⟩] concatenates_S4096x32_S4096x32_S4096x64_d1

theorem V_v35 : (V m c main_v35 : S4096x128.Idx → EReal) = twofold signed := by
  unfold_abbrev_sides
  after_results
  rfl

theorem cos_low (a : Fin 4096) (e : Fin 32) (k : Fin 128) (hk : k.val = e.val) : (V m c main_v27 : S4096x128.Idx → EReal) (ix2 a k) = cosTable (ix2 a e) := by
  rw [V_v27]
  exact fourfold_at cosTable a 0 e k (by show k.val = 32 * 0 + e.val; omega)
theorem cos_high (a : Fin 4096) (e : Fin 32) (k : Fin 128) (hk : k.val = 32 + e.val) : (V m c main_v27 : S4096x128.Idx → EReal) (ix2 a k) = cosTable (ix2 a e) := by
  rw [V_v27]
  exact fourfold_at cosTable a 1 e k (by show k.val = 32 * 1 + e.val; omega)
theorem sin_low (a : Fin 4096) (e : Fin 32) (k : Fin 128) (hk : k.val = e.val) : (V m c main_v35 : S4096x128.Idx → EReal) (ix2 a k) = -sinTable (ix2 a e) := by
  rw [V_v35]
  refine (twofold_at signed a 0 ⟨e.val, by omega⟩ k (by show k.val = 64 * 0 + e.val; omega)).trans ?_
  unfold signed
  exact concatenate_pair_apply_left (s₁ := S4096x32) (s₂ := S4096x32) 1 _ _ _ (ix2 a ⟨e.val, by omega⟩ : S4096x64.Idx) rfl (ix2 a e : S4096x32.Idx) (fun b => match b with
    | ⟨0, _⟩ => rfl
    | ⟨1, _⟩ => rfl)
theorem sin_high (a : Fin 4096) (e : Fin 32) (k : Fin 128) (hk : k.val = 32 + e.val) : (V m c main_v35 : S4096x128.Idx → EReal) (ix2 a k) = sinTable (ix2 a e) := by
  rw [V_v35]
  refine (twofold_at signed a 0 ⟨32 + e.val, by omega⟩ k (by show k.val = 64 * 0 + (32 + e.val); omega)).trans ?_
  unfold signed
  exact concatenate_pair_apply_right (s₁ := S4096x32) (s₂ := S4096x32) 1 _ _ _ (ix2 a ⟨32 + e.val, by omega⟩ : S4096x64.Idx) rfl rfl (ix2 a e : S4096x32.Idx) (fun b hb => match b, hb with
    | ⟨0, _⟩, _ => rfl
    | ⟨1, _⟩, hb => absurd rfl hb) (show e.val + 32 = 32 + e.val by omega)

/-! ## The packed weight -/

section Packed
variable (w : S2048x13376.Idx → EReal) (z : S2048x64.Idx → EReal)

def latentColumns : S2048x1024.Idx → EReal := extractStridedSlice S2048x1024 ![0, 0] w slices_S2048x13376_S2048x1024_0_0
def keyColumns : S2048x64.Idx → EReal := extractStridedSlice S2048x64 ![0, 1024] w slices_S2048x13376_S2048x64_0_1024
def swappedColumns : S2048x64.Idx → EReal :=
  concatenate S2048x64 1 [⟨S2048x32, extractStridedSlice S2048x32 ![0, 32] (keyColumns w) slices_S2048x64_S2048x32_0_32⟩,
    ⟨S2048x32, extractStridedSlice S2048x32 ![0, 0] (keyColumns w) slices_S2048x64_S2048x32_0_0⟩] concatenates_S2048x32_S2048x32_S2048x64_d1
/-- The weight as the call reads it: the latents' columns, the rotary key's, and these with their halves swapped, each
    filled up to 128 columns. -/
def packed : S2048x1280.Idx → EReal :=
  concatenate S2048x1280 1 [⟨S2048x1024, latentColumns w⟩, ⟨S2048x64, keyColumns w⟩, ⟨S2048x64, z⟩, ⟨S2048x64, swappedColumns w⟩, ⟨S2048x64, z⟩]
    concatenates_S2048x1024_S2048x64_S2048x64_S2048x64_S2048x64_S2048x1280_d1

theorem key_columns (d : Fin 2048) (k : Fin 64) : keyColumns w (ix2 d k) = w (ix2 d ⟨1024 + k.val, by omega⟩) :=
  extractStridedSlice_apply ![0, 1024] w slices_S2048x13376_S2048x64_0_1024 (ix2 d k : S2048x64.Idx) (ix2 d ⟨1024 + k.val, by omega⟩ : S2048x13376.Idx) (fun a => match a with
    | ⟨0, _⟩ => by show d.val = 0 + d.val; omega
    | ⟨1, _⟩ => rfl)
theorem swapped_low (d : Fin 2048) (e : Fin 32) : swappedColumns w (ix2 d ⟨e.val, by omega⟩) = w (ix2 d ⟨1056 + e.val, by omega⟩) := by
  unfold swappedColumns
  refine (concatenate_pair_apply_left (s₁ := S2048x32) (s₂ := S2048x32) 1 _ _ _ (ix2 d ⟨e.val, by omega⟩ : S2048x64.Idx) rfl (ix2 d e : S2048x32.Idx) (fun b => match b with
    | ⟨0, _⟩ => rfl
    | ⟨1, _⟩ => rfl)).trans ?_
  refine (extractStridedSlice_apply ![0, 32] (keyColumns w) slices_S2048x64_S2048x32_0_32 (ix2 d e : S2048x32.Idx) (ix2 d ⟨32 + e.val, by omega⟩ : S2048x64.Idx) (fun a => match a with
    | ⟨0, _⟩ => by show d.val = 0 + d.val; omega
    | ⟨1, _⟩ => rfl)).trans ((key_columns w d _).trans ?_)
  exact congrArg (fun k => w (ix2 d k)) (Fin.ext (by show 1024 + (32 + e.val) = 1056 + e.val; omega))
theorem swapped_high (d : Fin 2048) (e : Fin 32) : swappedColumns w (ix2 d ⟨32 + e.val, by omega⟩) = w (ix2 d ⟨1024 + e.val, by omega⟩) := by
  unfold swappedColumns
  refine (concatenate_pair_apply_right (s₁ := S2048x32) (s₂ := S2048x32) 1 _ _ _ (ix2 d ⟨32 + e.val, by omega⟩ : S2048x64.Idx) rfl rfl (ix2 d e : S2048x32.Idx) (fun b hb => match b, hb with
    | ⟨0, _⟩, _ => rfl
    | ⟨1, _⟩, hb => absurd rfl hb) (show e.val + 32 = 32 + e.val by omega)).trans ?_
  exact (extractStridedSlice_apply ![0, 0] (keyColumns w) slices_S2048x64_S2048x32_0_0 (ix2 d e : S2048x32.Idx) (ix2 d ⟨e.val, by omega⟩ : S2048x64.Idx) (fun a => match a with
    | ⟨0, _⟩ => by show d.val = 0 + d.val; omega
    | ⟨1, _⟩ => by show e.val = 0 + e.val; omega)).trans (key_columns w d _)

theorem packed_latent (d : Fin 2048) (j : Fin 1280) (hj : j.val < 1024) : packed w z (ix2 d j) = w (ix2 d ⟨j.val, by omega⟩) := by
  unfold packed
  refine (concatenate_apply_piece 1 _ _ (ix2 d j : S2048x1280.Idx) 0 (by simp) S2048x1024 (latentColumns w) rfl rfl 0 rfl (ix2 d ⟨j.val, hj⟩ : S2048x1024.Idx) (fun b hb => match b, hb with
    | ⟨0, _⟩, _ => rfl
    | ⟨1, _⟩, hb => absurd rfl hb) (show 0 + j.val = j.val by omega)).trans ?_
  exact extractStridedSlice_apply ![0, 0] w slices_S2048x13376_S2048x1024_0_0 (ix2 d ⟨j.val, hj⟩ : S2048x1024.Idx) (ix2 d ⟨j.val, by omega⟩ : S2048x13376.Idx) (fun a => match a with
    | ⟨0, _⟩ => by show d.val = 0 + d.val; omega
    | ⟨1, _⟩ => by show j.val = 0 + j.val; omega)
theorem packed_key (d : Fin 2048) (k : Fin 64) : packed w z (ix2 d ⟨1024 + k.val, by omega⟩) = w (ix2 d ⟨1024 + k.val, by omega⟩) := by
  unfold packed
  exact (concatenate_apply_piece 1 _ _ (ix2 d ⟨1024 + k.val, by omega⟩ : S2048x1280.Idx) 1 (by simp) S2048x64 (keyColumns w) rfl rfl 1024 rfl (ix2 d k : S2048x64.Idx) (fun b hb => match b, hb with
    | ⟨0, _⟩, _ => rfl
    | ⟨1, _⟩, hb => absurd rfl hb) rfl).trans (key_columns w d k)
theorem packed_swapped (d : Fin 2048) (k : Fin 64) : packed w z (ix2 d ⟨1152 + k.val, by omega⟩) = swappedColumns w (ix2 d k) := by
  unfold packed
  exact concatenate_apply_piece 1 _ _ (ix2 d ⟨1152 + k.val, by omega⟩ : S2048x1280.Idx) 3 (by simp) S2048x64 (swappedColumns w) rfl rfl 1152 rfl (ix2 d k : S2048x64.Idx) (fun b hb => match b, hb with
    | ⟨0, _⟩, _ => rfl
    | ⟨1, _⟩, hb => absurd rfl hb) rfl
end Packed

theorem V_v36 : (V m c main_v36 : S2048x1280.Idx → EReal) = packed (m ((c : Thread nD τ).loc main_arg1) : S2048x13376.Idx → EReal) (broadcastInDim S2048x64 ![] bcast_S_S2048x64 (constant (F := Ideal) S_ .f32 0x00000000#32)) := by
  unfold_abbrev_sides
  after_results
  rfl

end Cert.Kernel6Ideal.Latent

end
-- ==== Proof.Latent.Result.lean ====
/- The latents' projection: its four output arrays, element by element. -/
module

public import proofs.«01_k».proof.Proof.Latent.Point
public import proofs.«01_k».proof.Proof.Latent.Host
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel6Ideal.Latent

open Cert.Kernel6Ideal Cert.Kernel6Ideal.Gen Cert.Kernel6Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ) (c : Dev nD)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val % 8 ∧ win0_4.index t (1 : Fin 2) = 0 :=
  (by decide +kernel : ∀ t : Fin grid0.N, _)
theorem index5 : ∀ t : Fin cfg0.N, win0_5.index t (0 : Fin 2) = t.val % 8 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)

theorem blk0 (t : Fin cfg0.N) (r : Fin 512) (d : Fin 2048) (hr : 512 * (t.val) + r.val < 16384) :
    (iblk m c 0 t : S512x2048.Idx → EReal) (ix2 r d) = (V m c main_arg0 : S16384x2048.Idx → EReal) (ix2 ⟨512 * (t.val) + r.val, hr⟩ d) := by
  show (V m c main_arg0 : S16384x2048.Idx → EReal) (((cfg0.win 0).blk t).view.emb (ix2 r d : S512x2048.Idx)) = _
  have e0 : (((cfg0.win 0).blk t).view.emb (ix2 r d : S512x2048.Idx) 0).val = win0_0.index t (0 : Fin 2) * 512 + 1 * r.val := rfl
  have e1 : (((cfg0.win 0).blk t).view.emb (ix2 r d : S512x2048.Idx) 1).val = win0_0.index t (1 : Fin 2) * 2048 + 1 * d.val := rfl
  obtain ⟨i0, i1⟩ := index0 t
  rw [i0] at e0; rw [i1] at e1
  exact congrArg _ (funext fun a => Fin.ext (match a with
    | ⟨0, _⟩ => e0.trans (show _ = 512 * (t.val) + r.val by omega)
    | ⟨1, _⟩ => e1.trans (show _ = d.val by omega)))

theorem blk1 (t : Fin cfg0.N) (r : Fin 2048) (d : Fin 1280) :
    (iblk m c 1 t : S2048x1280.Idx → EReal) (ix2 r d) = (V m c main_v36 : S2048x1280.Idx → EReal) (ix2 r d) := by
  show (V m c main_v36 : S2048x1280.Idx → EReal) (((cfg0.win 1).blk t).view.emb (ix2 r d : S2048x1280.Idx)) = _
  have e0 : (((cfg0.win 1).blk t).view.emb (ix2 r d : S2048x1280.Idx) 0).val = win0_1.index t (0 : Fin 2) * 2048 + 1 * r.val := rfl
  have e1 : (((cfg0.win 1).blk t).view.emb (ix2 r d : S2048x1280.Idx) 1).val = win0_1.index t (1 : Fin 2) * 1280 + 1 * d.val := rfl
  obtain ⟨i0, i1⟩ := index1 t
  rw [i0] at e0; rw [i1] at e1
  exact congrArg _ (funext fun a => Fin.ext (match a with
    | ⟨0, _⟩ => e0.trans (show _ = r.val by omega)
    | ⟨1, _⟩ => e1.trans (show _ = d.val by omega)))

theorem blk2 (t : Fin cfg0.N) (r : Fin 1) (d : Fin 512) :
    (iblk m c 2 t : S1x512.Idx → EReal) (ix2 r d) = (V m c main_v37 : S1x512.Idx → EReal) (ix2 r d) := by
  show (V m c main_v37 : S1x512.Idx → EReal) (((cfg0.win 2).blk t).view.emb (ix2 r d : S1x512.Idx)) = _
  have e0 : (((cfg0.win 2).blk t).view.emb (ix2 r d : S1x512.Idx) 0).val = win0_2.index t (0 : Fin 2) * 1 + 1 * r.val := rfl
  have e1 : (((cfg0.win 2).blk t).view.emb (ix2 r d : S1x512.Idx) 1).val = win0_2.index t (1 : Fin 2) * 512 + 1 * d.val := rfl
  obtain ⟨i0, i1⟩ := index2 t
  rw [i0] at e0; rw [i1] at e1
  exact congrArg _ (funext fun a => Fin.ext (match a with
    | ⟨0, _⟩ => e0.trans (show _ = r.val by omega)
    | ⟨1, _⟩ => e1.trans (show _ = d.val by omega)))

theorem blk3 (t : Fin cfg0.N) (r : Fin 1) (d : Fin 512) :
    (iblk m c 3 t : S1x512.Idx → EReal) (ix2 r d) = (V m c main_v38 : S1x512.Idx → EReal) (ix2 r d) := by
  show (V m c main_v38 : S1x512.Idx → EReal) (((cfg0.win 3).blk t).view.emb (ix2 r d : S1x512.Idx)) = _
  have e0 : (((cfg0.win 3).blk t).view.emb (ix2 r d : S1x512.Idx) 0).val = win0_3.index t (0 : Fin 2) * 1 + 1 * r.val := rfl
  have e1 : (((cfg0.win 3).blk t).view.emb (ix2 r d : S1x512.Idx) 1).val = win0_3.index t (1 : Fin 2) * 512 + 1 * d.val := rfl
  obtain ⟨i0, i1⟩ := index3 t
  rw [i0] at e0; rw [i1] at e1
  exact congrArg _ (funext fun a => Fin.ext (match a with
    | ⟨0, _⟩ => e0.trans (show _ = r.val by omega)
    | ⟨1, _⟩ => e1.trans (show _ = d.val by omega)))

theorem blk4 (t : Fin cfg0.N) (r : Fin 512) (d : Fin 128) (hr : 512 * (t.val % 8) + r.val < 4096) :
    (iblk m c 4 t : S512x128.Idx → EReal) (ix2 r d) = (V m c main_v27 : S4096x128.Idx → EReal) (ix2 ⟨512 * (t.val % 8) + r.val, hr⟩ d) := by
  show (V m c main_v27 : S4096x128.Idx → EReal) (((cfg0.win 4).blk t).view.emb (ix2 r d : S512x128.Idx)) = _
  have e0 : (((cfg0.win 4).blk t).view.emb (ix2 r d : S512x128.Idx) 0).val = win0_4.index t (0 : Fin 2) * 512 + 1 * r.val := rfl
  have e1 : (((cfg0.win 4).blk t).view.emb (ix2 r d : S512x128.Idx) 1).val = win0_4.index t (1 : Fin 2) * 128 + 1 * d.val := rfl
  obtain ⟨i0, i1⟩ := index4 t
  rw [i0] at e0; rw [i1] at e1
  exact congrArg _ (funext fun a => Fin.ext (match a with
    | ⟨0, _⟩ => e0.trans (show _ = 512 * (t.val % 8) + r.val by omega)
    | ⟨1, _⟩ => e1.trans (show _ = d.val by omega)))

theorem blk5 (t : Fin cfg0.N) (r : Fin 512) (d : Fin 128) (hr : 512 * (t.val % 8) + r.val < 4096) :
    (iblk m c 5 t : S512x128.Idx → EReal) (ix2 r d) = (V m c main_v35 : S4096x128.Idx → EReal) (ix2 ⟨512 * (t.val % 8) + r.val, hr⟩ d) := by
  show (V m c main_v35 : S4096x128.Idx → EReal) (((cfg0.win 5).blk t).view.emb (ix2 r d : S512x128.Idx)) = _
  have e0 : (((cfg0.win 5).blk t).view.emb (ix2 r d : S512x128.Idx) 0).val = win0_5.index t (0 : Fin 2) * 512 + 1 * r.val := rfl
  have e1 : (((cfg0.win 5).blk t).view.emb (ix2 r d : S512x128.Idx) 1).val = win0_5.index t (1 : Fin 2) * 128 + 1 * d.val := rfl
  obtain ⟨i0, i1⟩ := index5 t
  rw [i0] at e0; rw [i1] at e1
  exact congrArg _ (funext fun a => Fin.ext (match a with
    | ⟨0, _⟩ => e0.trans (show _ = 512 * (t.val % 8) + r.val by omega)
    | ⟨1, _⟩ => e1.trans (show _ = d.val by omega)))

abbrev out6 : S16384x512.Idx → EReal := (dats m 0 c).arrAt 6 cfg0.N

theorem out6_block (t : Fin cfg0.N) (r : Fin 512) (d : Fin 512) (hr : 512 * (t.val) + r.val < 16384) :
    out6 m c (ix2 ⟨512 * (t.val) + r.val, hr⟩ d) = (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t)) (ix2 r d) := by
  have h := congrFun ((blocks6 m c t (flush0_6 t)).trans (flushed6_A m c t)) (ix2 r d : S512x512.Idx)
  refine Eq.trans ?_ h
  show out6 m c _ = out6 m c (((cfg0.win 6).blk t).view.emb (ix2 r d : S512x512.Idx))
  have e0 : (((cfg0.win 6).blk t).view.emb (ix2 r d : S512x512.Idx) 0).val = win0_6.index t (0 : Fin 2) * 512 + 1 * r.val := rfl
  have e1 : (((cfg0.win 6).blk t).view.emb (ix2 r d : S512x512.Idx) 1).val = win0_6.index t (1 : Fin 2) * 512 + 1 * d.val := rfl
  obtain ⟨i0, i1⟩ := index6 t
  rw [i0] at e0; rw [i1] at e1
  exact (congrArg (out6 m c) (funext fun a => Fin.ext (match a with
    | ⟨0, _⟩ => e0.trans (show _ = 512 * (t.val) + r.val by omega)
    | ⟨1, _⟩ => e1.trans (show _ = d.val by omega)))).symm

abbrev out7 : S16384x512.Idx → EReal := (dats m 0 c).arrAt 7 cfg0.N

theorem out7_block (t : Fin cfg0.N) (r : Fin 512) (d : Fin 512) (hr : 512 * (t.val) + r.val < 16384) :
    out7 m c (ix2 ⟨512 * (t.val) + r.val, hr⟩ d) = (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t)) (ix2 r d) := by
  have h := congrFun ((blocks7 m c t (flush0_7 t)).trans (flushed7_A m c t)) (ix2 r d : S512x512.Idx)
  refine Eq.trans ?_ h
  show out7 m c _ = out7 m c (((cfg0.win 7).blk t).view.emb (ix2 r d : S512x512.Idx))
  have e0 : (((cfg0.win 7).blk t).view.emb (ix2 r d : S512x512.Idx) 0).val = win0_7.index t (0 : Fin 2) * 512 + 1 * r.val := rfl
  have e1 : (((cfg0.win 7).blk t).view.emb (ix2 r d : S512x512.Idx) 1).val = win0_7.index t (1 : Fin 2) * 512 + 1 * d.val := rfl
  obtain ⟨i0, i1⟩ := index7 t
  rw [i0] at e0; rw [i1] at e1
  exact (congrArg (out7 m c) (funext fun a => Fin.ext (match a with
    | ⟨0, _⟩ => e0.trans (show _ = 512 * (t.val) + r.val by omega)
    | ⟨1, _⟩ => e1.trans (show _ = d.val by omega)))).symm

abbrev out8 : S16384x64.Idx → EReal := (dats m 0 c).arrAt 8 cfg0.N

theorem out8_block (t : Fin cfg0.N) (r : Fin 512) (d : Fin 64) (hr : 512 * (t.val) + r.val < 16384) :
    out8 m c (ix2 ⟨512 * (t.val) + r.val, hr⟩ d) = (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t)) (ix2 r d) := by
  have h := congrFun ((blocks8 m c t (flush0_8 t)).trans (flushed8_A m c t)) (ix2 r d : S512x64.Idx)
  refine Eq.trans ?_ h
  show out8 m c _ = out8 m c (((cfg0.win 8).blk t).view.emb (ix2 r d : S512x64.Idx))
  have e0 : (((cfg0.win 8).blk t).view.emb (ix2 r d : S512x64.Idx) 0).val = win0_8.index t (0 : Fin 2) * 512 + 1 * r.val := rfl
  have e1 : (((cfg0.win 8).blk t).view.emb (ix2 r d : S512x64.Idx) 1).val = win0_8.index t (1 : Fin 2) * 64 + 1 * d.val := rfl
  obtain ⟨i0, i1⟩ := index8 t
  rw [i0] at e0; rw [i1] at e1
  exact (congrArg (out8 m c) (funext fun a => Fin.ext (match a with
    | ⟨0, _⟩ => e0.trans (show _ = 512 * (t.val) + r.val by omega)
    | ⟨1, _⟩ => e1.trans (show _ = d.val by omega)))).symm

abbrev out9 : S16384x576.Idx → EReal := (dats m 0 c).arrAt 9 cfg0.N

theorem out9_block (t : Fin cfg0.N) (r : Fin 512) (d : Fin 576) (hr : 512 * (t.val) + r.val < 16384) :
    out9 m c (ix2 ⟨512 * (t.val) + r.val, hr⟩ d) = (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t)) (ix2 r d) := by
  have h := congrFun ((blocks9 m c t (flush0_9 t)).trans (flushed9_A m c t)) (ix2 r d : S512x576.Idx)
  refine Eq.trans ?_ h
  show out9 m c _ = out9 m c (((cfg0.win 9).blk t).view.emb (ix2 r d : S512x576.Idx))
  have e0 : (((cfg0.win 9).blk t).view.emb (ix2 r d : S512x576.Idx) 0).val = win0_9.index t (0 : Fin 2) * 512 + 1 * r.val := rfl
  have e1 : (((cfg0.win 9).blk t).view.emb (ix2 r d : S512x576.Idx) 1).val = win0_9.index t (1 : Fin 2) * 576 + 1 * d.val := rfl
  obtain ⟨i0, i1⟩ := index9 t
  rw [i0] at e0; rw [i1] at e1
  exact (congrArg (out9 m c) (funext fun a => Fin.ext (match a with
    | ⟨0, _⟩ => e0.trans (show _ = 512 * (t.val) + r.val by omega)
    | ⟨1, _⟩ => e1.trans (show _ = d.val by omega)))).symm

abbrev th : S16384x2048.Idx → EReal := m ((c : Thread nD τ).loc main_arg0)
abbrev tw : S2048x13376.Idx → EReal := m ((c : Thread nD τ).loc main_arg1)
abbrev tp : Fin 512 → EReal := fun k => (m ((c : Thread nD τ).loc main_arg2) : S512.Idx → EReal) (ix1 k)
abbrev tq : Fin 512 → EReal := fun k => (m ((c : Thread nD τ).loc main_arg3) : S512.Idx → EReal) (ix1 k)

theorem acc_block (t : Fin cfg0.N) (r : Fin 512) (hr : 512 * t.val + r.val < 16384) (j : Fin 1280) (k : Fin 13376)
    (h : ∀ d : Fin 2048, (V m c main_v36 : S2048x1280.Idx → EReal) (ix2 d j) = tw m c (ix2 d k)) :
    acc (iblk m c 0 t) (iblk m c 1 t) r j = proj (th m c) (tw m c) ⟨512 * t.val + r.val, hr⟩ k := by
  unfold acc proj
  exact Finset.sum_congr rfl fun d _ => congrArg₂ (· * ·) ((blk0 m c t r d hr).trans (congrFun (V_main_arg0 m c) _)) ((blk1 m c t d j).trans (h d))

theorem latent_column (j : Fin 1280) (hj : j.val < 1024) (d : Fin 2048) : (V m c main_v36 : S2048x1280.Idx → EReal) (ix2 d j) = tw m c (ix2 d ⟨j.val, by omega⟩) :=
  (congrFun (V_v36 m c) _).trans (packed_latent _ _ d j hj)
theorem key_column (k : Fin 64) (d : Fin 2048) : (V m c main_v36 : S2048x1280.Idx → EReal) (ix2 d ⟨1024 + k.val, by omega⟩) = tw m c (ix2 d ⟨1024 + k.val, by omega⟩) :=
  (congrFun (V_v36 m c) _).trans (packed_key _ _ d k)
theorem low_column (k : Fin 64) (hk : k.val < 32) (d : Fin 2048) : (V m c main_v36 : S2048x1280.Idx → EReal) (ix2 d ⟨1152 + k.val, by omega⟩) = tw m c (ix2 d ⟨1056 + k.val, by omega⟩) :=
  (congrFun (V_v36 m c) _).trans ((packed_swapped _ _ d k).trans (swapped_low _ d ⟨k.val, hk⟩))
theorem high_column (k : Fin 64) (hk : ¬k.val < 32) (d : Fin 2048) : (V m c main_v36 : S2048x1280.Idx → EReal) (ix2 d ⟨1152 + k.val, by omega⟩) = tw m c (ix2 d ⟨1024 + (k.val - 32), by omega⟩) := by
  refine (congrFun (V_v36 m c) _).trans ((packed_swapped _ _ d k).trans (Eq.trans ?_ (swapped_high _ d ⟨k.val - 32, by omega⟩)))
  exact congrArg (fun k => swappedColumns (tw m c) (ix2 d k)) (Fin.ext (by show k.val = 32 + (k.val - 32); omega))

section block

variable (t : Fin cfg0.N) (r : Fin 512) (hr : 512 * t.val + r.val < 16384)

theorem query_block (k : Fin 512) : k0_pay5 (F := Ideal) (iblk m c 0 t) (iblk m c 1 t) (iblk m c 2 t) (ix2 r k) = query (th m c) (tw m c) (tp m c) ⟨512 * t.val + r.val, hr⟩ k := by
  have hp : ∀ k : Fin 512, acc (iblk m c 0 t) (iblk m c 1 t) r ⟨k.val, by omega⟩ = queryRow (th m c) (tw m c) ⟨512 * t.val + r.val, hr⟩ k :=
    fun k => acc_block m c t r hr ⟨k.val, by omega⟩ ⟨k.val, by omega⟩ (latent_column m c ⟨k.val, by omega⟩ (by dsimp only; omega))
  refine (pay5_at (iblk m c 0 t) (iblk m c 1 t) (iblk m c 2 t) r k).trans ?_
  unfold query
  exact congrArg₂ (· * ·) (congrArg₂ (· * ·) (hp k) (congrArg factor (funext hp))) ((blk2 m c t 0 k).trans (V_v37 m c k))
theorem key_block (k : Fin 512) : k0_pay6 (F := Ideal) (iblk m c 0 t) (iblk m c 1 t) (iblk m c 3 t) (ix2 r k) = key (th m c) (tw m c) (tq m c) ⟨512 * t.val + r.val, hr⟩ k := by
  have hp : ∀ k : Fin 512, acc (iblk m c 0 t) (iblk m c 1 t) r ⟨512 + k.val, by omega⟩ = keyRow (th m c) (tw m c) ⟨512 * t.val + r.val, hr⟩ k :=
    fun k => acc_block m c t r hr ⟨512 + k.val, by omega⟩ ⟨512 + k.val, by omega⟩ (latent_column m c ⟨512 + k.val, by omega⟩ (by dsimp only; omega))
  refine (pay6_at (iblk m c 0 t) (iblk m c 1 t) (iblk m c 3 t) r k).trans ?_
  unfold key
  exact congrArg₂ (· * ·) (congrArg₂ (· * ·) (hp k) (congrArg factor (funext hp))) ((blk3 m c t 0 k).trans (V_v38 m c k))

theorem pos_eq (hp : 512 * (t.val % 8) + r.val < 4096) : (⟨512 * (t.val % 8) + r.val, hp⟩ : Fin 4096) = pos ⟨512 * t.val + r.val, hr⟩ :=
  Fin.ext (by show 512 * (t.val % 8) + r.val = (512 * t.val + r.val) % 4096; omega)

/-- Adding the product with the negative is subtracting the product. -/
theorem add_mul_neg (a b x y : EReal) : a * x + b * -y = a * x - b * y := by rw [mul_neg, sub_eq_add_neg]

theorem rotary_block (k : Fin 64) : k0_pay1 (F := Ideal) (k0_pay4 (F := Ideal) (iblk m c 0 t) (iblk m c 1 t)) (k0_pay7 (F := Ideal) (iblk m c 0 t) (iblk m c 1 t)) (iblk m c 4 t) (iblk m c 5 t) (ix2 r k)
    = rotary (th m c) (tw m c) ⟨512 * t.val + r.val, hr⟩ k := by
  have hb : 512 * (t.val % 8) + r.val < 4096 := by omega
  have h0 := acc_block m c t r hr _ _ (key_column m c k)
  refine (pay1_at (iblk m c 0 t) (iblk m c 1 t) (iblk m c 4 t) (iblk m c 5 t) r k).trans ?_
  unfold rotary
  by_cases hk : k.val < 32
  · rw [dif_pos hk]
    unfold first
    have h1 := acc_block m c t r hr _ _ (low_column m c k hk)
    have hc := (blk4 m c t r ⟨k.val, by omega⟩ hb).trans (cos_low m c _ ⟨k.val, hk⟩ ⟨k.val, by omega⟩ rfl)
    have hs := (blk5 m c t r ⟨k.val, by omega⟩ hb).trans (sin_low m c _ ⟨k.val, hk⟩ ⟨k.val, by omega⟩ rfl)
    rw [pos_eq t r hr hb] at hc hs
    exact (congrArg₂ (· + ·) (congrArg₂ (· * ·) h0 hc) (congrArg₂ (· * ·) h1 hs)).trans (add_mul_neg _ _ _ _)
  · rw [dif_neg hk]
    unfold second
    have h1 := acc_block m c t r hr _ _ (high_column m c k hk)
    have hc := (blk4 m c t r ⟨k.val, by omega⟩ hb).trans (cos_high m c _ ⟨k.val - 32, by omega⟩ ⟨k.val, by omega⟩ (by dsimp only; omega))
    have hs := (blk5 m c t r ⟨k.val, by omega⟩ hb).trans (sin_high m c _ ⟨k.val - 32, by omega⟩ ⟨k.val, by omega⟩ (by dsimp only; omega))
    rw [pos_eq t r hr hb] at hc hs
    have e0 : (⟨1024 + k.val, by omega⟩ : Fin 13376) = ⟨1056 + (k.val - 32), by omega⟩ := Fin.ext (by dsimp only; omega)
    refine (congrArg₂ (· + ·) (congrArg₂ (· * ·) (h0.trans (congrArg (proj (th m c) (tw m c) _) e0)) hc) (congrArg₂ (· * ·) h1 hs)).trans (add_comm _ _)

end block

theorem out6_eq (s : Fin 16384) (k : Fin 512) : out6 m c (ix2 s k) = query (th m c) (tw m c) (tp m c) s k := by
  have hN : cfg0.N = 32 := N_0
  have hs : 512 * (s.val / 512) + s.val % 512 < 16384 := by omega
  have h := (out6_block m c ⟨s.val / 512, by omega⟩ ⟨s.val % 512, Nat.mod_lt _ (by norm_num)⟩ k hs).trans
    ((congrFun (written6 _ _ _ _ _ _ _ _ _ _ _ _ _ _ _ _ _ _ _ _ _ _ _ _ _ _ _ _) _).trans (query_block m c ⟨s.val / 512, by omega⟩ ⟨s.val % 512, Nat.mod_lt _ (by norm_num)⟩ hs k))
  have es : (⟨512 * (s.val / 512) + s.val % 512, hs⟩ : Fin 16384) = s := Fin.ext (by dsimp only; omega)
  exact (congrArg (fun s => out6 m c (ix2 s k)) es).symm.trans (h.trans (congrArg (fun s => query (th m c) (tw m c) (tp m c) s k) es))

theorem out7_eq (s : Fin 16384) (k : Fin 512) : out7 m c (ix2 s k) = key (th m c) (tw m c) (tq m c) s k := by
  have hN : cfg0.N = 32 := N_0
  have hs : 512 * (s.val / 512) + s.val % 512 < 16384 := by omega
  have h := (out7_block m c ⟨s.val / 512, by omega⟩ ⟨s.val % 512, Nat.mod_lt _ (by norm_num)⟩ k hs).trans
    ((congrFun (written7 _ _ _ _ _ _ _ _ _ _ _ _ _ _ _ _ _ _ _ _ _ _ _ _ _ _ _ _) _).trans (key_block m c ⟨s.val / 512, by omega⟩ ⟨s.val % 512, Nat.mod_lt _ (by norm_num)⟩ hs k))
  have es : (⟨512 * (s.val / 512) + s.val % 512, hs⟩ : Fin 16384) = s := Fin.ext (by dsimp only; omega)
  exact (congrArg (fun s => out7 m c (ix2 s k)) es).symm.trans (h.trans (congrArg (fun s => key (th m c) (tw m c) (tq m c) s k) es))

theorem out8_eq (s : Fin 16384) (k : Fin 64) : out8 m c (ix2 s k) = rotary (th m c) (tw m c) s k := by
  have hN : cfg0.N = 32 := N_0
  have hs : 512 * (s.val / 512) + s.val % 512 < 16384 := by omega
  have h := (out8_block m c ⟨s.val / 512, by omega⟩ ⟨s.val % 512, Nat.mod_lt _ (by norm_num)⟩ k hs).trans
    ((congrFun (written8 _ _ _ _ _ _ _ _ _ _ _ _ _ _ _ _ _ _ _ _ _ _ _ _ _ _ _ _) _).trans (rotary_block m c ⟨s.val / 512, by omega⟩ ⟨s.val % 512, Nat.mod_lt _ (by norm_num)⟩ hs k))
  have es : (⟨512 * (s.val / 512) + s.val % 512, hs⟩ : Fin 16384) = s := Fin.ext (by dsimp only; omega)
  exact (congrArg (fun s => out8 m c (ix2 s k)) es).symm.trans (h.trans (congrArg (fun s => rotary (th m c) (tw m c) s k) es))

theorem out9_left (s : Fin 16384) (k : Fin 512) : out9 m c (ix2 s ⟨k.val, by omega⟩) = key (th m c) (tw m c) (tq m c) s k := by
  have hN : cfg0.N = 32 := N_0
  have hs : 512 * (s.val / 512) + s.val % 512 < 16384 := by omega
  have h := (out9_block m c ⟨s.val / 512, by omega⟩ ⟨s.val % 512, Nat.mod_lt _ (by norm_num)⟩ ⟨k.val, by omega⟩ hs).trans
    ((congrFun (written9 _ _ _ _ _ _ _ _ _ _ _ _ _ _ _ _ _ _ _ _ _ _ _ _ _ _ _ _) _).trans ((joined_left _ _ ⟨s.val % 512, Nat.mod_lt _ (by norm_num)⟩ k).trans
      (key_block m c ⟨s.val / 512, by omega⟩ ⟨s.val % 512, Nat.mod_lt _ (by norm_num)⟩ hs k)))
  have es : (⟨512 * (s.val / 512) + s.val % 512, hs⟩ : Fin 16384) = s := Fin.ext (by dsimp only; omega)
  exact (congrArg (fun s => out9 m c (ix2 s ⟨k.val, by omega⟩)) es).symm.trans (h.trans (congrArg (fun s => key (th m c) (tw m c) (tq m c) s k) es))

theorem out9_right (s : Fin 16384) (k : Fin 64) : out9 m c (ix2 s ⟨512 + k.val, by omega⟩) = rotary (th m c) (tw m c) s k := by
  have hN : cfg0.N = 32 := N_0
  have hs : 512 * (s.val / 512) + s.val % 512 < 16384 := by omega
  have h := (out9_block m c ⟨s.val / 512, by omega⟩ ⟨s.val % 512, Nat.mod_lt _ (by norm_num)⟩ ⟨512 + k.val, by omega⟩ hs).trans
    ((congrFun (written9 _ _ _ _ _ _ _ _ _ _ _ _ _ _ _ _ _ _ _ _ _ _ _ _ _ _ _ _) _).trans ((joined_right _ _ ⟨s.val % 512, Nat.mod_lt _ (by norm_num)⟩ k).trans
      (rotary_block m c ⟨s.val / 512, by omega⟩ ⟨s.val % 512, Nat.mod_lt _ (by norm_num)⟩ hs k)))
  have es : (⟨512 * (s.val / 512) + s.val % 512, hs⟩ : Fin 16384) = s := Fin.ext (by dsimp only; omega)
  exact (congrArg (fun s => out9 m c (ix2 s ⟨512 + k.val, by omega⟩)) es).symm.trans (h.trans (congrArg (fun s => rotary (th m c) (tw m c) s k) es))

end Cert.Kernel6Ideal.Latent

end
-- ==== Proof.Latent.RefValue.lean ====
/- The latents and the rotary keys: the reference's results, element by element. -/
module

public import proofs.«01_k».proof.Proof.Latent.Spec
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Reference6Ideal.Latent

open Cert.Reference6Ideal Cert.Reference6Ideal.Read
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

open Cert.Kernel6Ideal.Latent (proj queryRow keyRow query key first second rotary cosTable sinTable pos factor)

variable (h : S16384x2048.Idx → EReal) (w : S2048x13376.Idx → EReal)

theorem proj_at (s : Fin 16384) (k : Fin 13376) : val_main_v1 (F := Ideal) h w (ix2 s k) = proj h w s k := by
  rw [val_main_v1_apply]
  refine Finset.sum_congr rfl fun d _ => ?_
  exact congrArg₂ (· * ·) (congrArg h (funext fun a => match a with | ⟨0, _⟩ => rfl | ⟨1, _⟩ => rfl))
    (congrArg w (funext fun a => match a with | ⟨0, _⟩ => rfl | ⟨1, _⟩ => rfl))

theorem query_row (s : Fin 16384) (k : Fin 512) : val_main_v2 (F := Ideal) h w (ix2 s k) = queryRow h w s k := by
  rw [val_main_v2_apply]
  refine Eq.trans ?_ (proj_at h w s _)
  exact congrArg (val_main_v1 (F := Ideal) h w) (funext fun a => match a with | ⟨0, _⟩ => rfl | ⟨1, _⟩ => rfl)
theorem key_row (s : Fin 16384) (k : Fin 512) : val_main_v3 (F := Ideal) h w (ix2 s k) = keyRow h w s k := by
  rw [val_main_v3_apply]
  refine Eq.trans ?_ (proj_at h w s _)
  exact congrArg (val_main_v1 (F := Ideal) h w) (funext fun a => match a with | ⟨0, _⟩ => rfl | ⟨1, _⟩ => rfl)

theorem query_factor (s : Fin 16384) : val_main_v12 (F := Ideal) h w (ix2 s (0 : Fin 1) : S16384x1.Idx) = factor (queryRow h w s) := by
  rw [val_main_v12_apply, val_main_v11_apply, val_main_v9_apply, val_main_v8_apply, val_main_v10_apply, val_main_cst_0_apply, val_main_cst_1_apply,
    val_main_v7_apply, val_main_v6_apply, val_main_cst_apply]
  have e : ∑ k : Fin 512, val_main_v5 (F := Ideal) h w (idx_main_v6 (idx_main_v7 (ix2 s (0 : Fin 1) : S16384x1.Idx)) k) = ∑ k : Fin 512, queryRow h w s k * queryRow h w s k := by
    refine Finset.sum_congr rfl fun k _ => ?_
    rw [val_main_v5_apply, ← query_row]
    exact congrArg (fun i => val_main_v2 (F := Ideal) h w i * val_main_v2 (F := Ideal) h w i) (funext fun a => match a with | ⟨0, _⟩ => rfl | ⟨1, _⟩ => rfl)
  rw [e, show (FloatOps.ofBits (F := Ideal) .f32 0x00000000#32 : EReal) = 0 from Ideal.ofBits_zero_f32, zero_add]
  rfl

theorem query_at (q : S512.Idx → EReal) (s : Fin 16384) (k : Fin 512) : val_main_v17 (F := Ideal) h w q (ix2 s k) = query h w (fun k => q (ix1 k)) s k := by
  rw [val_main_v17_apply, val_main_v14_apply, val_main_v13_apply, val_main_v16_apply, val_main_v15_apply, query_row]
  unfold query
  refine congrArg₂ (· * ·) (congrArg₂ (· * ·) rfl ?_) ?_
  · rw [← query_factor]
    exact congrArg (val_main_v12 (F := Ideal) h w) (funext fun a => match a with | ⟨0, _⟩ => rfl | ⟨1, _⟩ => rfl)
  · exact congrArg q (funext fun a => match a with | ⟨0, _⟩ => rfl)

theorem key_factor (s : Fin 16384) : val_main_v25 (F := Ideal) h w (ix2 s (0 : Fin 1) : S16384x1.Idx) = factor (keyRow h w s) := by
  rw [val_main_v25_apply, val_main_v24_apply, val_main_v22_apply, val_main_v21_apply, val_main_v23_apply, val_main_cst_3_apply, val_main_cst_4_apply,
    val_main_v20_apply, val_main_v19_apply, val_main_cst_2_apply]
  have e : ∑ k : Fin 512, val_main_v18 (F := Ideal) h w (idx_main_v19 (idx_main_v20 (ix2 s (0 : Fin 1) : S16384x1.Idx)) k) = ∑ k : Fin 512, keyRow h w s k * keyRow h w s k := by
    refine Finset.sum_congr rfl fun k _ => ?_
    rw [val_main_v18_apply, ← key_row]
    exact congrArg (fun i => val_main_v3 (F := Ideal) h w i * val_main_v3 (F := Ideal) h w i) (funext fun a => match a with | ⟨0, _⟩ => rfl | ⟨1, _⟩ => rfl)
  rw [e, show (FloatOps.ofBits (F := Ideal) .f32 0x00000000#32 : EReal) = 0 from Ideal.ofBits_zero_f32, zero_add]
  rfl

theorem key_at (q : S512.Idx → EReal) (s : Fin 16384) (k : Fin 512) : val_main_v30 (F := Ideal) h w q (ix2 s k) = key h w (fun k => q (ix1 k)) s k := by
  rw [val_main_v30_apply, val_main_v27_apply, val_main_v26_apply, val_main_v29_apply, val_main_v28_apply, key_row]
  unfold key
  refine congrArg₂ (· * ·) (congrArg₂ (· * ·) rfl ?_) ?_
  · rw [← key_factor]
    exact congrArg (val_main_v25 (F := Ideal) h w) (funext fun a => match a with | ⟨0, _⟩ => rfl | ⟨1, _⟩ => rfl)
  · exact congrArg q (funext fun a => match a with | ⟨0, _⟩ => rfl)

section Rotary
variable (b : Fin 4) (p : Fin 4096) (e : Fin 32)

abbrev row : Fin 16384 := ⟨4096 * b.val + p.val, by omega⟩

theorem v49_at : val_main_v49 (F := Ideal) h w (ix3 b p e : S4x4096x32.Idx) = proj h w (row b p) ⟨1024 + e.val, by omega⟩ := by
  rw [val_main_v49_apply, val_main_v48_apply, val_main_v4_apply, ← proj_at]
  exact congrArg (val_main_v1 (F := Ideal) h w) (funext fun a => Fin.ext (match a with
    | ⟨0, _⟩ => (show ((b.val * 4096 + p.val) * 64 + e.val) / 64 = 4096 * b.val + p.val by omega)
    | ⟨1, _⟩ => (show 1024 + ((b.val * 4096 + p.val) * 64 + e.val) % 64 = 1024 + e.val by omega)))
theorem v50_at : val_main_v50 (F := Ideal) h w (ix3 b p e : S4x4096x32.Idx) = proj h w (row b p) ⟨1056 + e.val, by omega⟩ := by
  rw [val_main_v50_apply, val_main_v48_apply, val_main_v4_apply, ← proj_at]
  exact congrArg (val_main_v1 (F := Ideal) h w) (funext fun a => Fin.ext (match a with
    | ⟨0, _⟩ => (show ((b.val * 4096 + p.val) * 64 + (32 + e.val)) / 64 = 4096 * b.val + p.val by omega)
    | ⟨1, _⟩ => (show 1024 + ((b.val * 4096 + p.val) * 64 + (32 + e.val)) % 64 = 1056 + e.val by omega)))
theorem v51_at : val_main_v51 (F := Ideal) (ix3 b p e : S4x4096x32.Idx) = cosTable (ix2 p e) := by
  rw [val_main_v51_apply, val_main_v45_apply]
  exact congrArg (val_main_v44 (F := Ideal)) (funext fun a => match a with | ⟨0, _⟩ => rfl | ⟨1, _⟩ => rfl)
theorem v53_at : val_main_v53 (F := Ideal) (ix3 b p e : S4x4096x32.Idx) = sinTable (ix2 p e) := by
  rw [val_main_v53_apply, val_main_v47_apply]
  exact congrArg (val_main_v46 (F := Ideal)) (funext fun a => match a with | ⟨0, _⟩ => rfl | ⟨1, _⟩ => rfl)
theorem v56_at : val_main_v56 (F := Ideal) (ix3 b p e : S4x4096x32.Idx) = sinTable (ix2 p e) := by
  rw [val_main_v56_apply, val_main_v47_apply]
  exact congrArg (val_main_v46 (F := Ideal)) (funext fun a => match a with | ⟨0, _⟩ => rfl | ⟨1, _⟩ => rfl)
theorem v58_at : val_main_v58 (F := Ideal) (ix3 b p e : S4x4096x32.Idx) = cosTable (ix2 p e) := by
  rw [val_main_v58_apply, val_main_v45_apply]
  exact congrArg (val_main_v44 (F := Ideal)) (funext fun a => match a with | ⟨0, _⟩ => rfl | ⟨1, _⟩ => rfl)
theorem v55_at : val_main_v55 (F := Ideal) h w (ix3 b p e : S4x4096x32.Idx)
    = proj h w (row b p) ⟨1024 + e.val, by omega⟩ * cosTable (ix2 p e) - proj h w (row b p) ⟨1056 + e.val, by omega⟩ * sinTable (ix2 p e) := by
  rw [val_main_v55_apply, val_main_v52_apply, val_main_v54_apply, v49_at, v50_at, v51_at, v53_at]
  rfl
theorem v60_at : val_main_v60 (F := Ideal) h w (ix3 b p e : S4x4096x32.Idx)
    = proj h w (row b p) ⟨1024 + e.val, by omega⟩ * sinTable (ix2 p e) + proj h w (row b p) ⟨1056 + e.val, by omega⟩ * cosTable (ix2 p e) := by
  rw [val_main_v60_apply, val_main_v57_apply, val_main_v59_apply, v49_at, v50_at, v56_at, v58_at]
  rfl
theorem v61_left (k : Fin 64) (hk : k.val = e.val) : val_main_v61 (F := Ideal) h w (ix3 b p k : S4x4096x64.Idx) = val_main_v55 (F := Ideal) h w (ix3 b p e : S4x4096x32.Idx) := by
  unfold val_main_v61
  exact concatenate_pair_apply_left (s₁ := S4x4096x32) (s₂ := S4x4096x32) 2 _ _ _ (ix3 b p k : S4x4096x64.Idx) rfl (ix3 b p e : S4x4096x32.Idx) (fun a => match a with
    | ⟨0, _⟩ => rfl
    | ⟨1, _⟩ => rfl
    | ⟨2, _⟩ => hk.symm)
theorem v61_right (k : Fin 64) (hk : k.val = 32 + e.val) : val_main_v61 (F := Ideal) h w (ix3 b p k : S4x4096x64.Idx) = val_main_v60 (F := Ideal) h w (ix3 b p e : S4x4096x32.Idx) := by
  unfold val_main_v61
  exact concatenate_pair_apply_right (s₁ := S4x4096x32) (s₂ := S4x4096x32) 2 _ _ _ (ix3 b p k : S4x4096x64.Idx) rfl rfl (ix3 b p e : S4x4096x32.Idx) (fun a ha => match a, ha with
    | ⟨0, _⟩, _ => rfl
    | ⟨1, _⟩, _ => rfl
    | ⟨2, _⟩, ha => absurd rfl ha) (show e.val + 32 = k.val by omega)
end Rotary

theorem row_pos (s : Fin 16384) : row ⟨s.val / 4096, by omega⟩ (pos s) = s := Fin.ext (show 4096 * (s.val / 4096) + s.val % 4096 = s.val by omega)

theorem rotary_at (s : Fin 16384) (k : Fin 64) : val_main_v62 (F := Ideal) h w (ix2 s k) = rotary h w s k := by
  have e : val_main_v62 (F := Ideal) h w (ix2 s k) = val_main_v61 (F := Ideal) h w (ix3 ⟨s.val / 4096, by omega⟩ (pos s) k : S4x4096x64.Idx) := by
    rw [val_main_v62_apply]
    exact congrArg (val_main_v61 (F := Ideal) h w) (funext fun a => Fin.ext (match a with
      | ⟨0, _⟩ => (show (s.val * 64 + k.val) / 262144 = s.val / 4096 by omega)
      | ⟨1, _⟩ => (show (s.val * 64 + k.val) / 64 % 4096 = s.val % 4096 by omega)
      | ⟨2, _⟩ => (show (s.val * 64 + k.val) % 64 = k.val by omega)))
  rw [e]
  unfold rotary
  by_cases hk : k.val < 32
  · rw [dif_pos hk]
    refine (v61_left h w _ (pos s) ⟨k.val, hk⟩ k rfl).trans ((v55_at h w _ (pos s) ⟨k.val, hk⟩).trans ?_)
    rw [row_pos]
    rfl
  · rw [dif_neg hk]
    refine (v61_right h w _ (pos s) ⟨k.val - 32, by omega⟩ k (by dsimp only; omega)).trans ((v60_at h w _ (pos s) ⟨k.val - 32, by omega⟩).trans ?_)
    rw [row_pos]
    rfl

theorem rounded_at (q : S512.Idx → EReal) (s : Fin 16384) (k : Fin 512) : val_main_v63 (F := Ideal) h w q (ix2 s k) = query h w (fun k => q (ix1 k)) s k :=
  Eq.trans (b := val_main_v17 (F := Ideal) h w q (ix2 s k)) rfl (query_at h w q s k)

theorem joined_left (q : S512.Idx → EReal) (s : Fin 16384) (j : Fin 576) (k : Fin 512) (hk : j.val = k.val) : val_main_v65 (F := Ideal) h w q (ix2 s j) = key h w (fun k => q (ix1 k)) s k := by
  refine Eq.trans (b := val_main_v64 (F := Ideal) h w q (ix2 s j)) rfl (Eq.trans ?_ (key_at h w q s k))
  unfold val_main_v64
  exact concatenate_pair_apply_left (s₁ := S16384x512) (s₂ := S16384x64) 1 _ _ _ (ix2 s j : S16384x576.Idx) rfl (ix2 s k : S16384x512.Idx) (fun a => match a with
    | ⟨0, _⟩ => rfl
    | ⟨1, _⟩ => hk.symm)
theorem joined_right (q : S512.Idx → EReal) (s : Fin 16384) (j : Fin 576) (k : Fin 64) (hk : j.val = 512 + k.val) : val_main_v65 (F := Ideal) h w q (ix2 s j) = rotary h w s k := by
  refine Eq.trans (b := val_main_v64 (F := Ideal) h w q (ix2 s j)) rfl (Eq.trans ?_ (rotary_at h w s k))
  unfold val_main_v64
  exact concatenate_pair_apply_right (s₁ := S16384x512) (s₂ := S16384x64) 1 _ _ _ (ix2 s j : S16384x576.Idx) rfl rfl (ix2 s k : S16384x64.Idx) (fun a ha => match a, ha with
    | ⟨0, _⟩, _ => rfl
    | ⟨1, _⟩, ha => absurd rfl ha) (show k.val + 512 = j.val by omega)

end Cert.Reference6Ideal.Latent

end
-- ==== Proof.Rope.Spec.lean ====
/- The rotated queries and keys, of the arguments. -/
module

public import proofs.«01_k».proof.Proof.Ffn.Elements
public import proofs.«01_k».proof.Proof.Gen.Kernel7Ideal.Value
public import proofs.«01_k».proof.Proof.Gen.Reference7Ideal.Read
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel7Ideal.Rope

open Cert.Kernel7Ideal Cert.Kernel7Ideal.Gen Cert.Kernel7Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

/-! ## The result, of the arguments -/

/-- The tables of cosines and sines, by position and angle. -/
abbrev cosTable : S4096x128.Idx → EReal := Cert.Reference7Ideal.Read.val_main_v15 (F := Ideal)
abbrev sinTable : S4096x128.Idx → EReal := Cert.Reference7Ideal.Read.val_main_v17 (F := Ideal)

/-- The keys' scale. -/
abbrev keyScale : EReal := FloatOps.ofBits (F := Ideal) .f32 0x3D800000#32
/-- Heads 0 to 7 are the queries', the others the keys': these are scaled. -/
def scaled (g : Nat) (z : EReal) : EReal := if g < 8 then z else z * keyScale

section Spec
variable (h : S16384x2048.Idx → EReal) (w : S2048x13376.Idx → EReal)

def proj (s : Fin 16384) (k : Fin 13376) : EReal := ∑ d : Fin 2048, h (ix2 s d) * w (ix2 d k)
/-- The position of a row in its sequence. -/
abbrev pos (s : Fin 16384) : Fin 4096 := ⟨s.val % 4096, Nat.mod_lt _ (by norm_num)⟩
def first (s : Fin 16384) (g : Fin 16) (e : Fin 128) : EReal :=
  scaled g.val (proj h w s ⟨1088 + (256 * g.val + e.val), by omega⟩ * cosTable (ix2 (pos s) e) - proj h w s ⟨1088 + (256 * g.val + (128 + e.val)), by omega⟩ * sinTable (ix2 (pos s) e))
def second (s : Fin 16384) (g : Fin 16) (e : Fin 128) : EReal :=
  scaled g.val (proj h w s ⟨1088 + (256 * g.val + e.val), by omega⟩ * sinTable (ix2 (pos s) e) + proj h w s ⟨1088 + (256 * g.val + (128 + e.val)), by omega⟩ * cosTable (ix2 (pos s) e))
end Spec

end Cert.Kernel7Ideal.Rope

end
-- ==== Proof.Rope.Result.lean ====
/- The rotated queries and keys: the kernel's output array, element by element. -/
module

public import proofs.«01_k».proof.Proof.Rope.Spec
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel7Ideal.Rope

open Cert.Kernel7Ideal Cert.Kernel7Ideal.Gen Cert.Kernel7Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

/-! ## A grid point -/

abbrev acc (x : S1024x2048.Idx → EReal) (w : S2048x512.Idx → EReal) (r : Fin 1024) (j : Fin 512) : EReal := ∑ d : Fin 2048, x (ix2 r d) * w (ix2 d j)

theorem pay2_at (x : FVec Ideal S1024x2048 .bf16) (w : FVec Ideal S2048x512 .bf16) (r : Fin 1024) (j : Fin 512) :
    k0_pay2 (F := Ideal) x w (ix2 r j) = acc x w r j := by
  unfold k0_pay2
  simp only [shapeCast_self]
  refine Eq.trans (b := FloatOps.matmul (F := Ideal) (DotDims.plain 1024 2048 512) none x w (constant S1024x512 .f32 0x00000000#32) (ix2 r j)) rfl ?_
  rw [Ideal.matmul_plain_apply, constant_apply, Ideal.ofBits_zero_f32, zero_add]

theorem pay6_at (x : FVec Ideal S1024x2048 .bf16) (w : FVec Ideal S2048x512 .bf16) (r : Fin 1024) (e : Fin 128) :
    k0_pay6 (F := Ideal) x w (ix2 r e) = acc x w r ⟨0 + e.val, by omega⟩ := by
  unfold k0_pay6
  refine (extractStridedSlice_apply ![0, 0] (k0_pay2 (F := Ideal) x w) slices_S1024x512_o0_0_S1024x128 (ix2 r e : S1024x128.Idx) (ix2 r ⟨0 + e.val, by omega⟩ : S1024x512.Idx) (fun a => match a with
    | ⟨0, _⟩ => by show r.val = 0 + r.val; omega
    | ⟨1, _⟩ => rfl)).trans (pay2_at x w r _)

theorem pay7_at (x : FVec Ideal S1024x2048 .bf16) (w : FVec Ideal S2048x512 .bf16) (r : Fin 1024) (e : Fin 128) :
    k0_pay7 (F := Ideal) x w (ix2 r e) = acc x w r ⟨128 + e.val, by omega⟩ := by
  unfold k0_pay7
  refine (extractStridedSlice_apply ![0, 128] (k0_pay2 (F := Ideal) x w) slices_S1024x512_o0_128_S1024x128 (ix2 r e : S1024x128.Idx) (ix2 r ⟨128 + e.val, by omega⟩ : S1024x512.Idx) (fun a => match a with
    | ⟨0, _⟩ => by show r.val = 0 + r.val; omega
    | ⟨1, _⟩ => rfl)).trans (pay2_at x w r _)

theorem pay10_at (x : FVec Ideal S1024x2048 .bf16) (w : FVec Ideal S2048x512 .bf16) (r : Fin 1024) (e : Fin 128) :
    k0_pay10 (F := Ideal) x w (ix2 r e) = acc x w r ⟨256 + e.val, by omega⟩ := by
  unfold k0_pay10
  refine (extractStridedSlice_apply ![0, 256] (k0_pay2 (F := Ideal) x w) slices_S1024x512_o0_256_S1024x128 (ix2 r e : S1024x128.Idx) (ix2 r ⟨256 + e.val, by omega⟩ : S1024x512.Idx) (fun a => match a with
    | ⟨0, _⟩ => by show r.val = 0 + r.val; omega
    | ⟨1, _⟩ => rfl)).trans (pay2_at x w r _)

theorem pay11_at (x : FVec Ideal S1024x2048 .bf16) (w : FVec Ideal S2048x512 .bf16) (r : Fin 1024) (e : Fin 128) :
    k0_pay11 (F := Ideal) x w (ix2 r e) = acc x w r ⟨384 + e.val, by omega⟩ := by
  unfold k0_pay11
  refine (extractStridedSlice_apply ![0, 384] (k0_pay2 (F := Ideal) x w) slices_S1024x512_o0_384_S1024x128 (ix2 r e : S1024x128.Idx) (ix2 r ⟨384 + e.val, by omega⟩ : S1024x512.Idx) (fun a => match a with
    | ⟨0, _⟩ => by show r.val = 0 + r.val; omega
    | ⟨1, _⟩ => rfl)).trans (pay2_at x w r _)

theorem pay8_at (i : grid0.Coords) (x : FVec Ideal S1024x2048 .bf16) (w : FVec Ideal S2048x512 .bf16) (p q : FVec Ideal S1024x128 .f32) (r : Fin 1024) (e : Fin 128) :
    k0_pay8 (F := Ideal) i x w p q (ix2 r e) = (acc x w r ⟨0 + e.val, by omega⟩ * p (ix2 r e) - acc x w r ⟨128 + e.val, by omega⟩ * q (ix2 r e)) * k0_pay5 (F := Ideal) i := by
  rw [← pay6_at, ← pay7_at]
  unfold k0_pay8 k0_pay3 k0_pay4
  simp only [shapeCast_self]
  rfl

theorem pay9_at (i : grid0.Coords) (x : FVec Ideal S1024x2048 .bf16) (w : FVec Ideal S2048x512 .bf16) (p q : FVec Ideal S1024x128 .f32) (r : Fin 1024) (e : Fin 128) :
    k0_pay9 (F := Ideal) i x w p q (ix2 r e) = (acc x w r ⟨0 + e.val, by omega⟩ * q (ix2 r e) + acc x w r ⟨128 + e.val, by omega⟩ * p (ix2 r e)) * k0_pay5 (F := Ideal) i := by
  rw [← pay6_at, ← pay7_at]
  unfold k0_pay9 k0_pay3 k0_pay4
  simp only [shapeCast_self]
  rfl

theorem pay12_at (i : grid0.Coords) (x : FVec Ideal S1024x2048 .bf16) (w : FVec Ideal S2048x512 .bf16) (p q : FVec Ideal S1024x128 .f32) (r : Fin 1024) (e : Fin 128) :
    k0_pay12 (F := Ideal) i x w p q (ix2 r e) = (acc x w r ⟨256 + e.val, by omega⟩ * p (ix2 r e) - acc x w r ⟨384 + e.val, by omega⟩ * q (ix2 r e)) * k0_pay5 (F := Ideal) i := by
  rw [← pay10_at, ← pay11_at]
  unfold k0_pay12 k0_pay3 k0_pay4
  simp only [shapeCast_self]
  rfl

theorem pay1_at (i : grid0.Coords) (x : FVec Ideal S1024x2048 .bf16) (w : FVec Ideal S2048x512 .bf16) (p q : FVec Ideal S1024x128 .f32) (r : Fin 1024) (e : Fin 128) :
    k0_pay1 (F := Ideal) (k0_pay5 (F := Ideal) i) (k0_pay13 (F := Ideal) x w q) (k0_pay14 (F := Ideal) x w p) (ix2 r e) = (acc x w r ⟨256 + e.val, by omega⟩ * q (ix2 r e) + acc x w r ⟨384 + e.val, by omega⟩ * p (ix2 r e)) * k0_pay5 (F := Ideal) i := by
  rw [← pay10_at, ← pay11_at]
  unfold k0_pay1 k0_pay13 k0_pay14 k0_pay3 k0_pay4
  simp only [shapeCast_self]
  rfl

theorem hz2 : (![0, 0] : Fin 2 → Nat) = fun _ => 0 := funext fun a => match a with | ⟨0, _⟩ => rfl | ⟨1, _⟩ => rfl

/-! The four stores, by their columns. -/

theorem emb6 (r : Fin 1024) (e : Fin 128) : (ix2 r ⟨384 + e.val, by omega⟩ : S1024x512.Idx) = r0_6.emb (ix2 r e : S1024x128.Idx) :=
  funext fun a => Fin.ext (match a with
    | ⟨0, _⟩ => (show r.val = 0 + 1 * r.val by omega)
    | ⟨1, _⟩ => (show 384 + e.val = 384 + 1 * e.val by omega))
theorem emb5 (r : Fin 1024) (e : Fin 128) : (ix2 r ⟨256 + e.val, by omega⟩ : S1024x512.Idx) = r0_5.emb (ix2 r e : S1024x128.Idx) :=
  funext fun a => Fin.ext (match a with
    | ⟨0, _⟩ => (show r.val = 0 + 1 * r.val by omega)
    | ⟨1, _⟩ => (show 256 + e.val = 256 + 1 * e.val by omega))
theorem emb4 (r : Fin 1024) (e : Fin 128) : (ix2 r ⟨128 + e.val, by omega⟩ : S1024x512.Idx) = r0_4.emb (ix2 r e : S1024x128.Idx) :=
  funext fun a => Fin.ext (match a with
    | ⟨0, _⟩ => (show r.val = 0 + 1 * r.val by omega)
    | ⟨1, _⟩ => (show 128 + e.val = 128 + 1 * e.val by omega))
theorem emb3 (r : Fin 1024) (e : Fin 128) : (ix2 r ⟨0 + e.val, by omega⟩ : S1024x512.Idx) = r0_3.emb (ix2 r e : S1024x128.Idx) :=
  funext fun a => Fin.ext (match a with
    | ⟨0, _⟩ => (show r.val = 0 + 1 * r.val by omega)
    | ⟨1, _⟩ => (show 0 + e.val = 0 + 1 * e.val by omega))

theorem off6 (r : Fin 1024) (j : Fin 512) (hj : j.val < 384) : (ix2 r j : S1024x512.Idx) ∉ r0_6.set := by
  intro hm
  have h1 := (Rect.mem_set_unit.mp hm 1).1
  have h2 : 384 ≤ j.val := h1
  omega

theorem off5 (r : Fin 1024) (j : Fin 512) (hj : j.val < 256) : (ix2 r j : S1024x512.Idx) ∉ r0_5.set := by
  intro hm
  have h1 := (Rect.mem_set_unit.mp hm 1).1
  have h2 : 256 ≤ j.val := h1
  omega

theorem off4 (r : Fin 1024) (j : Fin 512) (hj : j.val < 128) : (ix2 r j : S1024x512.Idx) ∉ r0_4.set := by
  intro hm
  have h1 := (Rect.mem_set_unit.mp hm 1).1
  have h2 : 128 ≤ j.val := h1
  omega

theorem skip (o : Rect S1024x512) (v : o.shape.Idx → Elt Ideal .bf16) (L : List (View.Piece (Elt Ideal) S1024x512 .bf16)) (y : S1024x512.Idx) (h : y ∉ o.set) :
    View.canon (⟨o, v⟩ :: L) y = View.canon L y := View.canon_cons_of_not_mem ⟨o, v⟩ L h

variable (i : grid0.Coords) (x : Vec Ideal S1024x2048 .bf16) (w : Vec Ideal S2048x512 .bf16) (p q : Vec Ideal S1024x128 .f32)

theorem written_eq : out0_4 (F := Ideal) i x w p q = View.canon [⟨r0_6, k0_pay1 (F := Ideal) (k0_pay5 (F := Ideal) i) (k0_pay13 (F := Ideal) x w q) (k0_pay14 (F := Ideal) x w p)⟩,
    ⟨r0_5, k0_pay12 (F := Ideal) i x w p q⟩, ⟨r0_4, k0_pay9 (F := Ideal) i x w p q⟩, ⟨r0_3, k0_pay8 (F := Ideal) i x w p q⟩] := by
  unfold out0_4
  rw [View.ld_unit_zero (S := S1024x2048) hz2 _ x, View.ld_unit_zero (S := S2048x512) hz2 _ w, View.ld_unit_zero (S := S1024x128) hz2 _ p, View.ld_unit_zero (S := S1024x128) hz2 _ q]

theorem written3 (r : Fin 1024) (e : Fin 128) : out0_4 (F := Ideal) i x w p q (ix2 r ⟨384 + e.val, by omega⟩ : S1024x512.Idx)
    = k0_pay1 (F := Ideal) (k0_pay5 (F := Ideal) i) (k0_pay13 (F := Ideal) x w q) (k0_pay14 (F := Ideal) x w p) (ix2 r e) := by
  rw [written_eq, emb6]
  exact View.canon_cons_emb r0_6 _ _ _
theorem written2 (r : Fin 1024) (e : Fin 128) : out0_4 (F := Ideal) i x w p q (ix2 r ⟨256 + e.val, by omega⟩ : S1024x512.Idx)
    = k0_pay12 (F := Ideal) i x w p q (ix2 r e) := by
  rw [written_eq]
  refine (skip r0_6 _ _ _ (off6 r ⟨256 + e.val, by omega⟩ (by dsimp only; omega))).trans ?_
  rw [emb5]
  exact View.canon_cons_emb r0_5 _ _ _
theorem written1 (r : Fin 1024) (e : Fin 128) : out0_4 (F := Ideal) i x w p q (ix2 r ⟨128 + e.val, by omega⟩ : S1024x512.Idx)
    = k0_pay9 (F := Ideal) i x w p q (ix2 r e) := by
  rw [written_eq]
  refine (skip r0_6 _ _ _ (off6 r ⟨128 + e.val, by omega⟩ (by dsimp only; omega))).trans ((skip r0_5 _ _ _ (off5 r ⟨128 + e.val, by omega⟩ (by dsimp only; omega))).trans ?_)
  rw [emb4]
  exact View.canon_cons_emb r0_4 _ _ _
theorem written0 (r : Fin 1024) (e : Fin 128) : out0_4 (F := Ideal) i x w p q (ix2 r ⟨0 + e.val, by omega⟩ : S1024x512.Idx)
    = k0_pay8 (F := Ideal) i x w p q (ix2 r e) := by
  rw [written_eq]
  refine (skip r0_6 _ _ _ (off6 r ⟨0 + e.val, by omega⟩ (by dsimp only; omega))).trans ((skip r0_5 _ _ _ (off5 r ⟨0 + e.val, by omega⟩ (by dsimp only; omega))).trans
    ((skip r0_4 _ _ _ (off4 r ⟨0 + e.val, by omega⟩ (by dsimp only; omega))).trans ?_))
  rw [emb3]
  exact View.canon_cons_emb r0_3 _ _ _

/-! ## The blocks -/

variable (m : (ℓ : Loc nD τ sig) → Buf (Elt Ideal) ℓ) (c : Dev nD)

theorem index0 : ∀ t : Fin cfg0.N, win0_0.index t (0 : Fin 2) = t.val / 8 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 8 :=
  (by decide +kernel : ∀ t : Fin grid0.N, _)
theorem index2 : ∀ t : Fin cfg0.N, win0_2.index t (0 : Fin 2) = t.val / 8 % 4 ∧ win0_2.index t (1 : Fin 2) = 0 :=
  (by decide +kernel : ∀ t : Fin grid0.N, _)
theorem index3 : ∀ t : Fin cfg0.N, win0_3.index t (0 : Fin 2) = t.val / 8 % 4 ∧ win0_3.index t (1 : Fin 2) = 0 :=
  (by decide +kernel : ∀ t : Fin grid0.N, _)
theorem index4 : ∀ t : Fin cfg0.N, win0_4.index t (0 : Fin 2) = t.val / 8 ∧ win0_4.index t (1 : Fin 2) = t.val % 8 :=
  (by decide +kernel : ∀ t : Fin grid0.N, _)
theorem key : ∀ t : Fin cfg0.N, Scalar.cmpi .sge (BitVec.ofNat 32 ((grid0.coords t) 1).val) 4#32 = if t.val % 8 < 4 then 0#1 else 1#1 :=
  (by decide +kernel : ∀ t : Fin grid0.N, _)

theorem pay5_at (t : Fin cfg0.N) (z : EReal) (g : Nat) (hg : g / 2 = t.val % 8) : z * k0_pay5 (F := Ideal) (grid0.coords t) = scaled g z := by
  have e : k0_pay5 (F := Ideal) (grid0.coords t) = Scalar.select (Scalar.cmpi .sge (BitVec.ofNat 32 ((grid0.coords t) 1).val) 4#32) (FloatOps.ofBits (F := Ideal) .f32 0x3D800000#32) (FloatOps.ofBits (F := Ideal) .f32 0x3F800000#32) := rfl
  unfold scaled
  rw [e, key t]
  by_cases h : t.val % 8 < 4
  · rw [if_pos h, if_pos (show g < 8 by omega)]
    refine Eq.trans (b := z * FloatOps.ofBits (F := Ideal) .f32 0x3F800000#32) rfl ?_
    rw [show (FloatOps.ofBits (F := Ideal) .f32 0x3F800000#32 : EReal) = 1 from Cert.Kernel2Ideal.Ffn.one_lit, mul_one]
  · rw [if_neg h, if_neg (show ¬ g < 8 by omega)]
    rfl

theorem blk0 (t : Fin cfg0.N) (r : Fin 1024) (d : Fin 2048) (hr : 1024 * (t.val / 8) + r.val < 16384) :
    (iblk m c 0 t : S1024x2048.Idx → EReal) (ix2 r d) = (V m c main_arg0 : S16384x2048.Idx → EReal) (ix2 ⟨1024 * (t.val / 8) + r.val, hr⟩ d) := by
  show (V m c main_arg0 : S16384x2048.Idx → EReal) (((cfg0.win 0).blk t).view.emb (ix2 r d : S1024x2048.Idx)) = _
  have e0 : (((cfg0.win 0).blk t).view.emb (ix2 r d : S1024x2048.Idx) 0).val = win0_0.index t (0 : Fin 2) * 1024 + 1 * r.val := rfl
  have e1 : (((cfg0.win 0).blk t).view.emb (ix2 r d : S1024x2048.Idx) 1).val = win0_0.index t (1 : Fin 2) * 2048 + 1 * d.val := rfl
  obtain ⟨i0, i1⟩ := index0 t
  rw [i0] at e0; rw [i1] at e1
  exact congrArg _ (funext fun a => Fin.ext (match a with
    | ⟨0, _⟩ => e0.trans (show _ = 1024 * (t.val / 8) + r.val by omega)
    | ⟨1, _⟩ => e1.trans (show _ = d.val by omega)))

theorem blk1 (t : Fin cfg0.N) (r : Fin 2048) (d : Fin 512) (hd : 512 * (t.val % 8) + d.val < 4096) :
    (iblk m c 1 t : S2048x512.Idx → EReal) (ix2 r d) = (V m c main_v22 : S2048x4096.Idx → EReal) (ix2 r ⟨512 * (t.val % 8) + d.val, hd⟩) := by
  show (V m c main_v22 : S2048x4096.Idx → EReal) (((cfg0.win 1).blk t).view.emb (ix2 r d : S2048x512.Idx)) = _
  have e0 : (((cfg0.win 1).blk t).view.emb (ix2 r d : S2048x512.Idx) 0).val = win0_1.index t (0 : Fin 2) * 2048 + 1 * r.val := rfl
  have e1 : (((cfg0.win 1).blk t).view.emb (ix2 r d : S2048x512.Idx) 1).val = win0_1.index t (1 : Fin 2) * 512 + 1 * d.val := rfl
  obtain ⟨i0, i1⟩ := index1 t
  rw [i0] at e0; rw [i1] at e1
  exact congrArg _ (funext fun a => Fin.ext (match a with
    | ⟨0, _⟩ => e0.trans (show _ = r.val by omega)
    | ⟨1, _⟩ => e1.trans (show _ = 512 * (t.val % 8) + d.val by omega)))

theorem blk2 (t : Fin cfg0.N) (r : Fin 1024) (d : Fin 128) (hr : 1024 * (t.val / 8 % 4) + r.val < 4096) :
    (iblk m c 2 t : S1024x128.Idx → EReal) (ix2 r d) = (V m c main_v17 : S4096x128.Idx → EReal) (ix2 ⟨1024 * (t.val / 8 % 4) + r.val, hr⟩ d) := by
  show (V m c main_v17 : S4096x128.Idx → EReal) (((cfg0.win 2).blk t).view.emb (ix2 r d : S1024x128.Idx)) = _
  have e0 : (((cfg0.win 2).blk t).view.emb (ix2 r d : S1024x128.Idx) 0).val = win0_2.index t (0 : Fin 2) * 1024 + 1 * r.val := rfl
  have e1 : (((cfg0.win 2).blk t).view.emb (ix2 r d : S1024x128.Idx) 1).val = win0_2.index t (1 : Fin 2) * 128 + 1 * d.val := rfl
  obtain ⟨i0, i1⟩ := index2 t
  rw [i0] at e0; rw [i1] at e1
  exact congrArg _ (funext fun a => Fin.ext (match a with
    | ⟨0, _⟩ => e0.trans (show _ = 1024 * (t.val / 8 % 4) + r.val by omega)
    | ⟨1, _⟩ => e1.trans (show _ = d.val by omega)))

theorem blk3 (t : Fin cfg0.N) (r : Fin 1024) (d : Fin 128) (hr : 1024 * (t.val / 8 % 4) + r.val < 4096) :
    (iblk m c 3 t : S1024x128.Idx → EReal) (ix2 r d) = (V m c main_v20 : S4096x128.Idx → EReal) (ix2 ⟨1024 * (t.val / 8 % 4) + r.val, hr⟩ d) := by
  show (V m c main_v20 : S4096x128.Idx → EReal) (((cfg0.win 3).blk t).view.emb (ix2 r d : S1024x128.Idx)) = _
  have e0 : (((cfg0.win 3).blk t).view.emb (ix2 r d : S1024x128.Idx) 0).val = win0_3.index t (0 : Fin 2) * 1024 + 1 * r.val := rfl
  have e1 : (((cfg0.win 3).blk t).view.emb (ix2 r d : S1024x128.Idx) 1).val = win0_3.index t (1 : Fin 2) * 128 + 1 * d.val := rfl
  obtain ⟨i0, i1⟩ := index3 t
  rw [i0] at e0; rw [i1] at e1
  exact congrArg _ (funext fun a => Fin.ext (match a with
    | ⟨0, _⟩ => e0.trans (show _ = 1024 * (t.val / 8 % 4) + r.val by omega)
    | ⟨1, _⟩ => e1.trans (show _ = d.val by omega)))

abbrev out4 : S16384x4096.Idx → EReal := (dats m 0 c).arrAt 4 cfg0.N

theorem out4_block (t : Fin cfg0.N) (r : Fin 1024) (d : Fin 512) (hr : 1024 * (t.val / 8) + r.val < 16384) (hd : 512 * (t.val % 8) + d.val < 4096) :
    out4 m c (ix2 ⟨1024 * (t.val / 8) + r.val, hr⟩ ⟨512 * (t.val % 8) + d.val, hd⟩) = out0_4 (F := Ideal) (grid0.coords t) (iblk m c 0 t) (iblk m c 1 t) (iblk m c 2 t) (iblk m c 3 t) (ix2 r d) := by
  have h := congrFun ((blocks4 m c t (flush0_4 t)).trans (flushed4 m c t)) (ix2 r d : S1024x512.Idx)
  refine Eq.trans ?_ h
  show out4 m c _ = out4 m c (((cfg0.win 4).blk t).view.emb (ix2 r d : S1024x512.Idx))
  have e0 : (((cfg0.win 4).blk t).view.emb (ix2 r d : S1024x512.Idx) 0).val = win0_4.index t (0 : Fin 2) * 1024 + 1 * r.val := rfl
  have e1 : (((cfg0.win 4).blk t).view.emb (ix2 r d : S1024x512.Idx) 1).val = win0_4.index t (1 : Fin 2) * 512 + 1 * d.val := rfl
  obtain ⟨i0, i1⟩ := index4 t
  rw [i0] at e0; rw [i1] at e1
  exact (congrArg (out4 m c) (funext fun a => Fin.ext (match a with
    | ⟨0, _⟩ => e0.trans (show _ = 1024 * (t.val / 8) + r.val by omega)
    | ⟨1, _⟩ => e1.trans (show _ = 512 * (t.val % 8) + d.val by omega)))).symm

theorem cos_at (a : Fin 4096) (e : Fin 128) : (V m c main_v17 : S4096x128.Idx → EReal) (ix2 a e) = cosTable (ix2 a e) := by
  have h : (V m c main_v17 : S4096x128.Idx → EReal) = shapeCast S4096x128 (broadcastInDim S1x4096x1x128 ![0, 1, 2, 3] bcast_S1x4096x1x128_S1x4096x1x128_0_1_2_3
      (shapeCast S1x4096x1x128 cosTable shapeCasts_S4096x128_S1x4096x1x128)) shapeCasts_S1x4096x1x128_S4096x128 := by
    unfold_abbrev_sides
    after_results
    rfl
  rw [h]
  refine (shapeCast_apply _ shapeCasts_S1x4096x1x128_S4096x128 (ix2 a e : S4096x128.Idx) (ix4 0 a 0 e : S1x4096x1x128.Idx)
    (by rewrite [Shape.rowMajor_val_four, Shape.rowMajor_val_two]; show ((0 * 4096 + a.val) * 1 + 0) * 128 + e.val = a.val * 128 + e.val; omega)).trans ?_
  refine (broadcastInDim_apply _ bcast_S1x4096x1x128_S1x4096x1x128_0_1_2_3 _ (ix4 0 a 0 e : S1x4096x1x128.Idx) (ix4 0 a 0 e : S1x4096x1x128.Idx) (fun b => match b with
    | ⟨0, _⟩ => rfl
    | ⟨1, _⟩ => rfl
    | ⟨2, _⟩ => rfl
    | ⟨3, _⟩ => rfl)).trans ?_
  exact shapeCast_apply _ shapeCasts_S4096x128_S1x4096x1x128 (ix4 0 a 0 e : S1x4096x1x128.Idx) (ix2 a e : S4096x128.Idx)
    (by rewrite [Shape.rowMajor_val_four, Shape.rowMajor_val_two]; show a.val * 128 + e.val = ((0 * 4096 + a.val) * 1 + 0) * 128 + e.val; omega)

theorem sin_at (a : Fin 4096) (e : Fin 128) : (V m c main_v20 : S4096x128.Idx → EReal) (ix2 a e) = sinTable (ix2 a e) := by
  have h : (V m c main_v20 : S4096x128.Idx → EReal) = shapeCast S4096x128 (broadcastInDim S1x4096x1x128 ![0, 1, 2, 3] bcast_S1x4096x1x128_S1x4096x1x128_0_1_2_3
      (shapeCast S1x4096x1x128 sinTable shapeCasts_S4096x128_S1x4096x1x128)) shapeCasts_S1x4096x1x128_S4096x128 := by
    unfold_abbrev_sides
    after_results
    rfl
  rw [h]
  refine (shapeCast_apply _ shapeCasts_S1x4096x1x128_S4096x128 (ix2 a e : S4096x128.Idx) (ix4 0 a 0 e : S1x4096x1x128.Idx)
    (by rewrite [Shape.rowMajor_val_four, Shape.rowMajor_val_two]; show ((0 * 4096 + a.val) * 1 + 0) * 128 + e.val = a.val * 128 + e.val; omega)).trans ?_
  refine (broadcastInDim_apply _ bcast_S1x4096x1x128_S1x4096x1x128_0_1_2_3 _ (ix4 0 a 0 e : S1x4096x1x128.Idx) (ix4 0 a 0 e : S1x4096x1x128.Idx) (fun b => match b with
    | ⟨0, _⟩ => rfl
    | ⟨1, _⟩ => rfl
    | ⟨2, _⟩ => rfl
    | ⟨3, _⟩ => rfl)).trans ?_
  exact shapeCast_apply _ shapeCasts_S4096x128_S1x4096x1x128 (ix4 0 a 0 e : S1x4096x1x128.Idx) (ix2 a e : S4096x128.Idx)
    (by rewrite [Shape.rowMajor_val_four, Shape.rowMajor_val_two]; show a.val * 128 + e.val = ((0 * 4096 + a.val) * 1 + 0) * 128 + e.val; omega)

theorem weight_at (d : Fin 2048) (k : Fin 4096) :
    (V m c main_v22 : S2048x4096.Idx → EReal) (ix2 d k) = (m ((c : Thread nD τ).loc main_arg1) : S2048x13376.Idx → EReal) (ix2 d ⟨1088 + k.val, by omega⟩) := by
  have e : (V m c main_v22 : S2048x4096.Idx → EReal)
      = extractStridedSlice S2048x4096 ![0, 1088] (m ((c : Thread nD τ).loc main_arg1) : S2048x13376.Idx → EReal) slices_S2048x13376_S2048x4096_0_1088 := by
    unfold_abbrev_sides
    after_results
    rfl
  rw [e]
  exact extractStridedSlice_apply ![0, 1088] (m ((c : Thread nD τ).loc main_arg1) : S2048x13376.Idx → EReal) slices_S2048x13376_S2048x4096_0_1088 (ix2 d k : S2048x4096.Idx)
    (ix2 d ⟨1088 + k.val, by omega⟩ : S2048x13376.Idx) (fun a => match a with
      | ⟨0, _⟩ => by show d.val = 0 + d.val; omega
      | ⟨1, _⟩ => rfl)

abbrev th : S16384x2048.Idx → EReal := m ((c : Thread nD τ).loc main_arg0)
abbrev tw : S2048x13376.Idx → EReal := m ((c : Thread nD τ).loc main_arg1)

theorem acc_block (t : Fin cfg0.N) (r : Fin 1024) (j : Fin 512) (s : Fin 16384) (hs : s.val = 1024 * (t.val / 8) + r.val) (k : Fin 13376) (hk : k.val = 1088 + (512 * (t.val % 8) + j.val)) :
    acc (iblk m c 0 t) (iblk m c 1 t) r j = proj (th m c) (tw m c) s k := by
  unfold proj
  have hr : 1024 * (t.val / 8) + r.val < 16384 := by omega
  have hj : 512 * (t.val % 8) + j.val < 4096 := by omega
  refine Finset.sum_congr rfl fun d _ => congrArg₂ (· * ·) ((blk0 m c t r d hr).trans ?_) ((blk1 m c t d j hj).trans ?_)
  · refine (congrFun (V_main_arg0 m c) _).trans (congrArg (fun s => th m c (ix2 s d)) (Fin.ext hs.symm))
  · refine (weight_at m c d _).trans (congrArg (fun k => tw m c (ix2 d k)) (Fin.ext hk.symm))

theorem cos_block (t : Fin cfg0.N) (r : Fin 1024) (e : Fin 128) (s : Fin 16384) (hs : s.val = 1024 * (t.val / 8) + r.val) :
    (iblk m c 2 t : S1024x128.Idx → EReal) (ix2 r e) = cosTable (ix2 (pos s) e) :=
  (blk2 m c t r e (by omega)).trans ((cos_at m c _ e).trans (congrArg (fun a => cosTable (ix2 a e)) (Fin.ext (by dsimp only; omega))))
theorem sin_block (t : Fin cfg0.N) (r : Fin 1024) (e : Fin 128) (s : Fin 16384) (hs : s.val = 1024 * (t.val / 8) + r.val) :
    (iblk m c 3 t : S1024x128.Idx → EReal) (ix2 r e) = sinTable (ix2 (pos s) e) :=
  (blk3 m c t r e (by omega)).trans ((sin_at m c _ e).trans (congrArg (fun a => sinTable (ix2 a e)) (Fin.ext (by dsimp only; omega))))

theorem first_of (t : Fin cfg0.N) (r : Fin 1024) (e : Fin 128) (s : Fin 16384) (g : Fin 16) (j j' : Fin 512) (hs : s.val = 1024 * (t.val / 8) + r.val) (hg : g.val / 2 = t.val % 8)
    (hj : j.val = 256 * (g.val % 2) + e.val) (hj' : j'.val = 256 * (g.val % 2) + (128 + e.val)) :
    (acc (iblk m c 0 t) (iblk m c 1 t) r j * (iblk m c 2 t : S1024x128.Idx → EReal) (ix2 r e) - acc (iblk m c 0 t) (iblk m c 1 t) r j' * (iblk m c 3 t : S1024x128.Idx → EReal) (ix2 r e)) * k0_pay5 (F := Ideal) (grid0.coords t)
      = first (th m c) (tw m c) s g e := by
  refine (pay5_at t _ g.val hg).trans (congrArg (scaled g.val) ?_)
  refine congrArg₂ (· - ·) (congrArg₂ (· * ·) (acc_block m c t r j s hs _ ?_) (cos_block m c t r e s hs)) (congrArg₂ (· * ·) (acc_block m c t r j' s hs _ ?_) (sin_block m c t r e s hs))
  · dsimp only; omega
  · dsimp only; omega
theorem second_of (t : Fin cfg0.N) (r : Fin 1024) (e : Fin 128) (s : Fin 16384) (g : Fin 16) (j j' : Fin 512) (hs : s.val = 1024 * (t.val / 8) + r.val) (hg : g.val / 2 = t.val % 8)
    (hj : j.val = 256 * (g.val % 2) + e.val) (hj' : j'.val = 256 * (g.val % 2) + (128 + e.val)) :
    (acc (iblk m c 0 t) (iblk m c 1 t) r j * (iblk m c 3 t : S1024x128.Idx → EReal) (ix2 r e) + acc (iblk m c 0 t) (iblk m c 1 t) r j' * (iblk m c 2 t : S1024x128.Idx → EReal) (ix2 r e)) * k0_pay5 (F := Ideal) (grid0.coords t)
      = second (th m c) (tw m c) s g e := by
  refine (pay5_at t _ g.val hg).trans (congrArg (scaled g.val) ?_)
  refine congrArg₂ (· + ·) (congrArg₂ (· * ·) (acc_block m c t r j s hs _ ?_) (sin_block m c t r e s hs)) (congrArg₂ (· * ·) (acc_block m c t r j' s hs _ ?_) (cos_block m c t r e s hs))
  · dsimp only; omega
  · dsimp only; omega

/-- An element of the array, from the grid point that writes it. -/
theorem out4_at (t : Fin cfg0.N) (r : Fin 1024) (j : Fin 512) (s : Fin 16384) (k : Fin 4096) (hs : s.val = 1024 * (t.val / 8) + r.val) (hk : k.val = 512 * (t.val % 8) + j.val) :
    out4 m c (ix2 s k) = out0_4 (F := Ideal) (grid0.coords t) (iblk m c 0 t) (iblk m c 1 t) (iblk m c 2 t) (iblk m c 3 t) (ix2 r j) := by
  have h := out4_block m c t r j (by omega) (by omega)
  refine Eq.trans ?_ h
  exact congrArg₂ (fun s k => out4 m c (ix2 s k)) (Fin.ext hs) (Fin.ext hk)

theorem out_first (s : Fin 16384) (g : Fin 16) (e : Fin 128) (k : Fin 4096) (hk : k.val = 256 * g.val + e.val) : out4 m c (ix2 s k) = first (th m c) (tw m c) s g e := by
  have hN : cfg0.N = 128 := N_0
  have ht : s.val / 1024 * 8 + g.val / 2 < cfg0.N := by omega
  have hs : s.val = 1024 * ((s.val / 1024 * 8 + g.val / 2) / 8) + s.val % 1024 := by omega
  by_cases hp : g.val % 2 = 0
  · refine (out4_at m c ⟨_, ht⟩ ⟨s.val % 1024, Nat.mod_lt _ (by norm_num)⟩ ⟨0 + e.val, by omega⟩ s k hs (by dsimp only; omega)).trans ((written0 _ _ _ _ _ _ e).trans ((pay8_at _ _ _ _ _ _ e).trans ?_))
    exact first_of m c ⟨_, ht⟩ _ e s g _ _ hs (by dsimp only; omega) (by dsimp only; omega) (by dsimp only; omega)
  · refine (out4_at m c ⟨_, ht⟩ ⟨s.val % 1024, Nat.mod_lt _ (by norm_num)⟩ ⟨256 + e.val, by omega⟩ s k hs (by dsimp only; omega)).trans ((written2 _ _ _ _ _ _ e).trans ((pay12_at _ _ _ _ _ _ e).trans ?_))
    exact first_of m c ⟨_, ht⟩ _ e s g _ _ hs (by dsimp only; omega) (by dsimp only; omega) (by dsimp only; omega)

theorem out_second (s : Fin 16384) (g : Fin 16) (e : Fin 128) (k : Fin 4096) (hk : k.val = 256 * g.val + (128 + e.val)) : out4 m c (ix2 s k) = second (th m c) (tw m c) s g e := by
  have hN : cfg0.N = 128 := N_0
  have ht : s.val / 1024 * 8 + g.val / 2 < cfg0.N := by omega
  have hs : s.val = 1024 * ((s.val / 1024 * 8 + g.val / 2) / 8) + s.val % 1024 := by omega
  by_cases hp : g.val % 2 = 0
  · refine (out4_at m c ⟨_, ht⟩ ⟨s.val % 1024, Nat.mod_lt _ (by norm_num)⟩ ⟨128 + e.val, by omega⟩ s k hs (by dsimp only; omega)).trans ((written1 _ _ _ _ _ _ e).trans ((pay9_at _ _ _ _ _ _ e).trans ?_))
    exact second_of m c ⟨_, ht⟩ _ e s g _ _ hs (by dsimp only; omega) (by dsimp only; omega) (by dsimp only; omega)
  · refine (out4_at m c ⟨_, ht⟩ ⟨s.val % 1024, Nat.mod_lt _ (by norm_num)⟩ ⟨384 + e.val, by omega⟩ s k hs (by dsimp only; omega)).trans ((written3 _ _ _ _ _ _ e).trans ((pay1_at _ _ _ _ _ _ e).trans ?_))
    exact second_of m c ⟨_, ht⟩ _ e s g _ _ hs (by dsimp only; omega) (by dsimp only; omega) (by dsimp only; omega)

end Cert.Kernel7Ideal.Rope

end
-- ==== Proof.Rope.RefValue.lean ====
/- The rotated queries and keys: the reference's result, element by element. -/
module

public import proofs.«01_k».proof.Proof.Rope.Spec
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Reference7Ideal.Rope

open Cert.Reference7Ideal Cert.Reference7Ideal.Gen Cert.Reference7Ideal.Read
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

open Cert.Kernel7Ideal.Rope (proj first second scaled keyScale cosTable sinTable pos)

variable (h : S16384x2048.Idx → EReal) (w : S2048x13376.Idx → EReal)

theorem proj_at (s : Fin 16384) (k : Fin 13376) : val_main_v1 (F := Ideal) h w (ix2 s k) = proj h w s k := by
  rw [val_main_v1_apply]
  refine Finset.sum_congr rfl fun d _ => ?_
  exact congrArg₂ (· * ·) (congrArg h (funext fun a => match a with | ⟨0, _⟩ => rfl | ⟨1, _⟩ => rfl))
    (congrArg w (funext fun a => match a with | ⟨0, _⟩ => rfl | ⟨1, _⟩ => rfl))

variable (b : Fin 4) (p : Fin 4096) (g : Fin 8) (e : Fin 128)

abbrev row : Fin 16384 := ⟨4096 * b.val + p.val, by omega⟩

theorem v21_at : val_main_v21 (F := Ideal) h w (ix4 b p g e : S4x4096x8x128.Idx) = proj h w (row b p) ⟨1088 + (256 * g.val + e.val), by omega⟩ := by
  rw [val_main_v21_apply, val_main_v20_apply, val_main_v19_apply, ← proj_at]
  exact congrArg (val_main_v1 (F := Ideal) h w) (funext fun a => Fin.ext (match a with
    | ⟨0, _⟩ => (show (((b.val * 4096 + p.val) * 8 + g.val) * 256 + e.val) / 2048 = 4096 * b.val + p.val by omega)
    | ⟨1, _⟩ => (show 1088 + (((b.val * 4096 + p.val) * 8 + g.val) * 256 + e.val) % 2048 = 1088 + (256 * g.val + e.val) by omega)))
theorem v22_at : val_main_v22 (F := Ideal) h w (ix4 b p g e : S4x4096x8x128.Idx) = proj h w (row b p) ⟨1088 + (256 * g.val + (128 + e.val)), by omega⟩ := by
  rw [val_main_v22_apply, val_main_v20_apply, val_main_v19_apply, ← proj_at]
  exact congrArg (val_main_v1 (F := Ideal) h w) (funext fun a => Fin.ext (match a with
    | ⟨0, _⟩ => (show (((b.val * 4096 + p.val) * 8 + g.val) * 256 + (128 + e.val)) / 2048 = 4096 * b.val + p.val by omega)
    | ⟨1, _⟩ => (show 1088 + (((b.val * 4096 + p.val) * 8 + g.val) * 256 + (128 + e.val)) % 2048 = 1088 + (256 * g.val + (128 + e.val)) by omega)))
theorem v36_at : val_main_v36 (F := Ideal) h w (ix4 b p g e : S4x4096x8x128.Idx) = proj h w (row b p) ⟨3136 + (256 * g.val + e.val), by omega⟩ := by
  rw [val_main_v36_apply, val_main_v35_apply, val_main_v34_apply, ← proj_at]
  exact congrArg (val_main_v1 (F := Ideal) h w) (funext fun a => Fin.ext (match a with
    | ⟨0, _⟩ => (show (((b.val * 4096 + p.val) * 8 + g.val) * 256 + e.val) / 2048 = 4096 * b.val + p.val by omega)
    | ⟨1, _⟩ => (show 3136 + (((b.val * 4096 + p.val) * 8 + g.val) * 256 + e.val) % 2048 = 3136 + (256 * g.val + e.val) by omega)))
theorem v37_at : val_main_v37 (F := Ideal) h w (ix4 b p g e : S4x4096x8x128.Idx) = proj h w (row b p) ⟨3136 + (256 * g.val + (128 + e.val)), by omega⟩ := by
  rw [val_main_v37_apply, val_main_v35_apply, val_main_v34_apply, ← proj_at]
  exact congrArg (val_main_v1 (F := Ideal) h w) (funext fun a => Fin.ext (match a with
    | ⟨0, _⟩ => (show (((b.val * 4096 + p.val) * 8 + g.val) * 256 + (128 + e.val)) / 2048 = 4096 * b.val + p.val by omega)
    | ⟨1, _⟩ => (show 3136 + (((b.val * 4096 + p.val) * 8 + g.val) * 256 + (128 + e.val)) % 2048 = 3136 + (256 * g.val + (128 + e.val)) by omega)))
theorem v23_at : val_main_v23 (F := Ideal) (ix4 b p g e : S4x4096x8x128.Idx) = cosTable (ix2 p e) := by
  rw [val_main_v23_apply, val_main_v16_apply]
  exact congrArg (val_main_v15 (F := Ideal)) (funext fun a => match a with | ⟨0, _⟩ => rfl | ⟨1, _⟩ => rfl)
theorem v25_at : val_main_v25 (F := Ideal) (ix4 b p g e : S4x4096x8x128.Idx) = sinTable (ix2 p e) := by
  rw [val_main_v25_apply, val_main_v18_apply]
  exact congrArg (val_main_v17 (F := Ideal)) (funext fun a => match a with | ⟨0, _⟩ => rfl | ⟨1, _⟩ => rfl)
theorem v28_at : val_main_v28 (F := Ideal) (ix4 b p g e : S4x4096x8x128.Idx) = sinTable (ix2 p e) := by
  rw [val_main_v28_apply, val_main_v18_apply]
  exact congrArg (val_main_v17 (F := Ideal)) (funext fun a => match a with | ⟨0, _⟩ => rfl | ⟨1, _⟩ => rfl)
theorem v30_at : val_main_v30 (F := Ideal) (ix4 b p g e : S4x4096x8x128.Idx) = cosTable (ix2 p e) := by
  rw [val_main_v30_apply, val_main_v16_apply]
  exact congrArg (val_main_v15 (F := Ideal)) (funext fun a => match a with | ⟨0, _⟩ => rfl | ⟨1, _⟩ => rfl)
theorem v38_at : val_main_v38 (F := Ideal) (ix4 b p g e : S4x4096x8x128.Idx) = cosTable (ix2 p e) := by
  rw [val_main_v38_apply, val_main_v16_apply]
  exact congrArg (val_main_v15 (F := Ideal)) (funext fun a => match a with | ⟨0, _⟩ => rfl | ⟨1, _⟩ => rfl)
theorem v40_at : val_main_v40 (F := Ideal) (ix4 b p g e : S4x4096x8x128.Idx) = sinTable (ix2 p e) := by
  rw [val_main_v40_apply, val_main_v18_apply]
  exact congrArg (val_main_v17 (F := Ideal)) (funext fun a => match a with | ⟨0, _⟩ => rfl | ⟨1, _⟩ => rfl)
theorem v43_at : val_main_v43 (F := Ideal) (ix4 b p g e : S4x4096x8x128.Idx) = sinTable (ix2 p e) := by
  rw [val_main_v43_apply, val_main_v18_apply]
  exact congrArg (val_main_v17 (F := Ideal)) (funext fun a => match a with | ⟨0, _⟩ => rfl | ⟨1, _⟩ => rfl)
theorem v45_at : val_main_v45 (F := Ideal) (ix4 b p g e : S4x4096x8x128.Idx) = cosTable (ix2 p e) := by
  rw [val_main_v45_apply, val_main_v16_apply]
  exact congrArg (val_main_v15 (F := Ideal)) (funext fun a => match a with | ⟨0, _⟩ => rfl | ⟨1, _⟩ => rfl)
theorem v27_at : val_main_v27 (F := Ideal) h w (ix4 b p g e : S4x4096x8x128.Idx)
    = proj h w (row b p) ⟨1088 + (256 * g.val + e.val), by omega⟩ * cosTable (ix2 p e) - proj h w (row b p) ⟨1088 + (256 * g.val + (128 + e.val)), by omega⟩ * sinTable (ix2 p e) := by
  rw [val_main_v27_apply, val_main_v24_apply, val_main_v26_apply, v21_at, v22_at, v23_at, v25_at]
  rfl
theorem v32_at : val_main_v32 (F := Ideal) h w (ix4 b p g e : S4x4096x8x128.Idx)
    = proj h w (row b p) ⟨1088 + (256 * g.val + e.val), by omega⟩ * sinTable (ix2 p e) + proj h w (row b p) ⟨1088 + (256 * g.val + (128 + e.val)), by omega⟩ * cosTable (ix2 p e) := by
  rw [val_main_v32_apply, val_main_v29_apply, val_main_v31_apply, v21_at, v22_at, v28_at, v30_at]
  rfl
theorem v42_at : val_main_v42 (F := Ideal) h w (ix4 b p g e : S4x4096x8x128.Idx)
    = proj h w (row b p) ⟨3136 + (256 * g.val + e.val), by omega⟩ * cosTable (ix2 p e) - proj h w (row b p) ⟨3136 + (256 * g.val + (128 + e.val)), by omega⟩ * sinTable (ix2 p e) := by
  rw [val_main_v42_apply, val_main_v39_apply, val_main_v41_apply, v36_at, v37_at, v38_at, v40_at]
  rfl
theorem v47_at : val_main_v47 (F := Ideal) h w (ix4 b p g e : S4x4096x8x128.Idx)
    = proj h w (row b p) ⟨3136 + (256 * g.val + e.val), by omega⟩ * sinTable (ix2 p e) + proj h w (row b p) ⟨3136 + (256 * g.val + (128 + e.val)), by omega⟩ * cosTable (ix2 p e) := by
  rw [val_main_v47_apply, val_main_v44_apply, val_main_v46_apply, v36_at, v37_at, v43_at, v45_at]
  rfl
theorem v33_left : val_main_v33 (F := Ideal) h w (ix4 b p g ⟨e.val, by omega⟩ : S4x4096x8x256.Idx) = val_main_v27 (F := Ideal) h w (ix4 b p g e : S4x4096x8x128.Idx) := by
  unfold val_main_v33
  exact concatenate_pair_apply_left (s₁ := S4x4096x8x128) (s₂ := S4x4096x8x128) 3 _ _ _ (ix4 b p g ⟨e.val, by omega⟩ : S4x4096x8x256.Idx) rfl (ix4 b p g e : S4x4096x8x128.Idx) (fun a => match a with
    | ⟨0, _⟩ => rfl
    | ⟨1, _⟩ => rfl
    | ⟨2, _⟩ => rfl
    | ⟨3, _⟩ => rfl)
theorem v33_right : val_main_v33 (F := Ideal) h w (ix4 b p g ⟨128 + e.val, by omega⟩ : S4x4096x8x256.Idx) = val_main_v32 (F := Ideal) h w (ix4 b p g e : S4x4096x8x128.Idx) := by
  unfold val_main_v33
  exact concatenate_pair_apply_right (s₁ := S4x4096x8x128) (s₂ := S4x4096x8x128) 3 _ _ _ (ix4 b p g ⟨128 + e.val, by omega⟩ : S4x4096x8x256.Idx) rfl rfl (ix4 b p g e : S4x4096x8x128.Idx) (fun a ha => match a, ha with
    | ⟨0, _⟩, _ => rfl
    | ⟨1, _⟩, _ => rfl
    | ⟨2, _⟩, _ => rfl
    | ⟨3, _⟩, ha => absurd rfl ha) (show e.val + 128 = 128 + e.val by omega)
theorem v48_left : val_main_v48 (F := Ideal) h w (ix4 b p g ⟨e.val, by omega⟩ : S4x4096x8x256.Idx) = val_main_v42 (F := Ideal) h w (ix4 b p g e : S4x4096x8x128.Idx) := by
  unfold val_main_v48
  exact concatenate_pair_apply_left (s₁ := S4x4096x8x128) (s₂ := S4x4096x8x128) 3 _ _ _ (ix4 b p g ⟨e.val, by omega⟩ : S4x4096x8x256.Idx) rfl (ix4 b p g e : S4x4096x8x128.Idx) (fun a => match a with
    | ⟨0, _⟩ => rfl
    | ⟨1, _⟩ => rfl
    | ⟨2, _⟩ => rfl
    | ⟨3, _⟩ => rfl)
theorem v48_right : val_main_v48 (F := Ideal) h w (ix4 b p g ⟨128 + e.val, by omega⟩ : S4x4096x8x256.Idx) = val_main_v47 (F := Ideal) h w (ix4 b p g e : S4x4096x8x128.Idx) := by
  unfold val_main_v48
  exact concatenate_pair_apply_right (s₁ := S4x4096x8x128) (s₂ := S4x4096x8x128) 3 _ _ _ (ix4 b p g ⟨128 + e.val, by omega⟩ : S4x4096x8x256.Idx) rfl rfl (ix4 b p g e : S4x4096x8x128.Idx) (fun a ha => match a, ha with
    | ⟨0, _⟩, _ => rfl
    | ⟨1, _⟩, _ => rfl
    | ⟨2, _⟩, _ => rfl
    | ⟨3, _⟩, ha => absurd rfl ha) (show e.val + 128 = 128 + e.val by omega)

theorem v51_at (s : Fin 16384) (j : Fin 2048) : val_main_v51 (F := Ideal) h w (ix2 s j)
    = val_main_v33 (F := Ideal) h w (ix4 ⟨s.val / 4096, by omega⟩ (pos s) ⟨j.val / 256, by omega⟩ ⟨j.val % 256, Nat.mod_lt _ (by norm_num)⟩ : S4x4096x8x256.Idx) := by
  rw [val_main_v51_apply]
  exact congrArg (val_main_v33 (F := Ideal) h w) (funext fun a => Fin.ext (match a with
    | ⟨0, _⟩ => (show (s.val * 2048 + j.val) / 8388608 = s.val / 4096 by omega)
    | ⟨1, _⟩ => (show (s.val * 2048 + j.val) / 2048 % 4096 = s.val % 4096 by omega)
    | ⟨2, _⟩ => (show (s.val * 2048 + j.val) / 256 % 8 = j.val / 256 by omega)
    | ⟨3, _⟩ => (show (s.val * 2048 + j.val) % 256 = j.val % 256 by omega)))
theorem v52_at (s : Fin 16384) (j : Fin 2048) : val_main_v52 (F := Ideal) h w (ix2 s j)
    = val_main_v48 (F := Ideal) h w (ix4 ⟨s.val / 4096, by omega⟩ (pos s) ⟨j.val / 256, by omega⟩ ⟨j.val % 256, Nat.mod_lt _ (by norm_num)⟩ : S4x4096x8x256.Idx) * keyScale := by
  rw [val_main_v52_apply, val_main_v50_apply, val_main_v49_apply, val_main_cst_1_apply]
  refine congrArg₂ (· * ·) ?_ rfl
  exact congrArg (val_main_v48 (F := Ideal) h w) (funext fun a => Fin.ext (match a with
    | ⟨0, _⟩ => (show (s.val * 2048 + j.val) / 8388608 = s.val / 4096 by omega)
    | ⟨1, _⟩ => (show (s.val * 2048 + j.val) / 2048 % 4096 = s.val % 4096 by omega)
    | ⟨2, _⟩ => (show (s.val * 2048 + j.val) / 256 % 8 = j.val / 256 by omega)
    | ⟨3, _⟩ => (show (s.val * 2048 + j.val) % 256 = j.val % 256 by omega)))

theorem v53_left (s : Fin 16384) (k : Fin 4096) (j : Fin 2048) (hk : k.val = j.val) : val_main_v53 (F := Ideal) h w (ix2 s k) = val_main_v51 (F := Ideal) h w (ix2 s j) := by
  unfold val_main_v53
  exact concatenate_pair_apply_left (s₁ := S16384x2048) (s₂ := S16384x2048) 1 _ _ _ (ix2 s k : S16384x4096.Idx) rfl (ix2 s j : S16384x2048.Idx) (fun a => match a with
    | ⟨0, _⟩ => rfl
    | ⟨1, _⟩ => hk.symm)
theorem v53_right (s : Fin 16384) (k : Fin 4096) (j : Fin 2048) (hk : k.val = 2048 + j.val) : val_main_v53 (F := Ideal) h w (ix2 s k) = val_main_v52 (F := Ideal) h w (ix2 s j) := by
  unfold val_main_v53
  exact concatenate_pair_apply_right (s₁ := S16384x2048) (s₂ := S16384x2048) 1 _ _ _ (ix2 s k : S16384x4096.Idx) rfl rfl (ix2 s j : S16384x2048.Idx) (fun a ha => match a, ha with
    | ⟨0, _⟩, _ => rfl
    | ⟨1, _⟩, ha => absurd rfl ha) (show j.val + 2048 = k.val by omega)

theorem row_pos (s : Fin 16384) : row ⟨s.val / 4096, by omega⟩ (pos s) = s := Fin.ext (show 4096 * (s.val / 4096) + s.val % 4096 = s.val by omega)

theorem first_at (s : Fin 16384) (G : Fin 16) (k : Fin 4096) (hk : k.val = 256 * G.val + e.val) : val_main_v54 (F := Ideal) h w (ix2 s k) = first h w s G e := by
  refine Eq.trans (b := val_main_v53 (F := Ideal) h w (ix2 s k)) rfl ?_
  unfold first scaled
  by_cases hG : G.val < 8
  · rw [if_pos hG, v53_left h w s k ⟨256 * G.val + e.val, by omega⟩ hk, v51_at]
    have e1 : (ix4 (⟨s.val / 4096, by omega⟩ : Fin 4) (pos s) (⟨(256 * G.val + e.val) / 256, by omega⟩ : Fin 8) (⟨(256 * G.val + e.val) % 256, by omega⟩ : Fin 256) : S4x4096x8x256.Idx)
        = ix4 ⟨s.val / 4096, by omega⟩ (pos s) ⟨G.val, hG⟩ ⟨e.val, by omega⟩ := congrArg₂ (fun x y => (ix4 _ (pos s) x y : S4x4096x8x256.Idx)) (Fin.ext (by dsimp only; omega)) (Fin.ext (by dsimp only; omega))
    refine (congrArg (val_main_v33 (F := Ideal) h w) e1).trans ((v33_left h w _ (pos s) ⟨G.val, hG⟩ e).trans ((v27_at h w _ (pos s) ⟨G.val, hG⟩ e).trans ?_))
    rw [row_pos]
  · rw [if_neg hG, v53_right h w s k ⟨256 * (G.val - 8) + e.val, by omega⟩ (by dsimp only; omega), v52_at]
    have e1 : (ix4 (⟨s.val / 4096, by omega⟩ : Fin 4) (pos s) (⟨(256 * (G.val - 8) + e.val) / 256, by omega⟩ : Fin 8) (⟨(256 * (G.val - 8) + e.val) % 256, by omega⟩ : Fin 256) : S4x4096x8x256.Idx)
        = ix4 ⟨s.val / 4096, by omega⟩ (pos s) ⟨G.val - 8, by omega⟩ ⟨e.val, by omega⟩ := congrArg₂ (fun x y => (ix4 _ (pos s) x y : S4x4096x8x256.Idx)) (Fin.ext (by dsimp only; omega)) (Fin.ext (by dsimp only; omega))
    refine congrArg (· * keyScale) ((congrArg (val_main_v48 (F := Ideal) h w) e1).trans ((v48_left h w _ (pos s) ⟨G.val - 8, by omega⟩ e).trans ((v42_at h w _ (pos s) ⟨G.val - 8, by omega⟩ e).trans ?_)))
    rw [row_pos]
    have k1 : (⟨3136 + (256 * (G.val - 8) + e.val), by omega⟩ : Fin 13376) = ⟨1088 + (256 * G.val + e.val), by omega⟩ := Fin.ext (by dsimp only; omega)
    have k2 : (⟨3136 + (256 * (G.val - 8) + (128 + e.val)), by omega⟩ : Fin 13376) = ⟨1088 + (256 * G.val + (128 + e.val)), by omega⟩ := Fin.ext (by dsimp only; omega)
    exact congrArg₂ (fun x y => proj h w s x * cosTable (ix2 (pos s) e) - proj h w s y * sinTable (ix2 (pos s) e)) k1 k2

theorem second_at (s : Fin 16384) (G : Fin 16) (k : Fin 4096) (hk : k.val = 256 * G.val + (128 + e.val)) : val_main_v54 (F := Ideal) h w (ix2 s k) = second h w s G e := by
  refine Eq.trans (b := val_main_v53 (F := Ideal) h w (ix2 s k)) rfl ?_
  unfold second scaled
  by_cases hG : G.val < 8
  · rw [if_pos hG, v53_left h w s k ⟨256 * G.val + (128 + e.val), by omega⟩ hk, v51_at]
    have e1 : (ix4 (⟨s.val / 4096, by omega⟩ : Fin 4) (pos s) (⟨(256 * G.val + (128 + e.val)) / 256, by omega⟩ : Fin 8) (⟨(256 * G.val + (128 + e.val)) % 256, by omega⟩ : Fin 256) : S4x4096x8x256.Idx)
        = ix4 ⟨s.val / 4096, by omega⟩ (pos s) ⟨G.val, hG⟩ ⟨(128 + e.val), by omega⟩ := congrArg₂ (fun x y => (ix4 _ (pos s) x y : S4x4096x8x256.Idx)) (Fin.ext (by dsimp only; omega)) (Fin.ext (by dsimp only; omega))
    refine (congrArg (val_main_v33 (F := Ideal) h w) e1).trans ((v33_right h w _ (pos s) ⟨G.val, hG⟩ e).trans ((v32_at h w _ (pos s) ⟨G.val, hG⟩ e).trans ?_))
    rw [row_pos]
  · rw [if_neg hG, v53_right h w s k ⟨256 * (G.val - 8) + (128 + e.val), by omega⟩ (by dsimp only; omega), v52_at]
    have e1 : (ix4 (⟨s.val / 4096, by omega⟩ : Fin 4) (pos s) (⟨(256 * (G.val - 8) + (128 + e.val)) / 256, by omega⟩ : Fin 8) (⟨(256 * (G.val - 8) + (128 + e.val)) % 256, by omega⟩ : Fin 256) : S4x4096x8x256.Idx)
        = ix4 ⟨s.val / 4096, by omega⟩ (pos s) ⟨G.val - 8, by omega⟩ ⟨(128 + e.val), by omega⟩ := congrArg₂ (fun x y => (ix4 _ (pos s) x y : S4x4096x8x256.Idx)) (Fin.ext (by dsimp only; omega)) (Fin.ext (by dsimp only; omega))
    refine congrArg (· * keyScale) ((congrArg (val_main_v48 (F := Ideal) h w) e1).trans ((v48_right h w _ (pos s) ⟨G.val - 8, by omega⟩ e).trans ((v47_at h w _ (pos s) ⟨G.val - 8, by omega⟩ e).trans ?_)))
    rw [row_pos]
    have k1 : (⟨3136 + (256 * (G.val - 8) + e.val), by omega⟩ : Fin 13376) = ⟨1088 + (256 * G.val + e.val), by omega⟩ := Fin.ext (by dsimp only; omega)
    have k2 : (⟨3136 + (256 * (G.val - 8) + (128 + e.val)), by omega⟩ : Fin 13376) = ⟨1088 + (256 * G.val + (128 + e.val)), by omega⟩ := Fin.ext (by dsimp only; omega)
    exact congrArg₂ (fun x y => proj h w s x * sinTable (ix2 (pos s) e) + proj h w s y * cosTable (ix2 (pos s) e)) k1 k2

end Cert.Reference7Ideal.Rope

end
-- ==== Proof.Up.Result.lean ====
/- The prompts' rows taken from the latent's width to the values', head by head: the output array and the reference's result, element by element. -/
module

public import proofs.«01_k».proof.Proof.Gen.Kernel8Ideal.Value
public import proofs.«01_k».proof.Proof.Gen.Reference8Ideal.Read
public import Idealize.ShloMosaic.Lib.Pointwise
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384
set_option Elab.async false

noncomputable section

namespace Cert.Kernel8Ideal.Up

open Cert.Kernel8Ideal Cert.Kernel8Ideal.Gen Cert.Kernel8Ideal.Value
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic
open Idealize.ShloMosaic.Pipeline (Dat Cfg Window)

/-- Column `k` of row `s`: the head's latent row times the column of its matrix. -/
def up (o : S16x16384x512.Idx → EReal) (w : S16x512x128.Idx → EReal) (s : Fin 16384) (k : Fin 2048) : EReal :=
  ∑ d : Fin 512, o (ix3 (⟨k.val / 128, by omega⟩ : Fin 16) s d) * w (ix3 (⟨k.val / 128, by omega⟩ : Fin 16) d (⟨k.val % 128, by omega⟩ : Fin 128))

/-! ## A grid point -/

/-- One head's product. -/
def head (v : FVec Ideal S1x256x512 .bf16) (w : FVec Ideal S1x512x128 .bf16) : FVec Ideal S256x128 .f32 :=
  matmul dot_S256x512_S512x128_S256x128_1_0_0_1_n_n none (shapeCast S256x512 v shapeCasts_S1x256x512_S256x512) (shapeCast S512x128 w shapeCasts_S1x512x128_S512x128) (constant S256x128 .f32 0x00000000#32)

theorem head_at (v : FVec Ideal S1x256x512 .bf16) (w : FVec Ideal S1x512x128 .bf16) (r : Fin 256) (e : Fin 128) :
    head v w (ix2 r e) = ∑ d : Fin 512, v (ix3 0 r d) * w (ix3 0 d e) := by
  refine Eq.trans (b := FloatOps.matmul (F := Ideal) (DotDims.plain 256 512 128) none (shapeCast S256x512 v shapeCasts_S1x256x512_S256x512) (shapeCast S512x128 w shapeCasts_S1x512x128_S512x128) (constant S256x128 .f32 0x00000000#32) (ix2 r e)) rfl ?_
  rw [Ideal.matmul_plain_apply, constant_apply, Ideal.ofBits_zero_f32, zero_add]
  refine Finset.sum_congr rfl fun d _ => ?_
  rw [shapeCast_1ab_ab_apply, shapeCast_1ab_ab_apply]

/-- What a grid point writes, of its two blocks. -/
def point (x0 : S16x256x512.Idx → EReal) (x1 : S16x512x128.Idx → EReal) : S256x2048.Idx → EReal := fun y =>
  ∑ d : Fin 512, x0 (ix3 (⟨(y 1).val / 128, by have h : (y 1).val < 2048 := (y 1).isLt; omega⟩ : Fin 16) (⟨(y 0).val, (y 0).isLt⟩ : Fin 256) d)
    * x1 (ix3 (⟨(y 1).val / 128, by have h : (y 1).val < 2048 := (y 1).isLt; omega⟩ : Fin 16) d (⟨(y 1).val % 128, by omega⟩ : Fin 128))

theorem head_point (x0 : S16x256x512.Idx → EReal) (x1 : S16x512x128.Idx → EReal) (v : FVec Ideal S1x256x512 .bf16) (w : FVec Ideal S1x512x128 .bf16) (h : Fin 16)
    (hv : ∀ (r : Fin 256) (d : Fin 512), v (ix3 0 r d) = x0 (ix3 h r d)) (hw : ∀ (d : Fin 512) (e : Fin 128), w (ix3 0 d e) = x1 (ix3 h d e))
    (x : S256x128.Idx) (y : S256x2048.Idx) (y0 : (y 0).val = (x 0).val) (y1 : (y 1).val = 128 * h.val + (x 1).val) : head v w x = point x0 x1 y := by
  obtain ⟨r, e, rfl⟩ : ∃ (r : Fin 256) (e : Fin 128), x = ix2 r e := ⟨x 0, x 1, eq_ix2 x⟩
  have y0 : (y 0).val = r.val := y0
  have y1 : (y 1).val = 128 * h.val + e.val := y1
  rw [head_at]
  unfold point
  have e0 : (⟨(y 1).val / 128, by have h : (y 1).val < 2048 := (y 1).isLt; omega⟩ : Fin 16) = h := Fin.ext (by dsimp only; omega)
  have e1 : (⟨(y 0).val, (y 0).isLt⟩ : Fin 256) = r := Fin.ext y0
  have e2 : (⟨(y 1).val % 128, by omega⟩ : Fin 128) = e := Fin.ext (by dsimp only; omega)
  rw [e0, e1, e2]
  exact Finset.sum_congr rfl fun d _ => congrArg₂ (· * ·) (hv r d) (hw d e)

theorem piece0 (x0 : Vec Ideal S16x256x512 .bf16) (x1 : Vec Ideal S16x512x128 .bf16) (x : S256x128.Idx) : (k0_pay3 (F := Ideal) (View.ld x0 r0_0) (View.ld x1 r0_1) : S256x128.Idx → EReal) x = point x0 x1 (r0_2.emb x) := by
  refine Eq.trans (b := head (View.ld x0 r0_0) (View.ld x1 r0_1) x) rfl ?_
  refine head_point x0 x1 _ _ 0 (fun r d => ?_) (fun d e => ?_) x (r0_2.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 0 + 1 * (x 1).val = 128 * 0 + (x 1).val; omega
theorem piece1 (x0 : Vec Ideal S16x256x512 .bf16) (x1 : Vec Ideal S16x512x128 .bf16) (x : S256x128.Idx) : (k0_pay4 (F := Ideal) (View.ld x0 r0_3) (View.ld x1 r0_4) : S256x128.Idx → EReal) x = point x0 x1 (r0_5.emb x) := by
  refine Eq.trans (b := head (View.ld x0 r0_3) (View.ld x1 r0_4) x) rfl ?_
  refine head_point x0 x1 _ _ 1 (fun r d => ?_) (fun d e => ?_) x (r0_5.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 128 + 1 * (x 1).val = 128 * 1 + (x 1).val; omega
theorem piece2 (x0 : Vec Ideal S16x256x512 .bf16) (x1 : Vec Ideal S16x512x128 .bf16) (x : S256x128.Idx) : (k0_pay5 (F := Ideal) (View.ld x0 r0_6) (View.ld x1 r0_7) : S256x128.Idx → EReal) x = point x0 x1 (r0_8.emb x) := by
  refine Eq.trans (b := head (View.ld x0 r0_6) (View.ld x1 r0_7) x) rfl ?_
  refine head_point x0 x1 _ _ 2 (fun r d => ?_) (fun d e => ?_) x (r0_8.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 256 + 1 * (x 1).val = 128 * 2 + (x 1).val; omega
theorem piece3 (x0 : Vec Ideal S16x256x512 .bf16) (x1 : Vec Ideal S16x512x128 .bf16) (x : S256x128.Idx) : (k0_pay7 (F := Ideal) (k0_pay6 (View.ld x0 r0_9)) (View.ld x1 r0_10) : S256x128.Idx → EReal) x = point x0 x1 (r0_11.emb x) := by
  refine Eq.trans (b := head (View.ld x0 r0_9) (View.ld x1 r0_10) x) rfl ?_
  refine head_point x0 x1 _ _ 3 (fun r d => ?_) (fun d e => ?_) x (r0_11.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 384 + 1 * (x 1).val = 128 * 3 + (x 1).val; omega
theorem piece4 (x0 : Vec Ideal S16x256x512 .bf16) (x1 : Vec Ideal S16x512x128 .bf16) (x : S256x128.Idx) : (k0_pay8 (F := Ideal) (View.ld x0 r0_12) (View.ld x1 r0_13) : S256x128.Idx → EReal) x = point x0 x1 (r0_14.emb x) := by
  refine Eq.trans (b := head (View.ld x0 r0_12) (View.ld x1 r0_13) x) rfl ?_
  refine head_point x0 x1 _ _ 4 (fun r d => ?_) (fun d e => ?_) x (r0_14.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 512 + 1 * (x 1).val = 128 * 4 + (x 1).val; omega
theorem piece5 (x0 : Vec Ideal S16x256x512 .bf16) (x1 : Vec Ideal S16x512x128 .bf16) (x : S256x128.Idx) : (k0_pay9 (F := Ideal) (View.ld x0 r0_15) (View.ld x1 r0_16) : S256x128.Idx → EReal) x = point x0 x1 (r0_17.emb x) := by
  refine Eq.trans (b := head (View.ld x0 r0_15) (View.ld x1 r0_16) x) rfl ?_
  refine head_point x0 x1 _ _ 5 (fun r d => ?_) (fun d e => ?_) x (r0_17.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 640 + 1 * (x 1).val = 128 * 5 + (x 1).val; omega
theorem piece6 (x0 : Vec Ideal S16x256x512 .bf16) (x1 : Vec Ideal S16x512x128 .bf16) (x : S256x128.Idx) : (k0_pay10 (F := Ideal) (View.ld x0 r0_18) (View.ld x1 r0_19) : S256x128.Idx → EReal) x = point x0 x1 (r0_20.emb x) := by
  refine Eq.trans (b := head (View.ld x0 r0_18) (View.ld x1 r0_19) x) rfl ?_
  refine head_point x0 x1 _ _ 6 (fun r d => ?_) (fun d e => ?_) x (r0_20.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 768 + 1 * (x 1).val = 128 * 6 + (x 1).val; omega
theorem piece7 (x0 : Vec Ideal S16x256x512 .bf16) (x1 : Vec Ideal S16x512x128 .bf16) (x : S256x128.Idx) : (k0_pay11 (F := Ideal) (View.ld x0 r0_21) (View.ld x1 r0_22) : S256x128.Idx → EReal) x = point x0 x1 (r0_23.emb x) := by
  refine Eq.trans (b := head (View.ld x0 r0_21) (View.ld x1 r0_22) x) rfl ?_
  refine head_point x0 x1 _ _ 7 (fun r d => ?_) (fun d e => ?_) x (r0_23.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 896 + 1 * (x 1).val = 128 * 7 + (x 1).val; omega
theorem piece8 (x0 : Vec Ideal S16x256x512 .bf16) (x1 : Vec Ideal S16x512x128 .bf16) (x : S256x128.Idx) : (k0_pay12 (F := Ideal) (View.ld x0 r0_24) (View.ld x1 r0_25) : S256x128.Idx → EReal) x = point x0 x1 (r0_26.emb x) := by
  refine Eq.trans (b := head (View.ld x0 r0_24) (View.ld x1 r0_25) x) rfl ?_
  refine head_point x0 x1 _ _ 8 (fun r d => ?_) (fun d e => ?_) x (r0_26.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1024 + 1 * (x 1).val = 128 * 8 + (x 1).val; omega
theorem piece9 (x0 : Vec Ideal S16x256x512 .bf16) (x1 : Vec Ideal S16x512x128 .bf16) (x : S256x128.Idx) : (k0_pay13 (F := Ideal) (View.ld x0 r0_27) (View.ld x1 r0_28) : S256x128.Idx → EReal) x = point x0 x1 (r0_29.emb x) := by
  refine Eq.trans (b := head (View.ld x0 r0_27) (View.ld x1 r0_28) x) rfl ?_
  refine head_point x0 x1 _ _ 9 (fun r d => ?_) (fun d e => ?_) x (r0_29.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1152 + 1 * (x 1).val = 128 * 9 + (x 1).val; omega
theorem piece10 (x0 : Vec Ideal S16x256x512 .bf16) (x1 : Vec Ideal S16x512x128 .bf16) (x : S256x128.Idx) : (k0_pay15 (F := Ideal) (k0_pay14 (View.ld x0 r0_30)) (View.ld x1 r0_31) : S256x128.Idx → EReal) x = point x0 x1 (r0_32.emb x) := by
  refine Eq.trans (b := head (View.ld x0 r0_30) (View.ld x1 r0_31) x) rfl ?_
  refine head_point x0 x1 _ _ 10 (fun r d => ?_) (fun d e => ?_) x (r0_32.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1280 + 1 * (x 1).val = 128 * 10 + (x 1).val; omega
theorem piece11 (x0 : Vec Ideal S16x256x512 .bf16) (x1 : Vec Ideal S16x512x128 .bf16) (x : S256x128.Idx) : (k0_pay16 (F := Ideal) (View.ld x0 r0_33) (View.ld x1 r0_34) : S256x128.Idx → EReal) x = point x0 x1 (r0_35.emb x) := by
  refine Eq.trans (b := head (View.ld x0 r0_33) (View.ld x1 r0_34) x) rfl ?_
  refine head_point x0 x1 _ _ 11 (fun r d => ?_) (fun d e => ?_) x (r0_35.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1408 + 1 * (x 1).val = 128 * 11 + (x 1).val; omega
theorem piece12 (x0 : Vec Ideal S16x256x512 .bf16) (x1 : Vec Ideal S16x512x128 .bf16) (x : S256x128.Idx) : (k0_pay17 (F := Ideal) (View.ld x0 r0_36) (View.ld x1 r0_37) : S256x128.Idx → EReal) x = point x0 x1 (r0_38.emb x) := by
  refine Eq.trans (b := head (View.ld x0 r0_36) (View.ld x1 r0_37) x) rfl ?_
  refine head_point x0 x1 _ _ 12 (fun r d => ?_) (fun d e => ?_) x (r0_38.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1536 + 1 * (x 1).val = 128 * 12 + (x 1).val; omega
theorem piece13 (x0 : Vec Ideal S16x256x512 .bf16) (x1 : Vec Ideal S16x512x128 .bf16) (x : S256x128.Idx) : (k0_pay18 (F := Ideal) (View.ld x0 r0_39) (View.ld x1 r0_40) : S256x128.Idx → EReal) x = point x0 x1 (r0_41.emb x) := by
  refine Eq.trans (b := head (View.ld x0 r0_39) (View.ld x1 r0_40) x) rfl ?_
  refine head_point x0 x1 _ _ 13 (fun r d => ?_) (fun d e => ?_) x (r0_41.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1664 + 1 * (x 1).val = 128 * 13 + (x 1).val; omega
theorem piece14 (x0 : Vec Ideal S16x256x512 .bf16) (x1 : Vec Ideal S16x512x128 .bf16) (x : S256x128.Idx) : (k0_pay1 (F := Ideal) (View.ld x0 r0_42) (View.ld x1 r0_43) : S256x128.Idx → EReal) x = point x0 x1 (r0_44.emb x) := by
  refine Eq.trans (b := head (View.ld x0 r0_42) (View.ld x1 r0_43) x) rfl ?_
  refine head_point x0 x1 _ _ 14 (fun r d => ?_) (fun d e => ?_) x (r0_44.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1792 + 1 * (x 1).val = 128 * 14 + (x 1).val; omega
theorem piece15 (x0 : Vec Ideal S16x256x512 .bf16) (x1 : Vec Ideal S16x512x128 .bf16) (x : S256x128.Idx) : (k0_pay2 (F := Ideal) (View.ld x0 r0_45) (View.ld x1 r0_46) : S256x128.Idx → EReal) x = point x0 x1 (r0_47.emb x) := by
  refine Eq.trans (b := head (View.ld x0 r0_45) (View.ld x1 r0_46) x) rfl ?_
  refine head_point x0 x1 _ _ 15 (fun r d => ?_) (fun d e => ?_) x (r0_47.emb x) ?_ ?_
  · exact congrArg x0 (funext fun a => Fin.ext (match a with | ⟨0, _⟩ => rfl | ⟨1, _⟩ => show 0 + 1 * r.val = r.val by omega | ⟨2, _⟩ => show 0 + 1 * d.val = d.val by omega))
  · exact congrArg x1 (funext fun a => Fin.ext (match a with | ⟨0, _⟩ => rfl | ⟨1, _⟩ => show 0 + 1 * d.val = d.val by omega | ⟨2, _⟩ => show 0 + 1 * e.val = e.val by omega))
  · show 0 + 1 * (x 0).val = (x 0).val; omega
  · show 1920 + 1 * (x 1).val = 128 * 15 + (x 1).val; omega

open Idealize.ShloMosaic.View in
theorem all_cons (G : S256x2048.Idx → EReal) (r : Rect S256x2048) (w : r.shape.Idx → Elt Ideal .bf16) (L : List (View.Piece (Elt Ideal) S256x2048 .bf16))
    (h : ∀ x, w x = G (r.emb x)) (hL : ∀ p ∈ L, ∀ x : p.1.shape.Idx, p.2 x = G (p.1.emb x)) : ∀ p ∈ (⟨r, w⟩ : View.Piece (Elt Ideal) S256x2048 .bf16) :: L, ∀ x : p.1.shape.Idx, p.2 x = G (p.1.emb x) := by
  intro p hp
  rcases List.mem_cons.mp hp with rfl | hp
  · exact h
  · exact hL p hp

theorem written (x0 : Vec Ideal S16x256x512 .bf16) (x1 : Vec Ideal S16x512x128 .bf16) (y : S256x2048.Idx) : out0_2 (F := Ideal) x0 x1 y = point x0 x1 y := by
  unfold out0_2
  refine View.canon_apply_of_pieces (Val := Elt Ideal) (e := .bf16) (point x0 x1) _ ?_ y (cover0_2 _ _ _ _ _ _ _ _ _ _ _ _ _ _ _ _ y)
  refine all_cons _ _ _ _ (piece15 x0 x1) ?_
  refine all_cons _ _ _ _ (piece14 x0 x1) ?_
  refine all_cons _ _ _ _ (piece13 x0 x1) ?_
  refine all_cons _ _ _ _ (piece12 x0 x1) ?_
  refine all_cons _ _ _ _ (piece11 x0 x1) ?_
  refine all_cons _ _ _ _ (piece10 x0 x1) ?_
  refine all_cons _ _ _ _ (piece9 x0 x1) ?_
  refine all_cons _ _ _ _ (piece8 x0 x1) ?_
  refine all_cons _ _ _ _ (piece7 x0 x1) ?_
  refine all_cons _ _ _ _ (piece6 x0 x1) ?_
  refine all_cons _ _ _ _ (piece5 x0 x1) ?_
  refine all_cons _ _ _ _ (piece4 x0 x1) ?_
  refine all_cons _ _ _ _ (piece3 x0 x1) ?_
  refine all_cons _ _ _ _ (piece2 x0 x1) ?_
  refine all_cons _ _ _ _ (piece1 x0 x1) ?_
  refine all_cons _ _ _ _ (piece0 x0 x1) ?_
  exact fun p hp => absurd hp List.not_mem_nil

/-! ## The blocks -/

variable (m : (ℓ : Loc nD τ sig) → Buf (Elt Ideal) ℓ) (c : Dev nD)

theorem index0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

theorem blk0 (t : Fin cfg0.N) (h : Fin 16) (r : Fin 256) (d : Fin 512) (hr : 256 * t.val + r.val < 16384) :
    (iblk m c 0 t : S16x256x512.Idx → EReal) (ix3 h r d) = (V m c main_arg0 : S16x16384x512.Idx → EReal) (ix3 h ⟨256 * t.val + r.val, hr⟩ d) := by
  show (V m c main_arg0 : S16x16384x512.Idx → EReal) (((cfg0.win 0).blk t).view.emb (ix3 h r d : S16x256x512.Idx)) = _
  have e0 : (((cfg0.win 0).blk t).view.emb (ix3 h r d : S16x256x512.Idx) 0).val = win0_0.index t (0 : Fin 3) * 16 + 1 * h.val := rfl
  have e1 : (((cfg0.win 0).blk t).view.emb (ix3 h r d : S16x256x512.Idx) 1).val = win0_0.index t (1 : Fin 3) * 256 + 1 * r.val := rfl
  have e2 : (((cfg0.win 0).blk t).view.emb (ix3 h r d : S16x256x512.Idx) 2).val = win0_0.index t (2 : Fin 3) * 512 + 1 * d.val := rfl
  obtain ⟨i0, i1, i2⟩ := index0 t
  rw [i0] at e0; rw [i1] at e1; rw [i2] at e2
  exact congrArg _ (funext fun a => Fin.ext (match a with
    | ⟨0, _⟩ => e0.trans (show _ = h.val by omega)
    | ⟨1, _⟩ => e1.trans (show _ = 256 * t.val + r.val by omega)
    | ⟨2, _⟩ => e2.trans (show _ = d.val by omega)))

theorem blk1 (t : Fin cfg0.N) (h : Fin 16) (r : Fin 512) (d : Fin 128) :
    (iblk m c 1 t : S16x512x128.Idx → EReal) (ix3 h r d) = (V m c main_v0 : S16x512x128.Idx → EReal) (ix3 h r d) := by
  show (V m c main_v0 : S16x512x128.Idx → EReal) (((cfg0.win 1).blk t).view.emb (ix3 h r d : S16x512x128.Idx)) = _
  have e0 : (((cfg0.win 1).blk t).view.emb (ix3 h r d : S16x512x128.Idx) 0).val = win0_1.index t (0 : Fin 3) * 16 + 1 * h.val := rfl
  have e1 : (((cfg0.win 1).blk t).view.emb (ix3 h r d : S16x512x128.Idx) 1).val = win0_1.index t (1 : Fin 3) * 512 + 1 * r.val := rfl
  have e2 : (((cfg0.win 1).blk t).view.emb (ix3 h r d : S16x512x128.Idx) 2).val = win0_1.index t (2 : Fin 3) * 128 + 1 * d.val := rfl
  obtain ⟨i0, i1, i2⟩ := index1 t
  rw [i0] at e0; rw [i1] at e1; rw [i2] at e2
  exact congrArg _ (funext fun a => Fin.ext (match a with
    | ⟨0, _⟩ => e0.trans (show _ = h.val by omega)
    | ⟨1, _⟩ => e1.trans (show _ = r.val by omega)
    | ⟨2, _⟩ => e2.trans (show _ = d.val by omega)))

abbrev out2 : S16384x2048.Idx → EReal := (dats m 0 c).arrAt 2 cfg0.N

theorem out2_block (t : Fin cfg0.N) (r : Fin 256) (d : Fin 2048) (hr : 256 * (t.val) + r.val < 16384) :
    out2 m c (ix2 ⟨256 * (t.val) + r.val, hr⟩ d) = out0_2 (F := Ideal) (iblk m c 0 t) (iblk m c 1 t) (ix2 r d) := by
  have h := congrFun ((blocks2 m c t (flush0_2 t)).trans (flushed2 m c t)) (ix2 r d : S256x2048.Idx)
  refine Eq.trans ?_ h
  show out2 m c _ = out2 m c (((cfg0.win 2).blk t).view.emb (ix2 r d : S256x2048.Idx))
  have e0 : (((cfg0.win 2).blk t).view.emb (ix2 r d : S256x2048.Idx) 0).val = win0_2.index t (0 : Fin 2) * 256 + 1 * r.val := rfl
  have e1 : (((cfg0.win 2).blk t).view.emb (ix2 r d : S256x2048.Idx) 1).val = win0_2.index t (1 : Fin 2) * 2048 + 1 * d.val := rfl
  obtain ⟨i0, i1⟩ := index2 t
  rw [i0] at e0; rw [i1] at e1
  exact (congrArg (out2 m c) (funext fun a => Fin.ext (match a with
    | ⟨0, _⟩ => e0.trans (show _ = 256 * (t.val) + r.val by omega)
    | ⟨1, _⟩ => e1.trans (show _ = d.val by omega)))).symm

theorem V_v0 : (V m c main_v0 : S16x512x128.Idx → EReal) = (m ((c : Thread nD τ).loc main_arg1) : S16x512x128.Idx → EReal) := by
  unfold_abbrev_sides
  after_results
  rfl

abbrev ta : S16x16384x512.Idx → EReal := m ((c : Thread nD τ).loc main_arg0)
abbrev tw : S16x512x128.Idx → EReal := m ((c : Thread nD τ).loc main_arg1)

theorem out2_eq (s : Fin 16384) (k : Fin 2048) : out2 m c (ix2 s k) = up (ta m c) (tw m c) s k := by
  have hN : cfg0.N = 64 := N_0
  have hs : 256 * (s.val / 256) + s.val % 256 < 16384 := by omega
  have h := (out2_block m c ⟨s.val / 256, by omega⟩ ⟨s.val % 256, Nat.mod_lt _ (by norm_num)⟩ k hs).trans (written (iblk m c 0 _) (iblk m c 1 _) _)
  have es : (⟨256 * (s.val / 256) + s.val % 256, hs⟩ : Fin 16384) = s := Fin.ext (by dsimp only; omega)
  refine (congrArg (fun s => out2 m c (ix2 s k)) es).symm.trans (h.trans (Eq.trans ?_ (congrArg (fun s => up (ta m c) (tw m c) s k) es)))
  unfold point up
  refine Finset.sum_congr rfl fun d _ => congrArg₂ (· * ·) ((blk0 m c _ _ _ d hs).trans ?_) ((blk1 m c _ _ d _).trans ?_)
  · exact congrFun (V_main_arg0 m c) _
  · exact congrFun (V_v0 m c) _

end Cert.Kernel8Ideal.Up

/-! ## The reference -/

namespace Cert.Reference8Ideal.Up

open Cert.Reference8Ideal Cert.Reference8Ideal.Read
open Idealize.ShloMosaic hiding ix1 ix2 ix3 ix4 eq_ix2 eq_ix3 eq_ix4 mulf_apply addf_apply subf_apply divf_apply truncf_apply constant_apply sum_idx2
open Idealize.ShloMosaic.ValueIdx
open Idealize.ShloMosaic.TcCoe Idealize.ShloMosaic.Tactic

theorem up_at (o : S16x16384x512.Idx → EReal) (w : S16x512x128.Idx → EReal) (s : Fin 16384) (k : Fin 2048) :
    val_main_v4 (F := Ideal) o w (ix2 s k) = Cert.Kernel8Ideal.Up.up o w s k := by
  refine Eq.trans (b := val_main_v3 (F := Ideal) o w (ix2 s k)) rfl ?_
  rw [val_main_v3_apply, val_main_v2_apply, val_main_v1_apply]
  unfold Cert.Kernel8Ideal.Up.up
  refine Finset.sum_congr rfl fun d _ => (mul_comm _ _).trans (congrArg₂ (· * ·) ?_ ?_)
  · exact congrArg o (funext fun a => Fin.ext (match a with
      | ⟨0, _⟩ => show (s.val * 2048 + k.val) / 128 % 16 = k.val / 128 by omega
      | ⟨1, _⟩ => show (s.val * 2048 + k.val) / 2048 = s.val by omega
      | ⟨2, _⟩ => rfl))
  · exact congrArg w (funext fun a => Fin.ext (match a with
      | ⟨0, _⟩ => show (s.val * 2048 + k.val) / 128 % 16 = k.val / 128 by omega
      | ⟨1, _⟩ => rfl
      | ⟨2, _⟩ => show (s.val * 2048 + k.val) % 128 = k.val % 128 by omega))

end Cert.Reference8Ideal.Up

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Attn.Launch
public import proofs.«01_k».proof.Proof.Attn.KernelFrame
public import proofs.«01_k».proof.Proof.Attn.Result
public import proofs.«01_k».proof.Proof.Attn.RefValue
public import proofs.«01_k».proof.Proof.Ffn.Result
public import proofs.«01_k».proof.Proof.Ffn.RefValue
public import proofs.«01_k».proof.Proof.Proj.Gates
public import proofs.«01_k».proof.Proof.Proj.Values
public import Idealize.ShloMosaic.Adequacy
public import Idealize.ShloMosaic.Init
public import proofs.«01_k».proof.Proof.Out.Result
public import proofs.«01_k».proof.Proof.Latent.Result
public import proofs.«01_k».proof.Proof.Latent.RefValue
public import proofs.«01_k».proof.Proof.Rope.Result
public import proofs.«01_k».proof.Proof.Rope.RefValue
public import proofs.«01_k».proof.Proof.Up.Result

@[expose] public section

noncomputable section

namespace Cert.Proof

open Idealize.ShloMosaic Idealize.SL.Sem

theorem frame_ideal : @Cert.quiescent_KernelIdeal Cert.KernelIdeal.Gen.facts := fun m ρ _ => Cert.KernelIdeal.Attn.frame m ρ

theorem frame_reference : @Cert.quiescent_ReferenceIdeal Cert.ReferenceIdeal.Gen.facts := fun m ρ _ =>
  (θ_run Cert.ReferenceIdeal.defs _ _).mono (fun _ h => ⟨fun c => ⟨(h c).2.1, (h c).2.2⟩, Idealize.ShloMosaic.sem_eq_zero_of_no_sems (by decide) _⟩) (Cert.ReferenceIdeal.Value.run (F := Ideal) m ρ)

section
variable (m : (ℓ : Loc Cert.KernelIdeal.nD Cert.KernelIdeal.τ Cert.KernelIdeal.sig) → Buf (Elt Ideal) ℓ) (c : Dev Cert.KernelIdeal.nD)

/-- The first argument's elements, as real numbers. -/
def realQ (g : Fin 16) (s : ℕ) (d : Fin 576) : ℝ :=
  if h : s < 16384 then ((m ((c.tc : Thread Cert.KernelIdeal.nD Cert.KernelIdeal.τ).loc Cert.KernelIdeal.main_arg0) : Cert.KernelIdeal.S16x16384x576.Idx → EReal)
    (ValueIdx.ix3 g (⟨s, h⟩ : Fin 16384) d)).toReal else 0
/-- The second argument's elements, as real numbers. -/
def realK (s : ℕ) (d : Fin 576) : ℝ :=
  if h : s < 16384 then ((m ((c.tc : Thread Cert.KernelIdeal.nD Cert.KernelIdeal.τ).loc Cert.KernelIdeal.main_arg1) : Cert.KernelIdeal.S16384x576.Idx → EReal)
    (ValueIdx.ix2 (⟨s, h⟩ : Fin 16384) d)).toReal else 0

theorem realQ_eq (h : ∀ i, (m ((c.tc : Thread Cert.KernelIdeal.nD Cert.KernelIdeal.τ).loc Cert.KernelIdeal.main_arg0) : Cert.KernelIdeal.S16x16384x576.Idx → EReal) i
      = ((((m ((c.tc : Thread Cert.KernelIdeal.nD Cert.KernelIdeal.τ).loc Cert.KernelIdeal.main_arg0) : Cert.KernelIdeal.S16x16384x576.Idx → EReal) i).toReal : ℝ) : EReal))
    (g : Fin 16) (s : Fin 16384) (d : Fin 576) :
    (m ((c.tc : Thread Cert.KernelIdeal.nD Cert.KernelIdeal.τ).loc Cert.KernelIdeal.main_arg0) : Cert.KernelIdeal.S16x16384x576.Idx → EReal) (ValueIdx.ix3 g s d)
      = ((realQ m c g s.val d : ℝ) : EReal) := by
  unfold realQ
  rw [dif_pos s.isLt]
  exact h _
theorem realK_eq (h : ∀ i, (m ((c.tc : Thread Cert.KernelIdeal.nD Cert.KernelIdeal.τ).loc Cert.KernelIdeal.main_arg1) : Cert.KernelIdeal.S16384x576.Idx → EReal) i
      = ((((m ((c.tc : Thread Cert.KernelIdeal.nD Cert.KernelIdeal.τ).loc Cert.KernelIdeal.main_arg1) : Cert.KernelIdeal.S16384x576.Idx → EReal) i).toReal : ℝ) : EReal))
    (s : Fin 16384) (d : Fin 576) :
    (m ((c.tc : Thread Cert.KernelIdeal.nD Cert.KernelIdeal.τ).loc Cert.KernelIdeal.main_arg1) : Cert.KernelIdeal.S16384x576.Idx → EReal) (ValueIdx.ix2 s d)
      = ((realK m c s.val d : ℝ) : EReal) := by
  unfold realK
  rw [dif_pos s.isLt]
  exact h _

end

/-- With finite arguments the kernel's output array holds the reference's result. -/
theorem value_algebraic : @Cert.algebraic_KernelIdeal_ReferenceIdeal_pre_finite Cert.KernelIdeal.Gen.facts Cert.ReferenceIdeal.Gen.facts Cert.Pre_finite.Gen.facts :=
  fun m g m' g' hpre hargs => by
    refine ⟨fun c => Cert.KernelIdeal.Attn.outArr m c,
      (θ_run Cert.KernelIdeal.defs _ _).mono (fun _ h => h.1) (Cert.KernelIdeal.Attn.run_main m g),
      (θ_run Cert.ReferenceIdeal.defs _ _).mono (fun _ h c => ⟨(h c).1.trans ?_, (h c).2⟩) (Cert.ReferenceIdeal.Value.run (F := Ideal) m' g')⟩
    obtain ⟨r0, r1⟩ := Cert.ReferenceIdeal.Attn.pre_real _ _ (hpre c)
    refine (Cert.ReferenceIdeal.Read.val_main_v39_eq m' c).trans ?_
    rw [(hargs c).1, (hargs c).2]
    refine (Cert.ReferenceIdeal.Attn.value_eq (Q := realQ m c) (K := realK m c) (fun g s d => ?_) (fun s d => ?_)).trans
      (Cert.KernelIdeal.Attn.outArr_eq (m := m) (c := c) (Q := realQ m c) (K := realK m c) (fun g s d => ?_) (fun s d => ?_)).symm
    · exact realQ_eq m c r0 g s d
    · exact realK_eq m c r1 s d
    · rw [Cert.KernelIdeal.Attn.V_arg0]; exact realQ_eq m c r0 g s d
    · rw [Cert.KernelIdeal.Attn.V_arg1]; exact realK_eq m c r1 s d

theorem frame_reference2 : @Cert.quiescent_Reference2Ideal Cert.Reference2Ideal.Gen.facts := fun m ρ _ =>
  (θ_run Cert.Reference2Ideal.defs _ _).mono (fun _ h => ⟨fun c => (h c).2, Idealize.ShloMosaic.sem_eq_zero_of_no_sems (by decide) _⟩) (Cert.Reference2Ideal.Value.run (F := Ideal) m ρ)

/-- The feed-forward part's output array holds its reference's result, whatever the arguments. -/
theorem value_algebraic2 : @Cert.algebraic_Kernel2Ideal_Reference2Ideal Cert.Kernel2Ideal.Gen.facts Cert.Reference2Ideal.Gen.facts :=
  fun m g m' g' _ hargs => by
    refine ⟨fun c => Cert.Kernel2Ideal.Value.G6 m c, Cert.Kernel2Ideal.Value.run m g,
      (θ_run Cert.Reference2Ideal.defs _ _).mono (fun _ h c => ⟨(h c).1.trans ?_, (h c).2⟩) (Cert.Reference2Ideal.Value.run (F := Ideal) m' g')⟩
    refine (Cert.Reference2Ideal.Read.val_main_v19_eq _ _ _ _ _ _).trans ?_
    obtain ⟨h0, h1, h2, h3, h4, h5⟩ := hargs c
    rw [h0, h1, h2, h3, h4, h5]
    funext i
    obtain ⟨s, k, rfl⟩ : ∃ (s : Fin 16384) (k : Fin 2048), i = ValueIdx.ix2 s k := ⟨i 0, i 1, ValueIdx.eq_ix2 i⟩
    refine (Cert.Reference2Ideal.Ffn.value_at _ _ _ _ _ _ s k).trans (Eq.trans ?_ (Cert.Kernel2Ideal.Ffn.G6_eq m c s k).symm)
    unfold Cert.Kernel2Ideal.Ffn.tf Cert.Kernel2Ideal.Ffn.tg Cert.Kernel2Ideal.Ffn.tu Cert.Kernel2Ideal.Ffn.td
    rw [Cert.Kernel2Ideal.Ffn.V_v0, Cert.Kernel2Ideal.Ffn.V_v1, Cert.Kernel2Ideal.Ffn.V_v2, Cert.Kernel2Ideal.Gen.V_main_arg0, Cert.Kernel2Ideal.Gen.V_main_arg4]

theorem frame_reference3 : @Cert.quiescent_Reference3Ideal Cert.Reference3Ideal.Gen.facts := fun m ρ _ =>
  (θ_run Cert.Reference3Ideal.defs _ _).mono (fun _ h => ⟨fun c => (h c).2, Idealize.ShloMosaic.sem_eq_zero_of_no_sems (by decide) _⟩) (Cert.Reference3Ideal.Value.run (F := Ideal) m ρ)

/-- The gates' projection holds its reference's result, whatever the arguments. -/
theorem value_algebraic3 : @Cert.algebraic_Kernel3Ideal_Reference3Ideal Cert.Kernel3Ideal.Gen.facts Cert.Reference3Ideal.Gen.facts :=
  fun m g m' g' _ hargs => by
    refine ⟨fun c => Cert.Kernel3Ideal.Proj.out m c, Cert.Kernel3Ideal.Value.run_blocks m g,
      (θ_run Cert.Reference3Ideal.defs _ _).mono (fun _ h c => ⟨(h c).1.trans ?_, (h c).2⟩) (Cert.Reference3Ideal.Value.run (F := Ideal) m' g')⟩
    refine (Cert.Reference3Ideal.Read.val_main_v3_eq _ _).trans ?_
    obtain ⟨h0, h1⟩ := hargs c
    rw [h0, h1]
    funext i
    obtain ⟨s, k, rfl⟩ : ∃ (s : Fin 16384) (k : Fin 6144), i = ValueIdx.ix2 s k := ⟨i 0, i 1, ValueIdx.eq_ix2 i⟩
    exact (Cert.Kernel3Ideal.Proj.reference_at _ _ s k).trans (Cert.Kernel3Ideal.Proj.out_eq m c s k).symm

theorem frame_reference4 : @Cert.quiescent_Reference4Ideal Cert.Reference4Ideal.Gen.facts := fun m ρ _ =>
  (θ_run Cert.Reference4Ideal.defs _ _).mono (fun _ h => ⟨fun c => (h c).2, Idealize.ShloMosaic.sem_eq_zero_of_no_sems (by decide) _⟩) (Cert.Reference4Ideal.Value.run (F := Ideal) m ρ)

/-- The values' projection holds its reference's result, whatever the arguments. -/
theorem value_algebraic4 : @Cert.algebraic_Kernel4Ideal_Reference4Ideal Cert.Kernel4Ideal.Gen.facts Cert.Reference4Ideal.Gen.facts :=
  fun m g m' g' _ hargs => by
    refine ⟨fun c => Cert.Kernel4Ideal.Proj.out m c, Cert.Kernel4Ideal.Value.run_blocks m g,
      (θ_run Cert.Reference4Ideal.defs _ _).mono (fun _ h c => ⟨(h c).1.trans ?_, (h c).2⟩) (Cert.Reference4Ideal.Value.run (F := Ideal) m' g')⟩
    refine (Cert.Reference4Ideal.Read.val_main_v3_eq _ _).trans ?_
    obtain ⟨h0, h1⟩ := hargs c
    rw [h0, h1]
    funext i
    obtain ⟨s, k, rfl⟩ : ∃ (s : Fin 16384) (k : Fin 2048), i = ValueIdx.ix2 s k := ⟨i 0, i 1, ValueIdx.eq_ix2 i⟩
    exact (Cert.Kernel4Ideal.Proj.reference_at _ _ s k).trans (Cert.Kernel4Ideal.Proj.out_eq m c s k).symm

theorem frame_reference5 : @Cert.quiescent_Reference5Ideal Cert.Reference5Ideal.Gen.facts := fun m ρ _ =>
  (θ_run Cert.Reference5Ideal.defs _ _).mono (fun _ h => ⟨fun c => (h c).2.2, Idealize.ShloMosaic.sem_eq_zero_of_no_sems (by decide) _⟩) (Cert.Reference5Ideal.Value.run (F := Ideal) m ρ)

/-- The output projection's two output arrays hold its reference's results, whatever the arguments. -/
theorem value_algebraic5 : @Cert.algebraic_Kernel5Ideal_Reference5Ideal Cert.Kernel5Ideal.Gen.facts Cert.Reference5Ideal.Gen.facts :=
  fun m g m' g' _ hargs => by
    refine ⟨fun c => Cert.Kernel5Ideal.Out.out5 m c, fun c => Cert.Kernel5Ideal.Out.out6 m c, Cert.Kernel5Ideal.Value.run_blocks m g,
      (θ_run Cert.Reference5Ideal.defs _ _).mono (fun _ h c => ⟨(h c).1.trans ?_, (h c).2.1.trans ?_, (h c).2.2⟩) (Cert.Reference5Ideal.Value.run (F := Ideal) m' g')⟩
    · refine (Cert.Reference5Ideal.Read.val_main_v15_eq _ _ _ _).trans ?_
      obtain ⟨h0, h1, h2, h3, h4⟩ := hargs c
      rw [h0, h1, h2, h3]
      funext i
      obtain ⟨s, k, rfl⟩ : ∃ (s : Fin 16384) (k : Fin 2048), i = ValueIdx.ix2 s k := ⟨i 0, i 1, ValueIdx.eq_ix2 i⟩
      exact (Cert.Reference5Ideal.Out.rows_at _ _ _ _ s k).trans (Cert.Kernel5Ideal.Out.out5_eq m c s k).symm
    · refine (Cert.Reference5Ideal.Read.val_main_v29_eq m' c).trans ?_
      obtain ⟨h0, h1, h2, h3, h4⟩ := hargs c
      rw [h0, h1, h2, h3, h4]
      funext i
      obtain ⟨s, k, rfl⟩ : ∃ (s : Fin 16384) (k : Fin 2048), i = ValueIdx.ix2 s k := ⟨i 0, i 1, ValueIdx.eq_ix2 i⟩
      exact (Cert.Reference5Ideal.Out.normed_at _ _ _ _ _ s k).trans (Cert.Kernel5Ideal.Out.out6_eq m c s k).symm

theorem frame_reference6 : @Cert.quiescent_Reference6Ideal Cert.Reference6Ideal.Gen.facts := fun m ρ _ =>
  (θ_run Cert.Reference6Ideal.defs _ _).mono (fun _ h => ⟨fun c => (h c).2.2.2.2, Idealize.ShloMosaic.sem_eq_zero_of_no_sems (by decide) _⟩) (Cert.Reference6Ideal.Value.run (F := Ideal) m ρ)

/-- The latents' projection's four output arrays hold its reference's results, whatever the arguments. -/
theorem value_algebraic6 : @Cert.algebraic_Kernel6Ideal_Reference6Ideal Cert.Kernel6Ideal.Gen.facts Cert.Reference6Ideal.Gen.facts :=
  fun m g m' g' _ hargs => by
    refine ⟨fun c => Cert.Kernel6Ideal.Latent.out6 m c, fun c => Cert.Kernel6Ideal.Latent.out7 m c, fun c => Cert.Kernel6Ideal.Latent.out8 m c, fun c => Cert.Kernel6Ideal.Latent.out9 m c, Cert.Kernel6Ideal.Value.run_blocks m g,
      (θ_run Cert.Reference6Ideal.defs _ _).mono (fun _ h c => ⟨(h c).1.trans ?_, (h c).2.1.trans ?_, (h c).2.2.1.trans ?_, (h c).2.2.2.1.trans ?_, (h c).2.2.2.2⟩) (Cert.Reference6Ideal.Value.run (F := Ideal) m' g')⟩
    · refine (Cert.Reference6Ideal.Read.val_main_v63_eq _ _ _).trans ?_
      obtain ⟨h0, h1, h2, h3⟩ := hargs c
      rw [h0, h1, h2]
      funext i
      obtain ⟨s, k, rfl⟩ : ∃ (s : Fin 16384) (k : Fin 512), i = ValueIdx.ix2 s k := ⟨i 0, i 1, ValueIdx.eq_ix2 i⟩
      exact (Cert.Reference6Ideal.Latent.rounded_at _ _ _ s k).trans (Cert.Kernel6Ideal.Latent.out6_eq m c s k).symm
    · refine (Cert.Reference6Ideal.Read.val_main_v30_eq _ _ _).trans ?_
      obtain ⟨h0, h1, h2, h3⟩ := hargs c
      rw [h0, h1, h3]
      funext i
      obtain ⟨s, k, rfl⟩ : ∃ (s : Fin 16384) (k : Fin 512), i = ValueIdx.ix2 s k := ⟨i 0, i 1, ValueIdx.eq_ix2 i⟩
      exact (Cert.Reference6Ideal.Latent.key_at _ _ _ s k).trans (Cert.Kernel6Ideal.Latent.out7_eq m c s k).symm
    · refine (Cert.Reference6Ideal.Read.val_main_v62_eq m' c).trans ?_
      obtain ⟨h0, h1, h2, h3⟩ := hargs c
      rw [h0, h1]
      funext i
      obtain ⟨s, k, rfl⟩ : ∃ (s : Fin 16384) (k : Fin 64), i = ValueIdx.ix2 s k := ⟨i 0, i 1, ValueIdx.eq_ix2 i⟩
      exact (Cert.Reference6Ideal.Latent.rotary_at _ _ s k).trans (Cert.Kernel6Ideal.Latent.out8_eq m c s k).symm
    · refine (Cert.Reference6Ideal.Read.val_main_v65_eq m' c).trans ?_
      obtain ⟨h0, h1, h2, h3⟩ := hargs c
      rw [h0, h1, h3]
      funext i
      obtain ⟨s, k, rfl⟩ : ∃ (s : Fin 16384) (k : Fin 576), i = ValueIdx.ix2 s k := ⟨i 0, i 1, ValueIdx.eq_ix2 i⟩
      by_cases hk : k.val < 512
      · exact (Cert.Reference6Ideal.Latent.joined_left _ _ _ s k ⟨k.val, hk⟩ rfl).trans (Cert.Kernel6Ideal.Latent.out9_left m c s ⟨k.val, hk⟩).symm
      · have e : k = ⟨512 + (⟨k.val - 512, by omega⟩ : Fin 64).val, by dsimp only; omega⟩ := Fin.ext (by dsimp only; omega)
        refine (Cert.Reference6Ideal.Latent.joined_right _ _ _ s k ⟨k.val - 512, by omega⟩ (by dsimp only; omega)).trans ((Cert.Kernel6Ideal.Latent.out9_right m c s ⟨k.val - 512, by omega⟩).symm.trans ?_)
        exact congrArg (fun k => Cert.Kernel6Ideal.Latent.out9 m c (ValueIdx.ix2 s k)) e.symm

theorem frame_reference7 : @Cert.quiescent_Reference7Ideal Cert.Reference7Ideal.Gen.facts := fun m ρ _ =>
  (θ_run Cert.Reference7Ideal.defs _ _).mono (fun _ h => ⟨fun c => (h c).2, Idealize.ShloMosaic.sem_eq_zero_of_no_sems (by decide) _⟩) (Cert.Reference7Ideal.Value.run (F := Ideal) m ρ)

/-- The rotated queries and keys hold their reference's result, whatever the arguments. -/
theorem value_algebraic7 : @Cert.algebraic_Kernel7Ideal_Reference7Ideal Cert.Kernel7Ideal.Gen.facts Cert.Reference7Ideal.Gen.facts :=
  fun m g m' g' _ hargs => by
    refine ⟨fun c => Cert.Kernel7Ideal.Rope.out4 m c, Cert.Kernel7Ideal.Value.run_blocks m g,
      (θ_run Cert.Reference7Ideal.defs _ _).mono (fun _ h c => ⟨(h c).1.trans ?_, (h c).2⟩) (Cert.Reference7Ideal.Value.run (F := Ideal) m' g')⟩
    refine (Cert.Reference7Ideal.Read.val_main_v54_eq m' c).trans ?_
    obtain ⟨h0, h1⟩ := hargs c
    rw [h0, h1]
    funext i
    obtain ⟨s, k, rfl⟩ : ∃ (s : Fin 16384) (k : Fin 4096), i = ValueIdx.ix2 s k := ⟨i 0, i 1, ValueIdx.eq_ix2 i⟩
    by_cases hk : k.val % 256 < 128
    · have e : k.val = 256 * (⟨k.val / 256, by omega⟩ : Fin 16).val + (⟨k.val % 256, hk⟩ : Fin 128).val := by dsimp only; omega
      exact (Cert.Reference7Ideal.Rope.first_at _ _ _ s _ k e).trans (Cert.Kernel7Ideal.Rope.out_first m c s _ _ k e).symm
    · have e : k.val = 256 * (⟨k.val / 256, by omega⟩ : Fin 16).val + (128 + (⟨k.val % 256 - 128, by omega⟩ : Fin 128).val) := by dsimp only; omega
      exact (Cert.Reference7Ideal.Rope.second_at _ _ _ s _ k e).trans (Cert.Kernel7Ideal.Rope.out_second m c s _ _ k e).symm

theorem frame_reference8 : @Cert.quiescent_Reference8Ideal Cert.Reference8Ideal.Gen.facts := fun m ρ _ =>
  (θ_run Cert.Reference8Ideal.defs _ _).mono (fun _ h => ⟨fun c => (h c).2, Idealize.ShloMosaic.sem_eq_zero_of_no_sems (by decide) _⟩) (Cert.Reference8Ideal.Value.run (F := Ideal) m ρ)

/-- The heads' rows at the values' width hold their reference's result, whatever the arguments. -/
theorem value_algebraic8 : @Cert.algebraic_Kernel8Ideal_Reference8Ideal Cert.Kernel8Ideal.Gen.facts Cert.Reference8Ideal.Gen.facts :=
  fun m g m' g' _ hargs => by
    refine ⟨fun c => Cert.Kernel8Ideal.Up.out2 m c, Cert.Kernel8Ideal.Value.run_blocks m g,
      (θ_run Cert.Reference8Ideal.defs _ _).mono (fun _ h c => ⟨(h c).1.trans ?_, (h c).2⟩) (Cert.Reference8Ideal.Value.run (F := Ideal) m' g')⟩
    refine (Cert.Reference8Ideal.Read.val_main_v4_eq _ _).trans ?_
    obtain ⟨h0, h1⟩ := hargs c
    rw [h0, h1]
    funext i
    obtain ⟨s, k, rfl⟩ : ∃ (s : Fin 16384) (k : Fin 2048), i = ValueIdx.ix2 s k := ⟨i 0, i 1, ValueIdx.eq_ix2 i⟩
    exact (Cert.Reference8Ideal.Up.up_at _ _ s k).trans (Cert.Kernel8Ideal.Up.out2_eq m c s k).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts,
  Cert.KernelIdeal.Attn.frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  IdealRules.named_const.statement Cert.KernelIdeal.κ "mask" .f32 0xF149F2CA#32 ⊥ rfl, value_algebraic, trivial, value_algebraic2, trivial, value_algebraic3, trivial, value_algebraic4, trivial, value_algebraic5, trivial, value_algebraic6, trivial, value_algebraic7, trivial, value_algebraic8⟩

end Cert.Proof

end
